-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_v49) = v6 c
          ∧ r.2.mem ((c.tc : Thread Cert.ReferenceIdeal.nD Cert.ReferenceIdeal.τ).loc Cert.ReferenceIdeal.main_v50) = v7 c
          ∧ r.2.mem ((c.tc : Thread Cert.ReferenceIdeal.nD Cert.ReferenceIdeal.τ).loc Cert.ReferenceIdeal.main_v51) = v8 c
          ∧ r.2.mem ((c.tc : Thread Cert.ReferenceIdeal.nD Cert.ReferenceIdeal.τ).loc Cert.ReferenceIdeal.main_v52) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.bf16_pair.BufferStatement Cert.Kernel4Ideal.S131072x2x128 Cert.Kernel4Ideal.S131072x1x128
  ∧ IdealRules.bf16_pair.BufferStatement Cert.Kernel4Ideal.S4096x2x128 Cert.Kernel4Ideal.S4096x1x128
  ∧ IdealRules.bf16_pair.Statement Cert.Kernel4Ideal.S256x2x128 Cert.Kernel4Ideal.S256x1x128
  ∧ IdealRules.bf16_pack.Statement Cert.Kernel4Ideal.S256x128

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.bf16_pair.BufferStatement Cert.Kernel5Ideal.S131072x2x128 Cert.Kernel5Ideal.S131072x1x128
  ∧ IdealRules.bf16_pair.BufferStatement Cert.Kernel5Ideal.S4096x2x128 Cert.Kernel5Ideal.S4096x1x128
  ∧ IdealRules.bf16_pair.Statement Cert.Kernel5Ideal.S256x2x128 Cert.Kernel5Ideal.S256x1x128
  ∧ IdealRules.bf16_pack.Statement Cert.Kernel5Ideal.S256x128

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)) (v2 : (c : Dev Cert.Kernel6Ideal.nD) → Buf (Elt Ideal) ((c.tc : Thread Cert.Kernel6Ideal.nD Cert.Kernel6Ideal.τ).loc Cert.Kernel6Ideal.main_v37_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_v37_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v107) = v0 c
          ∧ r.2.mem ((c.tc : Thread Cert.Reference6Ideal.nD Cert.Reference6Ideal.τ).loc Cert.Reference6Ideal.main_v109) = v1 c
          ∧ r.2.mem ((c.tc : Thread Cert.Reference6Ideal.nD Cert.Reference6Ideal.τ).loc Cert.Reference6Ideal.main_v110) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x2048 : Shape := ⟨2, ![16384, 2048]⟩
abbrev S1024x16384 : Shape := ⟨2, ![1024, 16384]⟩
abbrev S2x32x2048x512 : Shape := ⟨4, ![2, 32, 2048, 512]⟩
abbrev S2x32x512x2048 : Shape := ⟨4, ![2, 32, 512, 2048]⟩
abbrev S1x2048x2048 : Shape := ⟨3, ![1, 2048, 2048]⟩
abbrev S1x4096x2048 : Shape := ⟨3, ![1, 4096, 2048]⟩
abbrev S2x2048x2048 : Shape := ⟨3, ![2, 2048, 2048]⟩
abbrev S2x256x2048 : Shape := ⟨3, ![2, 256, 2048]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)

variable [Facts]

def fn {F : FTy → Type} [FloatOps F] (main_arg0 : FVec F S16384x2048 .bf16) (main_arg1 : FVec F S16384x2048 .bf16) (main_arg2 : FVec F S1024x16384 .bf16) (main_arg3 : FVec F S2x32x2048x512 .f32) (main_arg4 : FVec F S2x32x2048x512 .f32) (main_arg5 : FVec F S2x32x512x2048 .f32) (main_arg6 : FVec F S1x2048x2048 .f32) (main_arg7 : FVec F S1x4096x2048 .f32) (main_arg8 : FVec F S2x2048x2048 .f32) (main_arg9 : FVec F S2x256x2048 .f32) : IVec S16384x2048 1 × IVec S16384x2048 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  (main_v3, main_v7)
-- ==== Kernel.lean ====
abbrev S16384x2048 : Shape := ⟨2, ![16384, 2048]⟩
abbrev S1024x16384 : Shape := ⟨2, ![1024, 16384]⟩
abbrev S2x32x2048x512 : Shape := ⟨4, ![2, 32, 2048, 512]⟩
abbrev S2x32x512x2048 : Shape := ⟨4, ![2, 32, 512, 2048]⟩
abbrev S1x2048x2048 : Shape := ⟨3, ![1, 2048, 2048]⟩
abbrev S1x4096x2048 : Shape := ⟨3, ![1, 4096, 2048]⟩
abbrev S2x2048x2048 : Shape := ⟨3, ![2, 2048, 2048]⟩
abbrev S2x256x2048 : Shape := ⟨3, ![2, 256, 2048]⟩
abbrev S16384x1024 : Shape := ⟨2, ![16384, 1024]⟩
abbrev S32x2048x512 : Shape := ⟨3, ![32, 2048, 512]⟩
abbrev S32x512x2048 : Shape := ⟨3, ![32, 512, 2048]⟩
abbrev S2048x2048 : Shape := ⟨2, ![2048, 2048]⟩
abbrev S4096x2048 : Shape := ⟨2, ![4096, 2048]⟩
abbrev S256x2048 : Shape := ⟨2, ![256, 2048]⟩
abbrev S1024x256 : Shape := ⟨2, ![1024, 256]⟩
abbrev S4096x256 : Shape := ⟨2, ![4096, 256]⟩
abbrev S128x4096 : Shape := ⟨2, ![128, 4096]⟩
abbrev S1x1x512x512 : Shape := ⟨4, ![1, 1, 512, 512]⟩
abbrev S1x1x128x2048 : Shape := ⟨4, ![1, 1, 128, 2048]⟩
abbrev S1x16x2048 : Shape := ⟨3, ![1, 16, 2048]⟩
abbrev S1x32x2048 : Shape := ⟨3, ![1, 32, 2048]⟩
abbrev S1024x128 : Shape := ⟨2, ![1024, 128]⟩
abbrev S1x512x512 : Shape := ⟨3, ![1, 512, 512]⟩
abbrev S1x128x2048 : Shape := ⟨3, ![1, 128, 2048]⟩
abbrev S16x2048 : Shape := ⟨2, ![16, 2048]⟩
abbrev S32x2048 : Shape := ⟨2, ![32, 2048]⟩
abbrev S256x256 : Shape := ⟨2, ![256, 256]⟩
abbrev S1x256 : Shape := ⟨2, ![1, 256]⟩
abbrev S128x256 : Shape := ⟨2, ![128, 256]⟩
abbrev S256 : Shape := ⟨1, ![256]⟩
abbrev S128x1024 : Shape := ⟨2, ![128, 1024]⟩
abbrev S256x128 : Shape := ⟨2, ![256, 128]⟩

abbrev nBuf : Space → Nat
  | .hbm => 20
  | .vmem => 44
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1024x16384, .bf16⟩
  | .hbm, ⟨3, _⟩ => ⟨S2x32x2048x512, .f32⟩
  | .hbm, ⟨4, _⟩ => ⟨S2x32x2048x512, .f32⟩
  | .hbm, ⟨5, _⟩ => ⟨S2x32x512x2048, .f32⟩
  | .hbm, ⟨6, _⟩ => ⟨S1x2048x2048, .f32⟩
  | .hbm, ⟨7, _⟩ => ⟨S1x4096x2048, .f32⟩
  | .hbm, ⟨8, _⟩ => ⟨S2x2048x2048, .f32⟩
  | .hbm, ⟨9, _⟩ => ⟨S2x256x2048, .f32⟩
  | .hbm, ⟨10, _⟩ => ⟨S16384x1024, .bf16⟩
  | .hbm, ⟨11, _⟩ => ⟨S32x2048x512, .bf16⟩
  | .hbm, ⟨12, _⟩ => ⟨S32x2048x512, .bf16⟩
  | .hbm, ⟨13, _⟩ => ⟨S32x512x2048, .bf16⟩
  | .hbm, ⟨14, _⟩ => ⟨S2048x2048, .bf16⟩
  | .hbm, ⟨15, _⟩ => ⟨S4096x2048, .bf16⟩
  | .hbm, ⟨16, _⟩ => ⟨S2048x2048, .bf16⟩
  | .hbm, ⟨17, _⟩ => ⟨S256x2048, .bf16⟩
  | .hbm, ⟨18, _⟩ => ⟨S2048x2048, .bf16⟩
  | .hbm, ⟨19, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | .local _ .vmem, ⟨10, _⟩ => ⟨S1x1x128x2048, .f32⟩
  | .local _ .vmem, ⟨11, _⟩ => ⟨S1x1x128x2048, .f32⟩
  | .local _ .vmem, ⟨12, _⟩ => ⟨S1x16x2048, .f32⟩
  | .local _ .vmem, ⟨13, _⟩ => ⟨S1x16x2048, .f32⟩
  | .local _ .vmem, ⟨14, _⟩ => ⟨S1x32x2048, .f32⟩
  | .local _ .vmem, ⟨15, _⟩ => ⟨S1x32x2048, .f32⟩
  | .local _ .vmem, ⟨16, _⟩ => ⟨S1x16x2048, .f32⟩
  | .local _ .vmem, ⟨17, _⟩ => ⟨S1x16x2048, .f32⟩
  | .local _ .vmem, ⟨18, _⟩ => ⟨S1x16x2048, .f32⟩
  | .local _ .vmem, ⟨19, _⟩ => ⟨S1x16x2048, .f32⟩
  | .local _ .vmem, ⟨20, _⟩ => ⟨S1x16x2048, .f32⟩
  | .local _ .vmem, ⟨21, _⟩ => ⟨S1x16x2048, .f32⟩
  | .local _ .vmem, ⟨22, _⟩ => ⟨S1x16x2048, .f32⟩
  | .local _ .vmem, ⟨23, _⟩ => ⟨S1x16x2048, .f32⟩
  | .local _ .vmem, ⟨24, _⟩ => ⟨S1024x128, .bf16⟩
  | .local _ .vmem, ⟨25, _⟩ => ⟨S1024x128, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x128x2048, .bf16⟩
  | .local _ .vmem, ⟨31, _⟩ => ⟨S1x128x2048, .bf16⟩
  | .local _ .vmem, ⟨32, _⟩ => ⟨S16x2048, .bf16⟩
  | .local _ .vmem, ⟨33, _⟩ => ⟨S16x2048, .bf16⟩
  | .local _ .vmem, ⟨34, _⟩ => ⟨S32x2048, .bf16⟩
  | .local _ .vmem, ⟨35, _⟩ => ⟨S32x2048, .bf16⟩
  | .local _ .vmem, ⟨36, _⟩ => ⟨S16x2048, .bf16⟩
  | .local _ .vmem, ⟨37, _⟩ => ⟨S16x2048, .bf16⟩
  | .local _ .vmem, ⟨38, _⟩ => ⟨S16x2048, .bf16⟩
  | .local _ .vmem, ⟨39, _⟩ => ⟨S16x2048, .bf16⟩
  | .local _ .vmem, ⟨40, _⟩ => ⟨S16x2048, .bf16⟩
  | .local _ .vmem, ⟨41, _⟩ => ⟨S16x2048, .bf16⟩
  | .local _ .vmem, ⟨42, _⟩ => ⟨S16x2048, .bf16⟩
  | .local _ .vmem, ⟨43, _⟩ => ⟨S16x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c4_i32_0 : BitVec 32 := 4#32
  let v5 : BitVec 32 := Scalar.divsi v4 c4_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  ![c0_i32_11.toNat, v21.toNat, v31.toNat, c0_i32_12.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c4_i32_0 : BitVec 32 := 4#32
  let v5 : BitVec 32 := Scalar.divsi v4 c4_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  ![c0_i32_11.toNat, v21.toNat, v31.toNat, c0_i32_12.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c4_i32_0 : BitVec 32 := 4#32
  let v5 : BitVec 32 := Scalar.divsi v4 c4_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  let c0_i32_13 : BitVec 32 := 0#32
  ![c0_i32_11.toNat, v21.toNat, v31.toNat, c0_i32_12.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  let c0_i32_1 : BitVec 32 := 0#32
  ![c0_i32.toNat, v4.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  let c0_i32_1 : BitVec 32 := 0#32
  ![c0_i32.toNat, v4.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  let c0_i32_1 : BitVec 32 := 0#32
  ![c0_i32.toNat, v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c15_i32 : BitVec 32 := 15#32
  let v4 : BitVec 32 := Scalar.minsi v3 c15_i32
  let c0_i32 : BitVec 32 := 0#32
  let c0_i32_0 : BitVec 32 := 0#32
  let c0_i32_1 : BitVec 32 := 0#32
  ![c0_i32.toNat, v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c1_i32 : BitVec 32 := 1#32
  let c0_i32 : BitVec 32 := 0#32
  let c0_i32_0 : BitVec 32 := 0#32
  ![c1_i32.toNat, v4.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c15_i32 : BitVec 32 := 15#32
  let v4 : BitVec 32 := Scalar.minsi v3 c15_i32
  let c1_i32 : BitVec 32 := 1#32
  let c0_i32 : BitVec 32 := 0#32
  let c0_i32_0 : BitVec 32 := 0#32
  ![c1_i32.toNat, v4.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c4_i32_0 : BitVec 32 := 4#32
  let v5 : BitVec 32 := Scalar.divsi v4 c4_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  ![v21.toNat, v31.toNat, c0_i32_11.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c4_i32_0 : BitVec 32 := 4#32
  let v5 : BitVec 32 := Scalar.divsi v4 c4_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  ![v21.toNat, v31.toNat, c0_i32_11.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c4_i32_0 : BitVec 32 := 4#32
  let v5 : BitVec 32 := Scalar.divsi v4 c4_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c4_i32_0 c0_i32_2
  let v12 : BitVec 32 := Scalar.extui v11
  let c0_i32_3 : BitVec 32 := 0#32
  let v13 : BitVec 1 := Scalar.cmpi .slt c4_i32_0 c0_i32_3
  let v14 : BitVec 32 := Scalar.extui v13
  let v15 : BitVec 32 := Scalar.subi v12 v14
  let v16 : BitVec 1 := Scalar.cmpi .ne v10 v15
  let v17 : BitVec 32 := Scalar.remsi v4 c4_i32_0
  let c0_i32_4 : BitVec 32 := 0#32
  let v18 : BitVec 1 := Scalar.cmpi .ne v17 c0_i32_4
  let v19 : BitVec 1 := Scalar.andi v16 v18
  let c1_i32 : BitVec 32 := 1#32
  let v20 : BitVec 32 := Scalar.subi v5 c1_i32
  let v21 : BitVec 32 := Scalar.select v19 v20 v5
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  let c0_i32_12 : BitVec 32 := 0#32
  ![v21.toNat, v31.toNat, c0_i32_11.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c15_i32 : BitVec 32 := 15#32
  let v4 : BitVec 32 := Scalar.minsi v3 c15_i32
  let c0_i32 : BitVec 32 := 0#32
  let c0_i32_0 : BitVec 32 := 0#32
  ![v4.toNat, c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let v3 : BitVec 32 := Scalar.addi v2 arg2
  let c15_i32 : BitVec 32 := 15#32
  let v4 : BitVec 32 := Scalar.minsi v3 c15_i32
  let c0_i32 : BitVec 32 := 0#32
  let c0_i32_0 : BitVec 32 := 0#32
  ![v4.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x16x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x16x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x16x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S16x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S16x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S16x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S16x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S16x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S1024x16384 : Shape := ⟨2, ![1024, 16384]⟩
abbrev S2x32x2048x512 : Shape := ⟨4, ![2, 32, 2048, 512]⟩
abbrev S2x32x512x2048 : Shape := ⟨4, ![2, 32, 512, 2048]⟩
abbrev S1x2048x2048 : Shape := ⟨3, ![1, 2048, 2048]⟩
abbrev S1x4096x2048 : Shape := ⟨3, ![1, 4096, 2048]⟩
abbrev S2x2048x2048 : Shape := ⟨3, ![2, 2048, 2048]⟩
abbrev S2x256x2048 : Shape := ⟨3, ![2, 256, 2048]⟩
abbrev S4x4096x8x256 : Shape := ⟨4, ![4, 4096, 8, 256]⟩
abbrev S16384x1024 : Shape := ⟨2, ![16384, 1024]⟩
abbrev S4x4096x8x128 : Shape := ⟨4, ![4, 4096, 8, 128]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S1x32x2048x512 : Shape := ⟨4, ![1, 32, 2048, 512]⟩
abbrev S32x2048x512 : Shape := ⟨3, ![32, 2048, 512]⟩
abbrev S1x32x512x2048 : Shape := ⟨4, ![1, 32, 512, 2048]⟩
abbrev S32x512x2048 : Shape := ⟨3, ![32, 512, 2048]⟩
abbrev S2048x2048 : Shape := ⟨2, ![2048, 2048]⟩
abbrev S4096x2048 : Shape := ⟨2, ![4096, 2048]⟩
abbrev S1x256x2048 : Shape := ⟨3, ![1, 256, 2048]⟩
abbrev S256x2048 : Shape := ⟨2, ![256, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1024x16384, .bf16⟩
  | .hbm, ⟨3, _⟩ => ⟨S2x32x2048x512, .f32⟩
  | .hbm, ⟨4, _⟩ => ⟨S2x32x2048x512, .f32⟩
  | .hbm, ⟨5, _⟩ => ⟨S2x32x512x2048, .f32⟩
  | .hbm, ⟨6, _⟩ => ⟨S1x2048x2048, .f32⟩
  | .hbm, ⟨7, _⟩ => ⟨S1x4096x2048, .f32⟩
  | .hbm, ⟨8, _⟩ => ⟨S2x2048x2048, .f32⟩
  | .hbm, ⟨9, _⟩ => ⟨S2x256x2048, .f32⟩
  | .hbm, ⟨10, _⟩ => ⟨S16384x2048, .f32⟩
  | .hbm, ⟨11, _⟩ => ⟨S4x4096x8x256, .f32⟩
  | .hbm, ⟨12, _⟩ => ⟨S16384x2048, .f32⟩
  | .hbm, ⟨13, _⟩ => ⟨S4x4096x8x256, .f32⟩
  | .hbm, ⟨14, _⟩ => ⟨S1024x16384, .f32⟩
  | .hbm, ⟨15, _⟩ => ⟨S16384x1024, .f32⟩
  | .hbm, ⟨16, _⟩ => ⟨S4x4096x8x128, .f32⟩
  | .hbm, ⟨17, _⟩ => ⟨S4x8x4096x4096, .f32⟩
  | .hbm, ⟨18, _⟩ => ⟨S_, .f32⟩
  | .hbm, ⟨19, _⟩ => ⟨S_, .f32⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096, .f32⟩
  | .hbm, ⟨24, _⟩ => ⟨S_, .f32⟩
  | .hbm, ⟨25, _⟩ => ⟨S4x8x4096, .f32⟩
  | .hbm, ⟨26, _⟩ => ⟨S4x8x4096, .f32⟩
  | .hbm, ⟨27, _⟩ => ⟨S4x8x4096x1, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S4x8x4096, .f32⟩
  | .hbm, ⟨33, _⟩ => ⟨S4x8x4096x1, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .bf16⟩
  | .hbm, ⟨37, _⟩ => ⟨S4x8x4096x4096, .f32⟩
  | .hbm, ⟨38, _⟩ => ⟨S4x8x128x4096, .f32⟩
  | .hbm, ⟨39, _⟩ => ⟨S4x4096x8x128, .f32⟩
  | .hbm, ⟨40, _⟩ => ⟨S4x4096x8x128, .bf16⟩
  | .hbm, ⟨41, _⟩ => ⟨S16384x1024, .bf16⟩
  | .hbm, ⟨42, _⟩ => ⟨S1x32x2048x512, .f32⟩
  | .hbm, ⟨43, _⟩ => ⟨S32x2048x512, .f32⟩
  | .hbm, ⟨44, _⟩ => ⟨S1x32x2048x512, .f32⟩
  | .hbm, ⟨45, _⟩ => ⟨S32x2048x512, .f32⟩
  | .hbm, ⟨46, _⟩ => ⟨S1x32x512x2048, .f32⟩
  | .hbm, ⟨47, _⟩ => ⟨S32x512x2048, .f32⟩
  | .hbm, ⟨48, _⟩ => ⟨S2048x2048, .f32⟩
  | .hbm, ⟨49, _⟩ => ⟨S4096x2048, .f32⟩
  | .hbm, ⟨50, _⟩ => ⟨S1x2048x2048, .f32⟩
  | .hbm, ⟨51, _⟩ => ⟨S2048x2048, .f32⟩
  | .hbm, ⟨52, _⟩ => ⟨S1x256x2048, .f32⟩
  | .hbm, ⟨53, _⟩ => ⟨S256x2048, .f32⟩
  | .hbm, ⟨54, _⟩ => ⟨S1x2048x2048, .f32⟩
  | .hbm, ⟨55, _⟩ => ⟨S2048x2048, .f32⟩
  | .hbm, ⟨56, _⟩ => ⟨S1x256x2048, .f32⟩
  | .hbm, ⟨57, _⟩ => ⟨S256x2048, .f32⟩
  | .hbm, ⟨58, _⟩ => ⟨S32x2048x512, .bf16⟩
  | .hbm, ⟨59, _⟩ => ⟨S32x2048x512, .bf16⟩
  | .hbm, ⟨60, _⟩ => ⟨S32x512x2048, .bf16⟩
  | .hbm, ⟨61, _⟩ => ⟨S2048x2048, .bf16⟩
  | .hbm, ⟨62, _⟩ => ⟨S4096x2048, .bf16⟩
  | .hbm, ⟨63, _⟩ => ⟨S2048x2048, .bf16⟩
  | .hbm, ⟨64, _⟩ => ⟨S256x2048, .bf16⟩
  | .hbm, ⟨65, _⟩ => ⟨S2048x2048, .bf16⟩
  | .hbm, ⟨66, _⟩ => ⟨S256x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel2.lean ====
abbrev S16384x2048 : Shape := ⟨2, ![16384, 2048]⟩
abbrev S2048x12288 : Shape := ⟨2, ![2048, 12288]⟩
abbrev S2x32x2048x512 : Shape := ⟨4, ![2, 32, 2048, 512]⟩
abbrev S2x32x512x2048 : Shape := ⟨4, ![2, 32, 512, 2048]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S16384x12288 : Shape := ⟨2, ![16384, 12288]⟩
abbrev S32x2048x512 : Shape := ⟨3, ![32, 2048, 512]⟩
abbrev S32x512x2048 : Shape := ⟨3, ![32, 512, 2048]⟩
abbrev S1024x2048 : Shape := ⟨2, ![1024, 2048]⟩
abbrev S2048x1024 : Shape := ⟨2, ![2048, 1024]⟩
abbrev S1024x128 : Shape := ⟨2, ![1024, 128]⟩
abbrev S1x1x512x512 : Shape := ⟨4, ![1, 1, 512, 512]⟩
abbrev S1x1x128x2048 : Shape := ⟨4, ![1, 1, 128, 2048]⟩
abbrev S1024x1024 : Shape := ⟨2, ![1024, 1024]⟩
abbrev S1x512x512 : Shape := ⟨3, ![1, 512, 512]⟩
abbrev S1x128x2048 : Shape := ⟨3, ![1, 128, 2048]⟩

abbrev nBuf : Space → Nat
  | .hbm => 28
  | .vmem => 22
  | .smem => 0
  | _ => 0

abbrev bufTy : (tb : Table) → Fin (tcTables nBuf tb) → BufTy
  | .hbm, ⟨0, _⟩ => ⟨S16384x2048, .bf16⟩
  | .hbm, ⟨1, _⟩ => ⟨S2048x12288, .bf16⟩
  | .hbm, ⟨2, _⟩ => ⟨S2x32x2048x512, .f32⟩
  | .hbm, ⟨3, _⟩ => ⟨S2x32x2048x512, .f32⟩
  | .hbm, ⟨4, _⟩ => ⟨S2x32x512x2048, .f32⟩
  | .hbm, ⟨5, _⟩ => ⟨S4096, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S4096x1, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S16384x12288, .bf16⟩
  | .hbm, ⟨25, _⟩ => ⟨S32x2048x512, .bf16⟩
  | .hbm, ⟨26, _⟩ => ⟨S32x2048x512, .bf16⟩
  | .hbm, ⟨27, _⟩ => ⟨S32x512x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | .local _ .vmem, ⟨12, _⟩ => ⟨S1x1x128x2048, .f32⟩
  | .local _ .vmem, ⟨13, _⟩ => ⟨S1x1x128x2048, .f32⟩
  | .local _ .vmem, ⟨14, _⟩ => ⟨S1024x1024, .bf16⟩
  | .local _ .vmem, ⟨15, _⟩ => ⟨S1024x1024, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x128x2048, .bf16⟩
  | .local _ .vmem, ⟨21, _⟩ => ⟨S1x128x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c4_i32 : BitVec 32 := 4#32
  let v15 : BitVec 1 := Scalar.cmpi .sge arg1 c4_i32
  let c8_i32 : BitVec 32 := 8#32
  let v16 : BitVec 1 := Scalar.cmpi .slt arg1 c8_i32
  let v17 : BitVec 1 := Scalar.andi v15 v16
  let v18 : BitVec 32 := Scalar.extui v17
  let c0_i32 : BitVec 32 := 0#32
  let v19 : BitVec 1 := Scalar.cmpi .ne v18 c0_i32
  v19

def k0_cond2 (i : grid0.Coords) : BitVec 1 :=
  let arg1 : BitVec 32 := BitVec.ofNat 32 (i 1).val
  let c8_i32_24 : BitVec 32 := 8#32
  let v20 : BitVec 1 := Scalar.cmpi .sge arg1 c8_i32_24
  let v21 : BitVec 32 := Scalar.extui v20
  let c0_i32_25 : BitVec 32 := 0#32
  let v22 : BitVec 1 := Scalar.cmpi .ne v21 c0_i32_25
  v22

def k0_cond3 (i : grid0.Coords) : BitVec 1 :=
  let arg1 : BitVec 32 := BitVec.ofNat 32 (i 1).val
  let c4_i32_26 : BitVec 32 := 4#32
  let v23 : BitVec 1 := Scalar.cmpi .slt arg1 c4_i32_26
  let v24 : BitVec 32 := Scalar.extui v23
  let c0_i32_27 : BitVec 32 := 0#32
  let v25 : BitVec 1 := Scalar.cmpi .ne v24 c0_i32_27
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c127_i32 : BitVec 32 := 127#32
  let v3 : BitVec 32 := Scalar.minsi v2 c127_i32
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let c0_i32_11 : BitVec 32 := 0#32
  let c0_i32_12 : BitVec 32 := 0#32
  ![c1_i32_10.toNat, v20.toNat, v30.toNat, c0_i32_11.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c127_i32 : BitVec 32 := 127#32
  let v3 : BitVec 32 := Scalar.minsi v2 c127_i32
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let c0_i32_11 : BitVec 32 := 0#32
  let c0_i32_12 : BitVec 32 := 0#32
  ![c1_i32_10.toNat, v20.toNat, v30.toNat, c0_i32_11.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c127_i32 : BitVec 32 := 127#32
  let v3 : BitVec 32 := Scalar.minsi v2 c127_i32
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c1_i32_10 : BitVec 32 := 1#32
  let c0_i32_11 : BitVec 32 := 0#32
  let c0_i32_12 : BitVec 32 := 0#32
  ![c1_i32_10.toNat, v20.toNat, v30.toNat, c0_i32_11.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c127_i32 : BitVec 32 := 127#32
  let v3 : BitVec 32 := Scalar.minsi v2 c127_i32
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c127_i32 : BitVec 32 := 127#32
  let v3 : BitVec 32 := Scalar.minsi v2 c127_i32
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c127_i32 : BitVec 32 := 127#32
  let v3 : BitVec 32 := Scalar.minsi v2 c127_i32
  let c4_i32 : BitVec 32 := 4#32
  let v4 : BitVec 32 := Scalar.divsi v3 c4_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c4_i32 c0_i32_1
  let v11 : BitVec 32 := Scalar.extui v10
  let c0_i32_2 : BitVec 32 := 0#32
  let v12 : BitVec 1 := Scalar.cmpi .slt c4_i32 c0_i32_2
  let v13 : BitVec 32 := Scalar.extui v12
  let v14 : BitVec 32 := Scalar.subi v11 v13
  let v15 : BitVec 1 := Scalar.cmpi .ne v9 v14
  let v16 : BitVec 32 := Scalar.remsi v3 c4_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let c4_i32_4 : BitVec 32 := 4#32
  let c0_i32_5 : BitVec 32 := 0#32
  let v21 : BitVec 1 := Scalar.cmpi .eq c4_i32_4 c0_i32_5
  let c1_i32_6 : BitVec 32 := 1#32
  let v22 : BitVec 32 := Scalar.select v21 c1_i32_6 c4_i32_4
  let v23 : BitVec 32 := Scalar.remsi v3 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v20.toNat, v30.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16384x2048 : Shape := ⟨2, ![16384, 2048]⟩
abbrev S2048x12288 : Shape := ⟨2, ![2048, 12288]⟩
abbrev S2x32x2048x512 : Shape := ⟨4, ![2, 32, 2048, 512]⟩
abbrev S2x32x512x2048 : Shape := ⟨4, ![2, 32, 512, 2048]⟩
abbrev S16384x12288 : Shape := ⟨2, ![16384, 12288]⟩
abbrev S4x4096x12288 : Shape := ⟨3, ![4, 4096, 12288]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S4x4096x2048 : Shape := ⟨3, ![4, 4096, 2048]⟩
abbrev S4x4096x8x256 : Shape := ⟨4, ![4, 4096, 8, 256]⟩
abbrev S4x4096x8x128 : Shape := ⟨4, ![4, 4096, 8, 128]⟩
abbrev S1x4096x1x128 : Shape := ⟨4, ![1, 4096, 1, 128]⟩
abbrev S4x4096x4096 : Shape := ⟨3, ![4, 4096, 4096]⟩
abbrev S1x32x2048x512 : Shape := ⟨4, ![1, 32, 2048, 512]⟩
abbrev S32x2048x512 : Shape := ⟨3, ![32, 2048, 512]⟩
abbrev S1x32x512x2048 : Shape := ⟨4, ![1, 32, 512, 2048]⟩
abbrev S32x512x2048 : Shape := ⟨3, ![32, 512, 2048]⟩

abbrev nBuf : Space → Nat
  | .hbm => 96
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x12288, .bf16⟩
  | .hbm, ⟨2, _⟩ => ⟨S2x32x2048x512, .f32⟩
  | .hbm, ⟨3, _⟩ => ⟨S2x32x2048x512, .f32⟩
  | .hbm, ⟨4, _⟩ => ⟨S2x32x512x2048, .f32⟩
  | .hbm, ⟨5, _⟩ => ⟨S16384x2048, .f32⟩
  | .hbm, ⟨6, _⟩ => ⟨S2048x12288, .f32⟩
  | .hbm, ⟨7, _⟩ => ⟨S16384x12288, .f32⟩
  | .hbm, ⟨8, _⟩ => ⟨S4x4096x12288, .f32⟩
  | .hbm, ⟨9, _⟩ => ⟨S4096, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S4096x1, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x1x128, .f32⟩
  | .hbm, ⟨28, _⟩ => ⟨S4096x128, .f32⟩
  | .hbm, ⟨29, _⟩ => ⟨S4096x1x128, .f32⟩
  | .hbm, ⟨30, _⟩ => ⟨S4x4096x2048, .f32⟩
  | .hbm, ⟨31, _⟩ => ⟨S4x4096x8x256, .f32⟩
  | .hbm, ⟨32, _⟩ => ⟨S4x4096x8x128, .f32⟩
  | .hbm, ⟨33, _⟩ => ⟨S4x4096x8x128, .f32⟩
  | .hbm, ⟨34, _⟩ => ⟨S1x4096x1x128, .f32⟩
  | .hbm, ⟨35, _⟩ => ⟨S4x4096x8x128, .f32⟩
  | .hbm, ⟨36, _⟩ => ⟨S4x4096x8x128, .f32⟩
  | .hbm, ⟨37, _⟩ => ⟨S1x4096x1x128, .f32⟩
  | .hbm, ⟨38, _⟩ => ⟨S4x4096x8x128, .f32⟩
  | .hbm, ⟨39, _⟩ => ⟨S4x4096x8x128, .f32⟩
  | .hbm, ⟨40, _⟩ => ⟨S4x4096x8x128, .f32⟩
  | .hbm, ⟨41, _⟩ => ⟨S1x4096x1x128, .f32⟩
  | .hbm, ⟨42, _⟩ => ⟨S4x4096x8x128, .f32⟩
  | .hbm, ⟨43, _⟩ => ⟨S4x4096x8x128, .f32⟩
  | .hbm, ⟨44, _⟩ => ⟨S1x4096x1x128, .f32⟩
  | .hbm, ⟨45, _⟩ => ⟨S4x4096x8x128, .f32⟩
  | .hbm, ⟨46, _⟩ => ⟨S4x4096x8x128, .f32⟩
  | .hbm, ⟨47, _⟩ => ⟨S4x4096x8x128, .f32⟩
  | .hbm, ⟨48, _⟩ => ⟨S4x4096x8x256, .f32⟩
  | .hbm, ⟨49, _⟩ => ⟨S_, .f32⟩
  | .hbm, ⟨50, _⟩ => ⟨S4x4096x8x256, .f32⟩
  | .hbm, ⟨51, _⟩ => ⟨S4x4096x8x256, .f32⟩
  | .hbm, ⟨52, _⟩ => ⟨S4x4096x2048, .f32⟩
  | .hbm, ⟨53, _⟩ => ⟨S4x4096x2048, .f32⟩
  | .hbm, ⟨54, _⟩ => ⟨S4x4096x8x256, .f32⟩
  | .hbm, ⟨55, _⟩ => ⟨S4x4096x8x128, .f32⟩
  | .hbm, ⟨56, _⟩ => ⟨S4x4096x8x128, .f32⟩
  | .hbm, ⟨57, _⟩ => ⟨S1x4096x1x128, .f32⟩
  | .hbm, ⟨58, _⟩ => ⟨S4x4096x8x128, .f32⟩
  | .hbm, ⟨59, _⟩ => ⟨S4x4096x8x128, .f32⟩
  | .hbm, ⟨60, _⟩ => ⟨S1x4096x1x128, .f32⟩
  | .hbm, ⟨61, _⟩ => ⟨S4x4096x8x128, .f32⟩
  | .hbm, ⟨62, _⟩ => ⟨S4x4096x8x128, .f32⟩
  | .hbm, ⟨63, _⟩ => ⟨S4x4096x8x128, .f32⟩
  | .hbm, ⟨64, _⟩ => ⟨S1x4096x1x128, .f32⟩
  | .hbm, ⟨65, _⟩ => ⟨S4x4096x8x128, .f32⟩
  | .hbm, ⟨66, _⟩ => ⟨S4x4096x8x128, .f32⟩
  | .hbm, ⟨67, _⟩ => ⟨S1x4096x1x128, .f32⟩
  | .hbm, ⟨68, _⟩ => ⟨S4x4096x8x128, .f32⟩
  | .hbm, ⟨69, _⟩ => ⟨S4x4096x8x128, .f32⟩
  | .hbm, ⟨70, _⟩ => ⟨S4x4096x8x128, .f32⟩
  | .hbm, ⟨71, _⟩ => ⟨S4x4096x8x256, .f32⟩
  | .hbm, ⟨72, _⟩ => ⟨S4x4096x2048, .f32⟩
  | .hbm, ⟨73, _⟩ => ⟨S4x4096x4096, .f32⟩
  | .hbm, ⟨74, _⟩ => ⟨S4x4096x4096, .f32⟩
  | .hbm, ⟨75, _⟩ => ⟨S4x4096x4096, .f32⟩
  | .hbm, ⟨76, _⟩ => ⟨S4x4096x4096, .f32⟩
  | .hbm, ⟨77, _⟩ => ⟨S_, .f32⟩
  | .hbm, ⟨78, _⟩ => ⟨S4x4096x4096, .f32⟩
  | .hbm, ⟨79, _⟩ => ⟨S4x4096x4096, .f32⟩
  | .hbm, ⟨80, _⟩ => ⟨S_, .f32⟩
  | .hbm, ⟨81, _⟩ => ⟨S4x4096x4096, .f32⟩
  | .hbm, ⟨82, _⟩ => ⟨S4x4096x4096, .f32⟩
  | .hbm, ⟨83, _⟩ => ⟨S4x4096x4096, .f32⟩
  | .hbm, ⟨84, _⟩ => ⟨S4x4096x12288, .f32⟩
  | .hbm, ⟨85, _⟩ => ⟨S4x4096x12288, .bf16⟩
  | .hbm, ⟨86, _⟩ => ⟨S16384x12288, .bf16⟩
  | .hbm, ⟨87, _⟩ => ⟨S1x32x2048x512, .f32⟩
  | .hbm, ⟨88, _⟩ => ⟨S32x2048x512, .f32⟩
  | .hbm, ⟨89, _⟩ => ⟨S32x2048x512, .bf16⟩
  | .hbm, ⟨90, _⟩ => ⟨S1x32x2048x512, .f32⟩
  | .hbm, ⟨91, _⟩ => ⟨S32x2048x512, .f32⟩
  | .hbm, ⟨92, _⟩ => ⟨S32x2048x512, .bf16⟩
  | .hbm, ⟨93, _⟩ => ⟨S1x32x512x2048, .f32⟩
  | .hbm, ⟨94, _⟩ => ⟨S32x512x2048, .f32⟩
  | .hbm, ⟨95, _⟩ => ⟨S32x512x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]
-- ==== Kernel3.lean ====
abbrev S16384x2048 : Shape := ⟨2, ![16384, 2048]⟩
abbrev S2048x3904 : Shape := ⟨2, ![2048, 3904]⟩
abbrev S1x2048x12288 : Shape := ⟨3, ![1, 2048, 12288]⟩
abbrev S2048x64 : Shape := ⟨2, ![2048, 64]⟩
abbrev S2048x32 : Shape := ⟨2, ![2048, 32]⟩
abbrev S_ : Shape := ⟨0, ![]⟩
abbrev S2048x128 : Shape := ⟨2, ![2048, 128]⟩
abbrev S2048x4096 : Shape := ⟨2, ![2048, 4096]⟩
abbrev S16384x4096 : Shape := ⟨2, ![16384, 4096]⟩
abbrev S2048x12288 : Shape := ⟨2, ![2048, 12288]⟩
abbrev S1024x2048 : Shape := ⟨2, ![1024, 2048]⟩
abbrev S2048x1024 : Shape := ⟨2, ![2048, 1024]⟩
abbrev S1x32x12288 : Shape := ⟨3, ![1, 32, 12288]⟩
abbrev S1024x1024 : Shape := ⟨2, ![1024, 1024]⟩
abbrev S32x12288 : Shape := ⟨2, ![32, 12288]⟩

abbrev nBuf : Space → Nat
  | .hbm => 13
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048x3904, .f32⟩
  | .hbm, ⟨2, _⟩ => ⟨S1x2048x12288, .f32⟩
  | .hbm, ⟨3, _⟩ => ⟨S2048x64, .f32⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S_, .f32⟩
  | .hbm, ⟨8, _⟩ => ⟨S2048x128, .f32⟩
  | .hbm, ⟨9, _⟩ => ⟨S2048x4096, .f32⟩
  | .hbm, ⟨10, _⟩ => ⟨S2048x4096, .bf16⟩
  | .hbm, ⟨11, _⟩ => ⟨S16384x4096, .bf16⟩
  | .hbm, ⟨12, _⟩ => ⟨S2048x12288, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x32x12288, .f32⟩
  | .local _ .vmem, ⟨5, _⟩ => ⟨S1x32x12288, .f32⟩
  | .local _ .vmem, ⟨6, _⟩ => ⟨S1024x1024, .bf16⟩
  | .local _ .vmem, ⟨7, _⟩ => ⟨S1024x1024, .bf16⟩
  | .local _ .vmem, ⟨8, _⟩ => ⟨S32x12288, .bf16⟩
  | .local _ .vmem, ⟨9, _⟩ => ⟨S32x12288, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x12288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x2048 : Shape := ⟨2, ![16384, 2048]⟩
abbrev S2048x3904 : Shape := ⟨2, ![2048, 3904]⟩
abbrev S1x2048x12288 : Shape := ⟨3, ![1, 2048, 12288]⟩
abbrev S16384x3904 : Shape := ⟨2, ![16384, 3904]⟩
abbrev S16384x32 : Shape := ⟨2, ![16384, 32]⟩
abbrev S_ : Shape := ⟨0, ![]⟩
abbrev S16384x128 : Shape := ⟨2, ![16384, 128]⟩
abbrev S16384x4096 : Shape := ⟨2, ![16384, 4096]⟩
abbrev S2048x12288 : Shape := ⟨2, ![2048, 12288]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x3904, .f32⟩
  | .hbm, ⟨2, _⟩ => ⟨S1x2048x12288, .f32⟩
  | .hbm, ⟨3, _⟩ => ⟨S16384x3904, .f32⟩
  | .hbm, ⟨4, _⟩ => ⟨S16384x32, .f32⟩
  | .hbm, ⟨5, _⟩ => ⟨S16384x32, .f32⟩
  | .hbm, ⟨6, _⟩ => ⟨S_, .f32⟩
  | .hbm, ⟨7, _⟩ => ⟨S16384x128, .f32⟩
  | .hbm, ⟨8, _⟩ => ⟨S16384x4096, .f32⟩
  | .hbm, ⟨9, _⟩ => ⟨S16384x4096, .bf16⟩
  | .hbm, ⟨10, _⟩ => ⟨S2048x12288, .f32⟩
  | .hbm, ⟨11, _⟩ => ⟨S2048x12288, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S131072x128 : Shape := ⟨2, ![131072, 128]⟩
abbrev S512x4096 : Shape := ⟨2, ![512, 4096]⟩
abbrev S512x2048 : Shape := ⟨2, ![512, 2048]⟩
abbrev S4096x128 : Shape := ⟨2, ![4096, 128]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S2048x128 : Shape := ⟨2, ![2048, 128]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .hbm, ⟨9, _⟩ => ⟨S131072x128, .i32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S4096x128, .i32⟩
  | .local _ .vmem, ⟨12, _⟩ => ⟨S4096x128, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [BitOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel4Ideal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S1x2048 : Shape := ⟨2, ![1, 2048]⟩
abbrev S131072x2x128 : Shape := ⟨3, ![131072, 2, 128]⟩
abbrev S131072x1x128 : Shape := ⟨3, ![131072, 1, 128]⟩
abbrev S131072x128 : Shape := ⟨2, ![131072, 128]⟩
abbrev S512x4096 : Shape := ⟨2, ![512, 4096]⟩
abbrev S512x2048 : Shape := ⟨2, ![512, 2048]⟩
abbrev S4096x128 : Shape := ⟨2, ![4096, 128]⟩
abbrev S4096x2x128 : Shape := ⟨3, ![4096, 2, 128]⟩
abbrev S4096x1x128 : Shape := ⟨3, ![4096, 1, 128]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S2048x2x128 : Shape := ⟨3, ![2048, 2, 128]⟩
abbrev S256x2x128 : Shape := ⟨3, ![256, 2, 128]⟩
abbrev S256x1x128 : Shape := ⟨3, ![256, 1, 128]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .bf16⟩
  | .hbm, ⟨9, _⟩ => ⟨S131072x2x128, .bf16⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S4096x2x128, .bf16⟩
  | .local _ .vmem, ⟨12, _⟩ => ⟨S4096x2x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, 0, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x2x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S16384x4096 : Shape := ⟨2, ![16384, 4096]⟩
abbrev S4096x2048 : Shape := ⟨2, ![4096, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .bf16⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x4096, .f32⟩
  | .hbm, ⟨9, _⟩ => ⟨S4096x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel5.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1024x2048 : Shape := ⟨2, ![1024, 2048]⟩
abbrev S1x2048 : Shape := ⟨2, ![1, 2048]⟩
abbrev S131072x128 : Shape := ⟨2, ![131072, 128]⟩
abbrev S512x1024 : Shape := ⟨2, ![512, 1024]⟩
abbrev S512x2048 : Shape := ⟨2, ![512, 2048]⟩
abbrev S4096x128 : Shape := ⟨2, ![4096, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S2048x128 : Shape := ⟨2, ![2048, 128]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S1024x2048, .bf16⟩
  | .hbm, ⟨7, _⟩ => ⟨S1024x2048, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .hbm, ⟨12, _⟩ => ⟨S131072x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S4096x128, .i32⟩
  | .local _ .vmem, ⟨15, _⟩ => ⟨S4096x128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel5Ideal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1024x2048 : Shape := ⟨2, ![1024, 2048]⟩
abbrev S1x2048 : Shape := ⟨2, ![1, 2048]⟩
abbrev S131072x2x128 : Shape := ⟨3, ![131072, 2, 128]⟩
abbrev S131072x1x128 : Shape := ⟨3, ![131072, 1, 128]⟩
abbrev S131072x128 : Shape := ⟨2, ![131072, 128]⟩
abbrev S512x1024 : Shape := ⟨2, ![512, 1024]⟩
abbrev S512x2048 : Shape := ⟨2, ![512, 2048]⟩
abbrev S4096x128 : Shape := ⟨2, ![4096, 128]⟩
abbrev S4096x2x128 : Shape := ⟨3, ![4096, 2, 128]⟩
abbrev S4096x1x128 : Shape := ⟨3, ![4096, 1, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S2048x2x128 : Shape := ⟨3, ![2048, 2, 128]⟩
abbrev S256x2x128 : Shape := ⟨3, ![256, 2, 128]⟩
abbrev S256x1x128 : Shape := ⟨3, ![256, 1, 128]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S1024x2048, .bf16⟩
  | .hbm, ⟨7, _⟩ => ⟨S1024x2048, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S16384x2048, .bf16⟩
  | .hbm, ⟨12, _⟩ => ⟨S131072x2x128, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S4096x2x128, .bf16⟩
  | .local _ .vmem, ⟨15, _⟩ => ⟨S4096x2x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, 0, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x2x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .bf16⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel6.lean ====
abbrev S16384x4096 : Shape := ⟨2, ![16384, 4096]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x512 : Shape := ⟨2, ![1, 512]⟩
abbrev S1x256 : Shape := ⟨2, ![1, 256]⟩
abbrev S16384x2048 : Shape := ⟨2, ![16384, 2048]⟩
abbrev S1024x16384 : Shape := ⟨2, ![1024, 16384]⟩
abbrev S512x512 : Shape := ⟨2, ![512, 512]⟩
abbrev S512x256 : Shape := ⟨2, ![512, 256]⟩
abbrev S512x128 : Shape := ⟨2, ![512, 128]⟩
abbrev S1024x512 : Shape := ⟨2, ![1024, 512]⟩
abbrev S512x1 : Shape := ⟨2, ![512, 1]⟩
abbrev S512x1024 : Shape := ⟨2, ![512, 1024]⟩

abbrev nBuf : Space → Nat
  | .hbm => 49
  | .vmem => 21
  | .smem => 0
  | _ => 0

abbrev bufTy : (tb : Table) → Fin (tcTables nBuf tb) → BufTy
  | .hbm, ⟨0, _⟩ => ⟨S16384x4096, .bf16⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S512x8x192, .f32⟩
  | .hbm, ⟨6, _⟩ => ⟨S512x8x64, .f32⟩
  | .hbm, ⟨7, _⟩ => ⟨S512x8x32, .f32⟩
  | .hbm, ⟨8, _⟩ => ⟨S512x8x32, .f32⟩
  | .hbm, ⟨9, _⟩ => ⟨S512x8x256, .f32⟩
  | .hbm, ⟨10, _⟩ => ⟨S512x2048, .f32⟩
  | .hbm, ⟨11, _⟩ => ⟨S512x2048, .bf16⟩
  | .hbm, ⟨12, _⟩ => ⟨S256x8x256, .f32⟩
  | .hbm, ⟨13, _⟩ => ⟨S256x8x128, .f32⟩
  | .hbm, ⟨14, _⟩ => ⟨S256x1024, .f32⟩
  | .hbm, ⟨15, _⟩ => ⟨S256x1024, .bf16⟩
  | .hbm, ⟨16, _⟩ => ⟨S256x8x128, .f32⟩
  | .hbm, ⟨17, _⟩ => ⟨S256x1024, .f32⟩
  | .hbm, ⟨18, _⟩ => ⟨S1024x256, .f32⟩
  | .hbm, ⟨19, _⟩ => ⟨S1024x256, .bf16⟩
  | .hbm, ⟨20, _⟩ => ⟨S4096, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S_, .f32⟩
  | .hbm, ⟨40, _⟩ => ⟨S4096x64, .f32⟩
  | .hbm, ⟨41, _⟩ => ⟨S4096x128, .f32⟩
  | .hbm, ⟨42, _⟩ => ⟨S4096x32, .f32⟩
  | .hbm, ⟨43, _⟩ => ⟨S4096x128, .f32⟩
  | .hbm, ⟨44, _⟩ => ⟨S1x512, .f32⟩
  | .hbm, ⟨45, _⟩ => ⟨S1x256, .f32⟩
  | .hbm, ⟨46, _⟩ => ⟨S16384x2048, .bf16⟩
  | .hbm, ⟨47, _⟩ => ⟨S16384x2048, .bf16⟩
  | .hbm, ⟨48, _⟩ => ⟨S1024x16384, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S1x512, .f32⟩
  | .local _ .vmem, ⟨7, _⟩ => ⟨S1x256, .f32⟩
  | .local _ .vmem, ⟨8, _⟩ => ⟨S512x2048, .bf16⟩
  | .local _ .vmem, ⟨9, _⟩ => ⟨S256x1024, .bf16⟩
  | .local _ .vmem, ⟨10, _⟩ => ⟨S1024x256, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S1024x512, .bf16⟩
  | .local _ .vmem, ⟨20, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S16384x4096 : Shape := ⟨2, ![16384, 4096]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x4096 : Shape := ⟨3, ![4, 4096, 4096]⟩
abbrev S4x4096x512 : Shape := ⟨3, ![4, 4096, 512]⟩
abbrev S4x4096 : Shape := ⟨2, ![4, 4096]⟩
abbrev S4x4096x1 : Shape := ⟨3, ![4, 4096, 1]⟩
abbrev S1x1x512 : Shape := ⟨3, ![1, 1, 512]⟩
abbrev S4x4096x256 : Shape := ⟨3, ![4, 4096, 256]⟩
abbrev S1x1x256 : Shape := ⟨3, ![1, 1, 256]⟩
abbrev S4x4096x1536 : Shape := ⟨3, ![4, 4096, 1536]⟩
abbrev S4x4096x8x192 : Shape := ⟨4, ![4, 4096, 8, 192]⟩
abbrev S4x4096x2048 : Shape := ⟨3, ![4, 4096, 2048]⟩
abbrev S4x4096x8x256 : Shape := ⟨4, ![4, 4096, 8, 256]⟩
abbrev S4x4096x8x32 : Shape := ⟨4, ![4, 4096, 8, 32]⟩
abbrev S4x4096x128 : Shape := ⟨3, ![4, 4096, 128]⟩
abbrev S4x4096x1x128 : Shape := ⟨4, ![4, 4096, 1, 128]⟩
abbrev S4x4096x1x32 : Shape := ⟨4, ![4, 4096, 1, 32]⟩
abbrev S4x4096x8x64 : Shape := ⟨4, ![4, 4096, 8, 64]⟩
abbrev S1x4096x1x32 : Shape := ⟨4, ![1, 4096, 1, 32]⟩
abbrev S4x4096x1x64 : Shape := ⟨4, ![4, 4096, 1, 64]⟩
abbrev S4x4096x8x128 : Shape := ⟨4, ![4, 4096, 8, 128]⟩
abbrev S16384x1024 : Shape := ⟨2, ![16384, 1024]⟩
abbrev S1024x16384 : Shape := ⟨2, ![1024, 16384]⟩
abbrev S16384x2048 : Shape := ⟨2, ![16384, 2048]⟩

abbrev nBuf : Space → Nat
  | .hbm => 127
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S512, .f32⟩
  | .hbm, ⟨2, _⟩ => ⟨S512x1536, .f32⟩
  | .hbm, ⟨3, _⟩ => ⟨S256, .f32⟩
  | .hbm, ⟨4, _⟩ => ⟨S256x2048, .f32⟩
  | .hbm, ⟨5, _⟩ => ⟨S4096, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x1x32, .f32⟩
  | .hbm, ⟨24, _⟩ => ⟨S4096x32, .f32⟩
  | .hbm, ⟨25, _⟩ => ⟨S4096x1x32, .f32⟩
  | .hbm, ⟨26, _⟩ => ⟨S4x4096x4096, .bf16⟩
  | .hbm, ⟨27, _⟩ => ⟨S4x4096x512, .bf16⟩
  | .hbm, ⟨28, _⟩ => ⟨S4x4096x512, .f32⟩
  | .hbm, ⟨29, _⟩ => ⟨S4x4096x512, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x512, .f32⟩
  | .hbm, ⟨41, _⟩ => ⟨S4x4096x512, .f32⟩
  | .hbm, ⟨42, _⟩ => ⟨S1x1x512, .f32⟩
  | .hbm, ⟨43, _⟩ => ⟨S4x4096x512, .f32⟩
  | .hbm, ⟨44, _⟩ => ⟨S4x4096x512, .f32⟩
  | .hbm, ⟨45, _⟩ => ⟨S4x4096x512, .bf16⟩
  | .hbm, ⟨46, _⟩ => ⟨S4x4096x512, .f32⟩
  | .hbm, ⟨47, _⟩ => ⟨S4x4096x256, .bf16⟩
  | .hbm, ⟨48, _⟩ => ⟨S4x4096x256, .f32⟩
  | .hbm, ⟨49, _⟩ => ⟨S4x4096x256, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x256, .f32⟩
  | .hbm, ⟨61, _⟩ => ⟨S4x4096x256, .f32⟩
  | .hbm, ⟨62, _⟩ => ⟨S1x1x256, .f32⟩
  | .hbm, ⟨63, _⟩ => ⟨S4x4096x256, .f32⟩
  | .hbm, ⟨64, _⟩ => ⟨S4x4096x256, .f32⟩
  | .hbm, ⟨65, _⟩ => ⟨S4x4096x256, .bf16⟩
  | .hbm, ⟨66, _⟩ => ⟨S4x4096x256, .f32⟩
  | .hbm, ⟨67, _⟩ => ⟨S4x4096x1536, .f32⟩
  | .hbm, ⟨68, _⟩ => ⟨S4x4096x8x192, .f32⟩
  | .hbm, ⟨69, _⟩ => ⟨S_, .f32⟩
  | .hbm, ⟨70, _⟩ => ⟨S4x4096x8x192, .f32⟩
  | .hbm, ⟨71, _⟩ => ⟨S4x4096x8x192, .f32⟩
  | .hbm, ⟨72, _⟩ => ⟨S4x4096x2048, .f32⟩
  | .hbm, ⟨73, _⟩ => ⟨S4x4096x8x256, .f32⟩
  | .hbm, ⟨74, _⟩ => ⟨S4x4096x8x32, .f32⟩
  | .hbm, ⟨75, _⟩ => ⟨S4x4096x8x32, .f32⟩
  | .hbm, ⟨76, _⟩ => ⟨S4x4096x128, .bf16⟩
  | .hbm, ⟨77, _⟩ => ⟨S4x4096x128, .f32⟩
  | .hbm, ⟨78, _⟩ => ⟨S4x4096x1x128, .f32⟩
  | .hbm, ⟨79, _⟩ => ⟨S4x4096x1x32, .f32⟩
  | .hbm, ⟨80, _⟩ => ⟨S4x4096x1x32, .f32⟩
  | .hbm, ⟨81, _⟩ => ⟨S4x4096x1x32, .f32⟩
  | .hbm, ⟨82, _⟩ => ⟨S4x4096x1x32, .f32⟩
  | .hbm, ⟨83, _⟩ => ⟨S_, .f32⟩
  | .hbm, ⟨84, _⟩ => ⟨S4x4096x8x64, .f32⟩
  | .hbm, ⟨85, _⟩ => ⟨S1x4096x1x32, .f32⟩
  | .hbm, ⟨86, _⟩ => ⟨S4x4096x1x32, .f32⟩
  | .hbm, ⟨87, _⟩ => ⟨S4x4096x1x32, .f32⟩
  | .hbm, ⟨88, _⟩ => ⟨S1x4096x1x32, .f32⟩
  | .hbm, ⟨89, _⟩ => ⟨S4x4096x1x32, .f32⟩
  | .hbm, ⟨90, _⟩ => ⟨S4x4096x1x32, .f32⟩
  | .hbm, ⟨91, _⟩ => ⟨S4x4096x1x32, .f32⟩
  | .hbm, ⟨92, _⟩ => ⟨S1x4096x1x32, .f32⟩
  | .hbm, ⟨93, _⟩ => ⟨S4x4096x1x32, .f32⟩
  | .hbm, ⟨94, _⟩ => ⟨S4x4096x1x32, .f32⟩
  | .hbm, ⟨95, _⟩ => ⟨S1x4096x1x32, .f32⟩
  | .hbm, ⟨96, _⟩ => ⟨S4x4096x1x32, .f32⟩
  | .hbm, ⟨97, _⟩ => ⟨S4x4096x1x32, .f32⟩
  | .hbm, ⟨98, _⟩ => ⟨S4x4096x1x32, .f32⟩
  | .hbm, ⟨99, _⟩ => ⟨S4x4096x1x64, .f32⟩
  | .hbm, ⟨100, _⟩ => ⟨S4x4096x8x128, .f32⟩
  | .hbm, ⟨101, _⟩ => ⟨S1x4096x1x32, .f32⟩
  | .hbm, ⟨102, _⟩ => ⟨S4x4096x8x32, .f32⟩
  | .hbm, ⟨103, _⟩ => ⟨S4x4096x8x32, .f32⟩
  | .hbm, ⟨104, _⟩ => ⟨S1x4096x1x32, .f32⟩
  | .hbm, ⟨105, _⟩ => ⟨S4x4096x8x32, .f32⟩
  | .hbm, ⟨106, _⟩ => ⟨S4x4096x8x32, .f32⟩
  | .hbm, ⟨107, _⟩ => ⟨S4x4096x8x32, .f32⟩
  | .hbm, ⟨108, _⟩ => ⟨S1x4096x1x32, .f32⟩
  | .hbm, ⟨109, _⟩ => ⟨S4x4096x8x32, .f32⟩
  | .hbm, ⟨110, _⟩ => ⟨S4x4096x8x32, .f32⟩
  | .hbm, ⟨111, _⟩ => ⟨S1x4096x1x32, .f32⟩
  | .hbm, ⟨112, _⟩ => ⟨S4x4096x8x32, .f32⟩
  | .hbm, ⟨113, _⟩ => ⟨S4x4096x8x32, .f32⟩
  | .hbm, ⟨114, _⟩ => ⟨S4x4096x8x32, .f32⟩
  | .hbm, ⟨115, _⟩ => ⟨S4x4096x8x256, .f32⟩
  | .hbm, ⟨116, _⟩ => ⟨S4x4096x8x128, .f32⟩
  | .hbm, ⟨117, _⟩ => ⟨S4x4096x8x64, .f32⟩
  | .hbm, ⟨118, _⟩ => ⟨S4x4096x8x256, .f32⟩
  | .hbm, ⟨119, _⟩ => ⟨S4x4096x8x128, .f32⟩
  | .hbm, ⟨120, _⟩ => ⟨S16384x1024, .f32⟩
  | .hbm, ⟨121, _⟩ => ⟨S1024x16384, .f32⟩
  | .hbm, ⟨122, _⟩ => ⟨S4x4096x8x256, .bf16⟩
  | .hbm, ⟨123, _⟩ => ⟨S16384x2048, .bf16⟩
  | .hbm, ⟨124, _⟩ => ⟨S4x4096x8x256, .bf16⟩
  | .hbm, ⟨125, _⟩ => ⟨S16384x2048, .bf16⟩
  | .hbm, ⟨126, _⟩ => ⟨S1024x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩

abbrev nD : Nat := 1
abbrev τ : Topo := Topo.v7x

variable {F : FTy → Type} [FloatOps F]
-- ==== Proof.FlashMath.lean ====
/- The arithmetic of a softmax that is taken chunk by chunk, over the extended reals: no program in this module. -/
module

public import Idealize.ShloMosaic.PureOps.Ideal
public import Idealize.ShloMosaic.PureOps.Ideal.Laws

@[expose] public section

noncomputable section

namespace Cert.FlashMath

open Idealize.ShloMosaic

/-- Two to a real power. -/
def pw (x : ℝ) : ℝ := Real.rpow 2 x

theorem pw_pos (x : ℝ) : 0 < pw x := Real.rpow_pos_of_pos (by norm_num) x

theorem pw_add (x y : ℝ) : pw (x + y) = pw x * pw y := Real.rpow_add (by norm_num) x y

theorem pw_sub (x y : ℝ) : pw (x - y) = pw (-y) * pw x := by
  rw [← pw_add]; congr 1; ring

/-- A natural exponential of a logit scaled by `log 2` is a power of two. -/
theorem exp_eq_pw (x M : ℝ) : Real.exp (x * Real.log 2 - M) = Real.exp (-M) * pw x := by
  have h : pw x = Real.exp (Real.log 2 * x) := Real.rpow_def_of_pos (by norm_num) x
  rw [h, ← Real.exp_add]; congr 1; ring

variable {ι : Type*}

/-- The coercion of a finite sum of reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of two extended reals. -/
theorem coe_mul_add {r : ℝ} (hr : 0 ≤ r) (x y : EReal) : (r : EReal) * (x + y) = (r : EReal) * x + (r : EReal) * y :=
  EReal.left_distrib_of_nonneg_of_ne_top (by exact_mod_cast hr) (EReal.coe_ne_top r) x y

/-- A nonnegative real factor distributes over a finite sum of extended reals. -/
theorem coe_mul_sum {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

/-- The coercion of the larger of two reals. -/
theorem coe_max (x y : ℝ) : ((max x y : ℝ) : EReal) = max (x : EReal) (y : EReal) :=
  EReal.coe_strictMono.monotone.map_max

/-- The maximum of finitely many reals, taken from minus infinity, is minus infinity or a real. -/
theorem fold_max_cases (s : Finset ι) (x : ι → ℝ) :
    (s = ∅ ∧ s.fold max (⊥ : EReal) (fun i => (x i : EReal)) = ⊥)
      ∨ ∃ M : ℝ, s.fold max (⊥ : EReal) (fun i => (x i : EReal)) = M := by
  classical
  induction s using Finset.induction_on with
  | empty => exact .inl ⟨rfl, by simp⟩
  | insert a s ha ih =>
    right
    rw [Finset.fold_insert ha]
    rcases ih with ⟨_, h⟩ | ⟨M, h⟩
    · exact ⟨x a, by rw [h]; simp⟩
    · exact ⟨max (x a) M, by rw [h, coe_max]⟩

/-- The maximum of at least one real, taken from minus infinity, is a real. -/
theorem fold_max_real [Fintype ι] [Nonempty ι] (x : ι → ℝ) :
    ∃ M : ℝ, (Finset.univ : Finset ι).fold max (⊥ : EReal) (fun i => (x i : EReal)) = M := by
  rcases fold_max_cases Finset.univ x with ⟨h, _⟩ | h
  · exact absurd h Finset.univ_nonempty.ne_empty
  · exact h

/-- One column of the running state (maximum `m`, denominator `l`, numerator `a`) stands for the weights `L` and the
    weighted values `A` of the keys seen so far: both scaled down by two to the running maximum. -/
def Stands (L : ℝ) (A : EReal) (m l a : EReal) : Prop :=
  ∃ M : ℝ, m = M ∧ l = ((pw (-M) * L : ℝ) : EReal) ∧ a = ((pw (-M) : ℝ) : EReal) * A

/-- The sum of one chunk's weights and of its weighted values, at a running maximum `M`. -/
theorem chunk_sums [Fintype ι] (x : ι → ℝ) (v : ι → EReal) (M : ℝ) :
    (∑ j, Ideal.exp2 ((x j : EReal) - (M : EReal)) = ((pw (-M) * ∑ j, pw (x j) : ℝ) : EReal))
      ∧ (∑ j, v j * Ideal.exp2 ((x j : EReal) - (M : EReal))
          = ((pw (-M) : ℝ) : EReal) * ∑ j, v j * ((pw (x j) : ℝ) : EReal)) := by
  have hp : ∀ j, Ideal.exp2 ((x j : EReal) - (M : EReal)) = ((pw (-M) * pw (x j) : ℝ) : EReal) := fun j => by
    rw [← EReal.coe_sub, Ideal.exp2_coe, ← pw_sub]; rfl
  simp only [hp]
  refine ⟨by rw [← coe_sum, Finset.mul_sum], ?_⟩
  rw [coe_mul_sum (pw_pos _).le]
  refine Finset.sum_congr rfl fun j _ => ?_
  rw [EReal.coe_mul, mul_left_comm]

/-- The first chunk: from maximum minus infinity and zero sums the state stands for the chunk. -/
theorem stands_first [Fintype ι] [Nonempty ι] (x : ι → ℝ) (v : ι → EReal) {m' : EReal}
    (hm : m' = max ⊥ ((Finset.univ : Finset ι).fold max (⊥ : EReal) (fun j => (x j : EReal)))) :
    Stands (∑ j, pw (x j)) (∑ j, v j * ((pw (x j) : ℝ) : EReal)) m'
      (Ideal.exp2 (⊥ - m') * 0 + ∑ j, Ideal.exp2 ((x j : EReal) - m'))
      (Ideal.exp2 (⊥ - m') * 0 + ∑ j, v j * Ideal.exp2 ((x j : EReal) - m')) := by
  obtain ⟨M, hM⟩ := fold_max_real x
  rw [hM, max_eq_right bot_le] at hm
  subst hm
  obtain ⟨h1, h2⟩ := chunk_sums x v M
  exact ⟨M, rfl, by rw [h1, mul_zero, zero_add], by rw [h2, mul_zero, zero_add]⟩

/-- A further chunk: the rescaled state with the chunk added stands for the keys before and the chunk. -/
theorem stands_step [Fintype ι] [Nonempty ι] (x : ι → ℝ) (v : ι → EReal) {L : ℝ} {A m l a m' : EReal}
    (h : Stands L A m l a)
    (hm : m' = max m ((Finset.univ : Finset ι).fold max (⊥ : EReal) (fun j => (x j : EReal)))) :
    Stands (L + ∑ j, pw (x j)) (A + ∑ j, v j * ((pw (x j) : ℝ) : EReal)) m'
      (Ideal.exp2 (m - m') * l + ∑ j, Ideal.exp2 ((x j : EReal) - m'))
      (Ideal.exp2 (m - m') * a + ∑ j, v j * Ideal.exp2 ((x j : EReal) - m')) := by
  obtain ⟨M₀, rfl, rfl, rfl⟩ := h
  obtain ⟨M₁, hM₁⟩ := fold_max_real x
  rw [hM₁, ← coe_max] at hm
  generalize max M₀ M₁ = M at hm
  subst hm
  obtain ⟨h1, h2⟩ := chunk_sums x v M
  have ha : Ideal.exp2 ((M₀ : EReal) - (M : EReal)) = ((pw (M₀ - M) : ℝ) : EReal) := by
    rw [← EReal.coe_sub, Ideal.exp2_coe]; rfl
  have hs : pw (M₀ - M) * pw (-M₀) = pw (-M) := by rw [← pw_add]; congr 1; ring
  refine ⟨M, rfl, ?_, ?_⟩
  · rw [h1, ha, ← EReal.coe_mul, ← EReal.coe_add, ← mul_assoc, hs, ← mul_add]
  · rw [h2, ha, ← mul_assoc, ← EReal.coe_mul, hs, coe_mul_add (pw_pos _).le]

/-- At the end: numerator over denominator is the weighted values over the sum of the weights. -/
theorem stands_div {L : ℝ} {A m l a : EReal} (h : Stands L A m l a) (hL : 0 < L) :
    Ideal.div a l = A * ((1 / L : ℝ) : EReal) := by
  obtain ⟨M, rfl, rfl, rfl⟩ := h
  have hp := pw_pos (-M)
  rw [Ideal.div_coe (mul_pos hp hL).ne', mul_right_comm, ← EReal.coe_mul, mul_comm]
  congr 2
  field_simp

/-- A softmax of logits scaled by `log 2`, at any real shift, against values: the weighted values over the sum of the
    weights, the weights powers of two. -/
theorem softmax_sum [Fintype ι] [Nonempty ι] (x : ι → ℝ) (v : ι → EReal) (M : ℝ) {s : EReal}
    (hs : s = ∑ j, Ideal.exp (((x j * Real.log 2 : ℝ) : EReal) - (M : EReal))) :
    ∑ k, v k * Ideal.div (Ideal.exp (((x k * Real.log 2 : ℝ) : EReal) - (M : EReal))) s
      = (∑ k, v k * ((pw (x k) : ℝ) : EReal)) * ((1 / ∑ k, pw (x k) : ℝ) : EReal) := by
  have he : ∀ j, Ideal.exp (((x j * Real.log 2 : ℝ) : EReal) - (M : EReal)) = ((Real.exp (-M) * pw (x j) : ℝ) : EReal) :=
    fun j => by rw [← EReal.coe_sub, Ideal.exp_coe, exp_eq_pw]
  have hL : 0 < ∑ k, pw (x k) := Finset.sum_pos (fun k _ => pw_pos _) Finset.univ_nonempty
  have hE := Real.exp_pos (-M)
  simp only [he] at hs ⊢
  rw [← coe_sum, ← Finset.mul_sum] at hs
  subst hs
  rw [mul_comm (∑ k, v k * _), coe_mul_sum (one_div_pos.mpr hL).le]
  refine Finset.sum_congr rfl fun k _ => ?_
  rw [Ideal.div_coe (mul_pos hE hL).ne', ← EReal.coe_mul, mul_left_comm _ (v k), ← EReal.coe_mul]
  congr 2
  field_simp

end Cert.FlashMath

end
-- ==== Proof.Block.lean ====
/- One grid point of the attention kernel: its four stored blocks of 256 queries are one function of the queries' block,
   the keys' block and the values' block, and that function is the softmax-weighted sum of the values. -/
module

public import proofs.«01_k».proof.Proof.Gen.KernelIdeal.Frame
public import proofs.«01_k».proof.Proof.FlashMath
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Cert.FlashMath

variable {F : FTy → Type} [FloatOps F] [Named F]

/-- Scores of 1024 keys against 256 queries. -/
def SC (q : Vec F S256x256 .bf16) (k : Vec F S1024x256 .bf16) : FVec F S1024x256 .f32 :=
  matmul dot_S1024x256_S256x256_S1024x256_1_1_0_0_n_n none k q (constant S1024x256 .f32 0x00000000#32)

/-- The running maximum after a chunk of scores. -/
def MX (m : FVec F S1x256 .f32) (s : FVec F S1024x256 .f32) : FVec F S1x256 .f32 :=
  maximumf m (shapeCast S1x256 (multiReduction .maximumf [0] S256 s 0xFF800000#32 reduces_S1024x256_S256 (.inl rfl) rfl) shapeCasts_S256_S1x256)

/-- The factor that rescales the state to the new maximum. -/
def AL (m : FVec F S1x256 .f32) (s : FVec F S1024x256 .f32) : FVec F S1x256 .f32 := exp2 (subf m (MX m s))

/-- The chunk's weights at the new maximum. -/
def PP (m : FVec F S1x256 .f32) (s : FVec F S1024x256 .f32) : FVec F S1024x256 .f32 :=
  exp2 (subf s (broadcastTo S1024x256 (MX m s) broadcasts_S1x256_S1024x256))

/-- The denominator after a chunk. -/
def LL (m l : FVec F S1x256 .f32) (s : FVec F S1024x256 .f32) : FVec F S1x256 .f32 :=
  addf (mulf (AL m s) l) (shapeCast S1x256 (multiReduction .add [0] S256 (PP m s) 0x00000000#32 reduces_S1024x256_S256 (.inl rfl) rfl) shapeCasts_S256_S1x256)

/-- The numerator after a chunk. -/
def AC (m : FVec F S1x256 .f32) (a : FVec F S128x256 .f32) (s : FVec F S1024x256 .f32) (v : Vec F S128x1024 .bf16) : FVec F S128x256 .f32 :=
  addf (mulf (broadcastTo S128x256 (AL m s) broadcasts_S1x256_S128x256) a)
    (matmul dot_S128x1024_S1024x256_S128x256_1_0_0_1_n_n none v (truncf .bf16 (PP m s) bitsLt_bf16_f32) (constant S128x256 .f32 0x00000000#32))

/-- The stored block: numerator over denominator, queries along the rows. -/
def OT (l : FVec F S1x256 .f32) (a : FVec F S128x256 .f32) : FVec F S256x128 .bf16 :=
  truncf .bf16 (transpose S256x128 [1, 0] (divf a (broadcastTo S128x256 l broadcasts_S1x256_S128x256)) transposes_S128x256_p1_0_S256x128) bitsLt_bf16_f32

/-- The running maximum before the first chunk. -/
def M0 : FVec F S1x256 .f32 := broadcast S1x256 (Named.named κ "mask" 0xF149F2CA#32)
/-- The denominator before the first chunk. -/
def L0 : FVec F S1x256 .f32 := broadcast S1x256 (Scalar.ofBits .f32 0x00000000#32)
/-- The numerator before the first chunk. -/
def A0 : FVec F S128x256 .f32 := broadcast S128x256 (Scalar.ofBits .f32 0x00000000#32)

/-- Four chunks of scores and values, from the state `m l a`, to the stored block. -/
def FOUR (m l : FVec F S1x256 .f32) (a : FVec F S128x256 .f32) (s0 s1 s2 s3 : FVec F S1024x256 .f32) (v0 v1 v2 v3 : Vec F S128x1024 .bf16) : FVec F S256x128 .bf16 :=
  OT (LL (MX (MX (MX m s0) s1) s2) (LL (MX (MX m s0) s1) (LL (MX m s0) (LL m l s0) s1) s2) s3)
    (AC (MX (MX (MX m s0) s1) s2) (AC (MX (MX m s0) s1) (AC (MX m s0) (AC m a s0 v0) s1 v1) s2 v2) s3 v3)

/-- What a block of 256 queries leaves, from the point's keys and values. -/
def OUTS (q : Vec F S256x256 .bf16) (x1 : Vec F S4096x256 .bf16) (x2 : Vec F S128x4096 .bf16) : FVec F S256x128 .bf16 :=
  FOUR M0 L0 A0 (SC q (View.ld x1 r0_12)) (SC q (View.ld x1 r0_13)) (SC q (View.ld x1 r0_15)) (SC q (View.ld x1 r0_17))
    (View.ld x2 r0_14) (View.ld x2 r0_16) (View.ld x2 r0_18) (View.ld x2 r0_19)

/-- The point's output block is the four query blocks' results, stored one below the other. -/
theorem out_eq (x0 : Vec F S1024x256 .bf16) (x1 : Vec F S4096x256 .bf16) (x2 : Vec F S128x4096 .bf16) (x3 : Vec F S1x1x512x512 .f32) (x4 : Vec F S1x1x512x512 .f32) (x5 : Vec F S1x1x128x2048 .f32) (x6 : Vec F S1x16x2048 .f32) (x7 : Vec F S1x32x2048 .f32) (x8 : Vec F S1x16x2048 .f32) (x9 : Vec F S1x16x2048 .f32) (x10 : Vec F S1x16x2048 .f32) (x11 : Vec F S1x16x2048 .f32) :
    out0_12 x0 x1 x2 x3 x4 x5 x6 x7 x8 x9 x10 x11
      = View.canon [⟨r0_23, OUTS (View.ld x0 r0_11) x1 x2⟩, ⟨r0_22, OUTS (View.ld x0 r0_10) x1 x2⟩,
          ⟨r0_21, OUTS (View.ld x0 r0_9) x1 x2⟩, ⟨r0_20, OUTS (View.ld x0 r0_8) x1 x2⟩] := rfl

/-! ## At the ideal instance, index by index -/

theorem SC_apply (q : Vec Ideal S256x256 .bf16) (k : Vec Ideal S1024x256 .bf16) (j : Fin 1024) (r : Fin 256) :
    SC (F := Ideal) q k (ix2 j r) = ∑ e : Fin 256, k (ix2 j e) * q (ix2 r e) := by
  pointwise [SC]

/-- The pattern of minus infinity. -/
theorem ninf : Ideal.ofBits .f32 0xFF800000#32 = ⊥ := by
  simp [Ideal.ofBits, Ideal.ieee]

theorem MX_apply (m : FVec Ideal S1x256 .f32) (s : FVec Ideal S1024x256 .f32) (r : Fin 256) :
    MX (F := Ideal) m s (ix2 0 r) = max (m (ix2 0 r)) (Finset.univ.fold max (⊥ : EReal) fun j : Fin 1024 => (s (ix2 j r) : EReal)) := by
  pointwise [MX]
  rw [ninf]

theorem AL_apply (m : FVec Ideal S1x256 .f32) (s : FVec Ideal S1024x256 .f32) (r : Fin 256) :
    AL (F := Ideal) m s (ix2 0 r) = Ideal.exp2 (m (ix2 0 r) - MX (F := Ideal) m s (ix2 0 r)) := by
  pointwise [AL]
  rfl

theorem PP_apply (m : FVec Ideal S1x256 .f32) (s : FVec Ideal S1024x256 .f32) (j : Fin 1024) (r : Fin 256) :
    PP (F := Ideal) m s (ix2 j r) = Ideal.exp2 (s (ix2 j r) - MX (F := Ideal) m s (ix2 0 r)) := by
  pointwise [PP]
  rfl

theorem LL_apply (m l : FVec Ideal S1x256 .f32) (s : FVec Ideal S1024x256 .f32) (r : Fin 256) :
    LL (F := Ideal) m l s (ix2 0 r) = Ideal.exp2 (m (ix2 0 r) - MX (F := Ideal) m s (ix2 0 r)) * l (ix2 0 r)
      + ∑ j : Fin 1024, Ideal.exp2 (s (ix2 j r) - MX (F := Ideal) m s (ix2 0 r)) := by
  pointwise [LL, PP_apply, AL_apply]

theorem AC_apply (m : FVec Ideal S1x256 .f32) (a : FVec Ideal S128x256 .f32) (s : FVec Ideal S1024x256 .f32) (v : Vec Ideal S128x1024 .bf16) (d : Fin 128) (r : Fin 256) :
    AC (F := Ideal) m a s v (ix2 d r) = Ideal.exp2 (m (ix2 0 r) - MX (F := Ideal) m s (ix2 0 r)) * a (ix2 d r)
      + ∑ j : Fin 1024, v (ix2 d j) * Ideal.exp2 (s (ix2 j r) - MX (F := Ideal) m s (ix2 0 r)) := by
  pointwise [AC, PP_apply, AL_apply]

theorem OT_apply (l : FVec Ideal S1x256 .f32) (a : FVec Ideal S128x256 .f32) (r : Fin 256) (d : Fin 128) :
    OT (F := Ideal) l a (ix2 r d) = Ideal.div (a (ix2 d r)) (l (ix2 0 r)) := by
  pointwise [OT]

theorem M0_apply (r : Fin 256) : M0 (F := Ideal) (ix2 0 r) = (⊥ : EReal) :=
  IdealRules.named_const.ideal_named_scalar _ _ _ _ rfl

theorem L0_apply (r : Fin 256) : L0 (F := Ideal) (ix2 0 r) = (0 : EReal) := by pointwise [L0]

theorem A0_apply (d : Fin 128) (r : Fin 256) : A0 (F := Ideal) (ix2 d r) = (0 : EReal) := by pointwise [A0]

/-- Four chunks of real scores, at one query and one channel: the weighted values over the sum of the weights. -/
theorem FOUR_apply (s0 s1 s2 s3 : FVec Ideal S1024x256 .f32) (v0 v1 v2 v3 : Vec Ideal S128x1024 .bf16) (r : Fin 256) (d : Fin 128)
    (x0 x1 x2 x3 : Fin 1024 → ℝ) (h0 : ∀ j, (s0 (ix2 j r) : EReal) = x0 j) (h1 : ∀ j, (s1 (ix2 j r) : EReal) = x1 j)
    (h2 : ∀ j, (s2 (ix2 j r) : EReal) = x2 j) (h3 : ∀ j, (s3 (ix2 j r) : EReal) = x3 j) :
    (FOUR (F := Ideal) M0 L0 A0 s0 s1 s2 s3 v0 v1 v2 v3 (ix2 r d) : EReal)
      = ((∑ j, (v0 (ix2 d j) : EReal) * ((pw (x0 j) : ℝ) : EReal)) + (∑ j, (v1 (ix2 d j) : EReal) * ((pw (x1 j) : ℝ) : EReal))
          + (∑ j, (v2 (ix2 d j) : EReal) * ((pw (x2 j) : ℝ) : EReal)) + (∑ j, (v3 (ix2 d j) : EReal) * ((pw (x3 j) : ℝ) : EReal)))
        * ((1 / (∑ j, pw (x0 j) + ∑ j, pw (x1 j) + ∑ j, pw (x2 j) + ∑ j, pw (x3 j)) : ℝ) : EReal) := by
  have e0 := MX_apply M0 s0 r
  simp only [M0_apply, h0] at e0
  have c0 := stands_first x0 (fun j => (v0 (ix2 d j) : EReal)) e0
  have l0 := LL_apply M0 L0 s0 r
  have a0 := AC_apply M0 A0 s0 v0 d r
  simp only [M0_apply, L0_apply, A0_apply, h0] at l0 a0
  rw [← l0, ← a0] at c0
  have e1 := MX_apply (MX M0 s0) s1 r
  simp only [h1] at e1
  have c1 := stands_step x1 (fun j => (v1 (ix2 d j) : EReal)) c0 e1
  have l1 := LL_apply (MX M0 s0) (LL M0 L0 s0) s1 r
  have a1 := AC_apply (MX M0 s0) (AC M0 A0 s0 v0) s1 v1 d r
  simp only [h1] at l1 a1
  rw [← l1, ← a1] at c1
  have e2 := MX_apply (MX (MX M0 s0) s1) s2 r
  simp only [h2] at e2
  have c2 := stands_step x2 (fun j => (v2 (ix2 d j) : EReal)) c1 e2
  have l2 := LL_apply (MX (MX M0 s0) s1) (LL (MX M0 s0) (LL M0 L0 s0) s1) s2 r
  have a2 := AC_apply (MX (MX M0 s0) s1) (AC (MX M0 s0) (AC M0 A0 s0 v0) s1 v1) s2 v2 d r
  simp only [h2] at l2 a2
  rw [← l2, ← a2] at c2
  have e3 := MX_apply (MX (MX (MX M0 s0) s1) s2) s3 r
  simp only [h3] at e3
  have c3 := stands_step x3 (fun j => (v3 (ix2 d j) : EReal)) c2 e3
  have l3 := LL_apply (MX (MX (MX M0 s0) s1) s2) (LL (MX (MX M0 s0) s1) (LL (MX M0 s0) (LL M0 L0 s0) s1) s2) s3 r
  have a3 := AC_apply (MX (MX (MX M0 s0) s1) s2) (AC (MX (MX M0 s0) s1) (AC (MX M0 s0) (AC M0 A0 s0 v0) s1 v1) s2 v2) s3 v3 d r
  simp only [h3] at l3 a3
  rw [← l3, ← a3] at c3
  have pos : ∀ x : Fin 1024 → ℝ, 0 < ∑ j, pw (x j) := fun x => Finset.sum_pos (fun j _ => pw_pos _) Finset.univ_nonempty
  rw [FOUR, OT_apply]
  exact stands_div c3 (by have := pos x0; have := pos x1; have := pos x2; have := pos x3; linarith)

/-- A sum over 4096 keys, chunk by chunk. -/
theorem sum_chunks {M : Type*} [AddCommMonoid M] (f : Fin 4096 → M) :
    ∑ k, f k = (∑ j : Fin 1024, f ⟨0 + j.val, by omega⟩) + (∑ j : Fin 1024, f ⟨1024 + j.val, by omega⟩)
      + (∑ j : Fin 1024, f ⟨2048 + j.val, by omega⟩) + (∑ j : Fin 1024, f ⟨3072 + j.val, by omega⟩) := by
  have h := (finProdFinEquiv (m := 4) (n := 1024)).sum_comp f
  rw [← h, Fintype.sum_prod_type, Fin.sum_univ_four]
  refine congrArg₂ (· + ·) (congrArg₂ (· + ·) (congrArg₂ (· + ·) ?_ ?_) ?_) ?_ <;>
    · refine Finset.sum_congr rfl fun j _ => congrArg f (Fin.ext ?_)
      simp [finProdFinEquiv, add_comm]

/-- The result of a block of 256 queries at query `r` and channel `d`, its scores `X` real. -/
theorem OUTS_apply (q : Vec Ideal S256x256 .bf16) (x1 : Vec Ideal S4096x256 .bf16) (x2 : Vec Ideal S128x4096 .bf16) (r : Fin 256) (d : Fin 128)
    (X : Fin 4096 → ℝ) (hX : ∀ k, (∑ e : Fin 256, (x1 (ix2 k e) : EReal) * (q (ix2 r e) : EReal)) = (X k : EReal)) :
    (OUTS (F := Ideal) q x1 x2 (ix2 r d) : EReal)
      = (∑ k, (x2 (ix2 d k) : EReal) * ((pw (X k) : ℝ) : EReal)) * ((1 / ∑ k, pw (X k) : ℝ) : EReal) := by
  rw [OUTS, FOUR_apply _ _ _ _ _ _ _ _ r d (fun j => X ⟨0 + j.val, by omega⟩) (fun j => X ⟨1024 + j.val, by omega⟩)
    (fun j => X ⟨2048 + j.val, by omega⟩) (fun j => X ⟨3072 + j.val, by omega⟩), sum_chunks (fun k => pw (X k)), sum_chunks (fun k => (x2 (ix2 d k) : EReal) * ((pw (X k) : ℝ) : EReal))]
  · refine congrArg (· * _) ?_
    pointwise []
  all_goals
    intro j
    rw [SC_apply, ← hX]
    pointwise []

end Cert.KernelIdeal.Block

end
-- ==== Proof.RefValue.lean ====
/- The reference attention read at one query, one head and one channel: the values weighted by two to the scores, over
   the sum of the weights, where the scores are real. -/
module

public import proofs.«01_k».proof.Proof.Gen.ReferenceIdeal.Read
public import proofs.«01_k».proof.Proof.FlashMath
public import Idealize.ShloMosaic.Lib.Pointwise

@[expose] public section

set_option maxRecDepth 16384

noncomputable section

namespace Cert.ReferenceIdeal.RefValue

open Cert.ReferenceIdeal Cert.ReferenceIdeal.Gen Cert.ReferenceIdeal.Read Idealize.ShloMosaic Cert.FlashMath

variable (x0 x1 : FVec Ideal S16384x2048 .bf16) (x2 : FVec Ideal S1024x16384 .bf16)

/-- The pattern of minus infinity. -/
theorem ninf : Ideal.ofBits .f32 0xFF800000#32 = ⊥ := by
  simp [Ideal.ofBits, Ideal.ieee]

/-- The pattern of two. -/
theorem two : Ideal.ofBits .f32 0x40000000#32 = ((2 : ℝ) : EReal) := by
  simp [Ideal.ofBits, Ideal.ieee, -EReal.coe_mul]; norm_num

/-- The host's maximum along the last of four axes, at an index of the result: the fold over that axis. -/
theorem hostMax_apply {n0 n1 n2 n3 : Nat} {t u : Shape} (x : FVec Ideal ⟨4, ![n0, n1, n2, n3]⟩ .f32) (init : FVec Ideal u .f32)
    (h : (⟨4, ![n0, n1, n2, n3]⟩ : Shape).ReducesTo [3] t) (hu : 0 < u.numel) (j : t.Idx) :
    Host.reduce (FloatOps.maximumf (F := Ideal) (φ := .f32)) x init h hu j
      = (Finset.univ : Finset (Fin n3)).fold max (init (Shape.Idx.first hu))
          fun k => x (ix4 ⟨(j ⟨0, h.lt_r4_a3_0⟩).val, Shape.coordLt (j ⟨0, h.lt_r4_a3_0⟩) h.size_r4_a3_0⟩
            ⟨(j ⟨1, h.lt_r4_a3_1⟩).val, Shape.coordLt (j ⟨1, h.lt_r4_a3_1⟩) h.size_r4_a3_1⟩
            ⟨(j ⟨2, h.lt_r4_a3_2⟩).val, Shape.coordLt (j ⟨2, h.lt_r4_a3_2⟩) h.size_r4_a3_2⟩ k) := by
  have e := Shape.foldl_filter_rowMajor_eq_fold h.drop (FloatOps.maximumf (F := Ideal) (φ := .f32)) (init (Shape.Idx.first hu)) x j
  unfold Host.reduce
  rw [e]
  exact h.fold_fiber_r4_a3 j _ _ _

/-- A scaled score. -/
theorem score_apply (b : Fin 4) (h : Fin 8) (n k : Fin 4096) :
    (val_main_v10 (F := Ideal) x0 x1 (ix4 b h n k) : EReal)
      = (∑ e : Fin 256, (x0 (ix2 ⟨b.val * 4096 + n.val, by omega⟩ ⟨h.val * 256 + e.val, by omega⟩) : EReal)
          * (x1 (ix2 ⟨b.val * 4096 + k.val, by omega⟩ ⟨h.val * 256 + e.val, by omega⟩) : EReal)) * ((Real.log 2 : ℝ) : EReal) := by
  pointwise [val_main_v10, val_main_v9, val_main_v8, val_main_cst, val_main_v7, val_main_v3, val_main_v2, val_main_v1, val_main_v0]
  rw [two, Ideal.log_coe, if_neg (by norm_num)]

/-- The largest scaled score of a query. -/
theorem max_apply (b : Fin 4) (h : Fin 8) (n : Fin 4096) :
    (val_main_v13 (F := Ideal) x0 x1 (ix3 b h n) : EReal)
      = max ⊥ (Finset.univ.fold max (⊥ : EReal) fun k : Fin 4096 => (val_main_v10 (F := Ideal) x0 x1 (ix4 b h n k) : EReal)) := by
  rw [val_main_v13_apply, val_main_v12_apply, val_main_cst_1_apply]
  have e : val_main_v11 (F := Ideal) x0 x1 (ix3 b h n)
      = Finset.univ.fold max (⊥ : EReal) fun k : Fin 4096 => (val_main_v10 (F := Ideal) x0 x1 (ix4 b h n k) : EReal) := by
    unfold val_main_v11
    generalize val_main_v10 (F := Ideal) x0 x1 = y
    refine (hostMax_apply y _ _ _ _).trans ?_
    rw [val_main_cst_0_apply]
    exact congrArg (fun z : EReal => Finset.univ.fold max z fun k : Fin 4096 => (y (ix4 b h n k) : EReal)) ninf
  rw [e]
  exact congrArg (fun z : EReal => max z _) ninf

/-- The exponential of a score less the largest. -/
theorem exp_apply (b : Fin 4) (h : Fin 8) (n k : Fin 4096) :
    (val_main_v17 (F := Ideal) x0 x1 (ix4 b h n k) : EReal)
      = Ideal.exp ((val_main_v10 (F := Ideal) x0 x1 (ix4 b h n k) : EReal) - (val_main_v13 (F := Ideal) x0 x1 (ix3 b h n) : EReal)) := by
  pointwise [val_main_v17, val_main_v16, val_main_v15, val_main_v14]

/-- An attention weight. -/
theorem att_apply (b : Fin 4) (h : Fin 8) (n k : Fin 4096) :
    (val_main_v23 (F := Ideal) x0 x1 (ix4 b h n k) : EReal)
      = Ideal.div (val_main_v17 (F := Ideal) x0 x1 (ix4 b h n k) : EReal) (∑ j : Fin 4096, (val_main_v17 (F := Ideal) x0 x1 (ix4 b h n j) : EReal)) := by
  pointwise [val_main_v23, val_main_v22, val_main_v21, val_main_v20, val_main_v19, val_main_v18, val_main_cst_2]

/-- A result: the values times their weights, summed over the keys. -/
theorem out_apply (b : Fin 4) (h : Fin 8) (n : Fin 4096) (d : Fin 128) (i : S16384x1024.Idx) (h0 : (i 0).val = b.val * 4096 + n.val) (h1 : (i 1).val = h.val * 128 + d.val) :
    (val_main_v27 (F := Ideal) x0 x1 x2 i : EReal)
      = ∑ k : Fin 4096, (x2 (ix2 ⟨h.val * 128 + d.val, by omega⟩ ⟨b.val * 4096 + k.val, by omega⟩) : EReal) * (val_main_v23 (F := Ideal) x0 x1 (ix4 b h n k) : EReal) := by
  have hb : b.val * 4096 + n.val < 16384 := by clear h0 h1; omega
  have hd : h.val * 128 + d.val < 1024 := by clear h0 h1; omega
  idx_vars i
  obtain rfl : i0 = ⟨b.val * 4096 + n.val, hb⟩ := Fin.ext h0
  obtain rfl : i1 = ⟨h.val * 128 + d.val, hd⟩ := Fin.ext h1
  pointwise [val_main_v27, val_main_v26, val_main_v25, val_main_v24, val_main_v6, val_main_v5, val_main_v4]

/-- The reference's result where the scores `X` of the query are real: the values weighted by two to the scores, over the
    sum of these weights. -/
theorem ref_apply (b : Fin 4) (h : Fin 8) (n : Fin 4096) (d : Fin 128) (i : S16384x1024.Idx) (h0 : (i 0).val = b.val * 4096 + n.val) (h1 : (i 1).val = h.val * 128 + d.val)
    (X : Fin 4096 → ℝ)
    (hX : ∀ k : Fin 4096, (∑ e : Fin 256, (x1 (ix2 ⟨b.val * 4096 + k.val, by omega⟩ ⟨h.val * 256 + e.val, by omega⟩) : EReal)
          * (x0 (ix2 ⟨b.val * 4096 + n.val, by omega⟩ ⟨h.val * 256 + e.val, by omega⟩) : EReal)) = (X k : EReal)) :
    (val_main_v27 (F := Ideal) x0 x1 x2 i : EReal)
      = (∑ k : Fin 4096, (x2 (ix2 ⟨h.val * 128 + d.val, by omega⟩ ⟨b.val * 4096 + k.val, by omega⟩) : EReal) * ((pw (X k) : ℝ) : EReal))
        * ((1 / ∑ k, pw (X k) : ℝ) : EReal) := by
  have hs : ∀ k, (val_main_v10 (F := Ideal) x0 x1 (ix4 b h n k) : EReal) = ((X k * Real.log 2 : ℝ) : EReal) := fun k => by
    rw [score_apply, EReal.coe_mul, ← hX k]
    exact congrArg (· * _) (Finset.sum_congr rfl fun e _ => mul_comm _ _)
  have hm := max_apply x0 x1 b h n
  simp only [hs] at hm
  obtain ⟨M, hM⟩ := fold_max_real (fun k => X k * Real.log 2)
  rw [hM, max_eq_right bot_le] at hm
  have he : ∀ k, (val_main_v17 (F := Ideal) x0 x1 (ix4 b h n k) : EReal) = Ideal.exp (((X k * Real.log 2 : ℝ) : EReal) - (M : EReal)) :=
    fun k => by rw [exp_apply, hs, hm]
  rw [out_apply x0 x1 x2 b h n d i h0 h1]
  simp only [att_apply, he]
  exact softmax_sum X _ M rfl

end Cert.ReferenceIdeal.RefValue

end
-- ==== Proof.Attention.lean ====
/- The attention kernel's result array: every block the grid writes holds the reference's value there, so the array is the
   reference's array, on queries and keys that hold no infinity. -/
module

public import proofs.«01_k».proof.Defs
public import proofs.«01_k».proof.Proof.Gen.KernelIdeal.Value
public import proofs.«01_k».proof.Proof.Block
public import proofs.«01_k».proof.Proof.RefValue

@[expose] public section

set_option maxRecDepth 16384

noncomputable section

namespace Cert.KernelIdeal.Attention

open Cert.KernelIdeal Cert.KernelIdeal.Gen Cert.KernelIdeal.Block Idealize.ShloMosaic Idealize.ShloMosaic.Pipeline Cert.FlashMath

variable (m : (ℓ : Loc nD τ sig) → Buf (Elt Ideal) ℓ)

/-- Every entry of an array is a real number. -/
def AllReal {s : Shape} (x : s.Idx → EReal) : Prop := ∀ i, ∃ r : ℝ, x i = (r : EReal)

/-- A number whose absolute value is below infinity is real. -/
theorem real_of_abs_lt {x : EReal} (h : max x (-x) < ⊤) : ∃ r : ℝ, x = (r : EReal) := by
  induction x with
  | bot => simp at h
  | top => simp at h
  | coe r => exact ⟨r, rfl⟩

/-- The products of real queries and keys sum to real scores. -/
theorem real_dot {A B : S16384x2048.Idx → EReal} (hA : AllReal A) (hB : AllReal B) (u v : Fin 4096 → Fin 256 → S16384x2048.Idx) :
    ∃ X : Fin 4096 → ℝ, ∀ k, (∑ e, B (v k e) * A (u k e)) = (X k : EReal) := by
  choose f hf using hA
  choose g hg using hB
  refine ⟨fun k => ∑ e, g (v k e) * f (u k e), fun k => ?_⟩
  rw [coe_sum]
  exact Finset.sum_congr rfl fun e _ => by rw [EReal.coe_mul, ← hf, ← hg]

/-- The blocks of the queries, keys, values and of the result at a grid point. -/
theorem idx : ∀ t : Fin cfg0.N,
    win0_0.index t = ![(grid0.coords t 0).val * 4 + (grid0.coords t 2).val, (grid0.coords t 1).val]
    ∧ win0_1.index t = ![(grid0.coords t 0).val, (grid0.coords t 1).val]
    ∧ win0_2.index t = ![(grid0.coords t 1).val, (grid0.coords t 0).val]
    ∧ win0_12.index t = ![(grid0.coords t 0).val * 4 + (grid0.coords t 2).val, (grid0.coords t 1).val] :=
  (by decide +kernel : ∀ t : Fin grid0.N, _)

/-- The grid has 4 sequences, 8 heads and 4 blocks of queries. -/
theorem bounds : ∀ t : Fin cfg0.N,
    (grid0.coords t 0).val < 4 ∧ (grid0.coords t 1).val < 8 ∧ (grid0.coords t 2).val < 4 :=
  (by decide +kernel : ∀ t : Fin grid0.N, _)

/-- A block of 256 queries, stored from row `o` of the block of the result, is the reference there. -/
theorem piece (c : Dev nD) (t : Fin cfg0.N) (o : ℕ) (ho : o + 256 ≤ 1024)
    (h0 : AllReal (m ((c.tc : Thread nD τ).loc main_arg0) : S16384x2048.Idx → EReal))
    (h1 : AllReal (m ((c.tc : Thread nD τ).loc main_arg1) : S16384x2048.Idx → EReal))
    (q : Vec Ideal S256x256 .bf16)
    (hq : ∀ (r : Fin 256) (e : Fin 256), (q (ix2 r e) : EReal) = iblk m c 0 t (ix2 ⟨o + r.val, by omega⟩ e))
    (x : S256x128.Idx) (i : S16384x1024.Idx)
    (e0 : (i 0 : ℕ) = ((grid0.coords t 0).val * 4 + (grid0.coords t 2).val) * 1024 + (o + (x 0 : ℕ)))
    (e1 : (i 1 : ℕ) = (grid0.coords t 1).val * 128 + (x 1 : ℕ)) :
    (OUTS (F := Ideal) q (iblk m c 1 t) (iblk m c 2 t) x : EReal)
      = Cert.ReferenceIdeal.Read.val_main_v27 (F := Ideal) (m ((c.tc : Thread nD τ).loc main_arg0))
          (m ((c.tc : Thread nD τ).loc main_arg1)) (m ((c.tc : Thread nD τ).loc main_arg2)) i := by
  obtain ⟨hb, hh, hi⟩ := bounds t
  idx_vars x
  obtain ⟨r, rfl⟩ : ∃ r : Fin 256, r = x0 := ⟨_, rfl⟩
  obtain ⟨d, rfl⟩ : ∃ d : Fin 128, d = x1 := ⟨_, rfl⟩
  have hn : (grid0.coords t 2).val * 1024 + (o + r.val) < 4096 := by have := r.isLt; omega
  obtain ⟨X, hX⟩ := real_dot h0 h1
    (fun k e => ix2 ⟨(grid0.coords t 0).val * 4096 + ((grid0.coords t 2).val * 1024 + (o + r.val)), by omega⟩
      ⟨(grid0.coords t 1).val * 256 + e.val, by omega⟩)
    (fun k e => ix2 ⟨(grid0.coords t 0).val * 4096 + k.val, by omega⟩ ⟨(grid0.coords t 1).val * 256 + e.val, by omega⟩)
  refine (OUTS_apply q (iblk m c 1 t) (iblk m c 2 t) r d X fun k => (Eq.trans ?_ (hX k))).trans (Eq.trans ?_
    (Cert.ReferenceIdeal.RefValue.ref_apply (m ((c.tc : Thread nD τ).loc main_arg0))
      (m ((c.tc : Thread nD τ).loc main_arg1)) (m ((c.tc : Thread nD τ).loc main_arg2))
      ⟨(grid0.coords t 0).val, hb⟩ ⟨(grid0.coords t 1).val, hh⟩ ⟨(grid0.coords t 2).val * 1024 + (o + r.val), hn⟩ d i
      (by rw [e0]; simp only [ix2]; omega) (by rw [e1]) X hX).symm)
  · refine Finset.sum_congr rfl fun e _ => ?_
    rw [hq]
    refine congrArg₂ (· * ·) ?_ ?_
    · blk_ext [iblk, V, idx t]
    · blk_ext [iblk, V, idx t]
  · refine congrArg (· * _) (Finset.sum_congr rfl fun k _ => congrArg (· * _) ?_)
    blk_ext [iblk, V, idx t]

/-- The result array after the run is the reference's array. -/
theorem final (c : Dev nD)
    (hA : AllReal (m ((c.tc : Thread nD τ).loc main_arg0) : S16384x2048.Idx → EReal))
    (hB : AllReal (m ((c.tc : Thread nD τ).loc main_arg1) : S16384x2048.Idx → EReal)) :
    (dats m 0 c).arrAt 12 (cfgs 0).N
      = Cert.ReferenceIdeal.Read.val_main_v27 (F := Ideal) (m ((c.tc : Thread nD τ).loc main_arg0))
          (m ((c.tc : Thread nD τ).loc main_arg1)) (m ((c.tc : Thread nD τ).loc main_arg2)) := by
  refine (dats m 0 c).arrAt_eq_of_covers 12 _ (by decide +kernel) fun t _ y => ?_
  blk_simp
  rw [after0_12, Block.out_eq]
  canon_tiles x h
  all_goals
    have e0 : (((cfg0.win 12).blk t).view.emb y 0 : ℕ) = ((grid0.coords t 0).val * 4 + (grid0.coords t 2).val) * 1024 + (y 0 : ℕ) := by
      blk_simp [idx t]
    have e1 : (((cfg0.win 12).blk t).view.emb y 1 : ℕ) = (grid0.coords t 1).val * 128 + (y 1 : ℕ) := by
      blk_simp [idx t]
    rw [h0] at e0
    rw [h1] at e1
  · exact piece m c t 768 (by decide) hA hB _ (fun r e => congrArg (iblk m c 0 t) (by unfold r0_11; blk_ext [Rect.idx_unit_val])) x _ e0 e1
  · exact piece m c t 512 (by decide) hA hB _ (fun r e => congrArg (iblk m c 0 t) (by unfold r0_10; blk_ext [Rect.idx_unit_val])) x _ e0 e1
  · exact piece m c t 256 (by decide) hA hB _ (fun r e => congrArg (iblk m c 0 t) (by unfold r0_9; blk_ext [Rect.idx_unit_val])) x _ e0 e1
  · exact piece m c t 0 (by decide) hA hB _ (fun r e => congrArg (iblk m c 0 t) (by unfold r0_8; blk_ext [Rect.idx_unit_val])) x _ (by rw [Nat.zero_add]; exact e0) e1

/-- The bits of infinity, as a real number extended. -/
theorem pinf : (Ideal.ofBits .f32 0x7F800000#32 : EReal) = ⊤ := by
  simp [Ideal.ofBits, Ideal.ieee]

/-- Where the test `|x| < infinity` holds at every entry, every entry is real. -/
theorem allReal_of_test (x : FVec Ideal Cert.Pre_finite.S16384x2048 .bf16) (hb : FTy.bits .bf16 < FTy.bits .f32)
    (hc : Cert.Pre_finite.S_.BroadcastsInDim Cert.Pre_finite.S16384x2048 ![])
    (h : cmpf .olt (Host.absf (extf .f32 x hb)) (broadcastInDim Cert.Pre_finite.S16384x2048 ![] hc (constant Cert.Pre_finite.S_ .f32 0x7F800000#32)) = fun _ => 1#1) :
    AllReal (x : S16384x2048.Idx → EReal) := by
  intro i
  have hi := congrFun h i
  pointwise [] at hi
  rw [pinf] at hi
  refine real_of_abs_lt (x := (x i : EReal)) ?_
  by_contra hn
  rw [show (decide ((FloatOps.absf (x i) : Ideal .f32) < (⊤ : EReal))) = false from decide_eq_false hn] at hi
  exact absurd hi (by decide)

end Cert.KernelIdeal.Attention

end
-- ==== Proof.CastAttention.lean ====
/- The weights that the attention's call casts on the way: each cast is its weight, index by index. -/
module

public import proofs.«01_k».proof.Defs
public import proofs.«01_k».proof.Proof.Gen.KernelIdeal.Value
public import proofs.«01_k».proof.Proof.Gen.ReferenceIdeal.Read
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Casts

open Cert.KernelIdeal Cert.KernelIdeal.Gen Idealize.ShloMosaic Idealize.ShloMosaic.Pipeline

variable (m : (ℓ : Loc nD τ sig) → Buf (Elt Ideal) ℓ)

/-- The blocks of the gates' weight and of its cast at a grid point. -/
theorem idx13 : ∀ t : Fin cfg0.N,
    win0_3.index t = ![0, (grid0.coords t 0).val * 8 + (grid0.coords t 1).val, (grid0.coords t 2).val, 0]
    ∧ win0_13.index t = ![(grid0.coords t 0).val * 8 + (grid0.coords t 1).val, (grid0.coords t 2).val, 0] :=
  (by decide +kernel : ∀ t : Fin grid0.N, _)

/-- The cast of the gates' weight after the run is the gates' weight. -/
theorem final13 (c : Dev nD) :
    (dats m 0 c).arrAt 13 (cfgs 0).N
      = Cert.ReferenceIdeal.Read.val_main_v44 (F := Ideal) (m ((c.tc : Thread nD τ).loc main_arg3)) := by
  refine (dats m 0 c).arrAt_eq_of_covers 13 _ (by decide +kernel) fun t _ y => ?_
  blk_simp
  rw [after0_13]
  unfold out0_13
  canon_tiles x h
  generalize hY : Cert.ReferenceIdeal.Read.val_main_v44 (F := Ideal) (m ((c.tc : Thread nD τ).loc main_arg3)) = Y
  idx_vars x
  pointwise [k0_pay3]
  subst hY
  pointwise [Cert.ReferenceIdeal.Read.val_main_v44, Cert.ReferenceIdeal.Read.val_main_v29, Cert.ReferenceIdeal.Read.val_main_v28]
  blk_ext [iblk, V, idx13 t]

/-- The blocks of the weight beside the gates and of its cast at a grid point. -/
theorem idx14 : ∀ t : Fin cfg0.N,
    win0_4.index t = ![0, (grid0.coords t 0).val * 8 + (grid0.coords t 1).val, (grid0.coords t 2).val, 0]
    ∧ win0_14.index t = ![(grid0.coords t 0).val * 8 + (grid0.coords t 1).val, (grid0.coords t 2).val, 0] :=
  (by decide +kernel : ∀ t : Fin grid0.N, _)

/-- The cast of the weight beside the gates after the run is the weight beside the gates. -/
theorem final14 (c : Dev nD) :
    (dats m 0 c).arrAt 14 (cfgs 0).N
      = Cert.ReferenceIdeal.Read.val_main_v45 (F := Ideal) (m ((c.tc : Thread nD τ).loc main_arg4)) := by
  refine (dats m 0 c).arrAt_eq_of_covers 14 _ (by decide +kernel) fun t _ y => ?_
  blk_simp
  rw [after0_14]
  unfold out0_14
  canon_tiles x h
  generalize hY : Cert.ReferenceIdeal.Read.val_main_v45 (F := Ideal) (m ((c.tc : Thread nD τ).loc main_arg4)) = Y
  idx_vars x
  pointwise [k0_pay4]
  subst hY
  pointwise [Cert.ReferenceIdeal.Read.val_main_v45, Cert.ReferenceIdeal.Read.val_main_v31, Cert.ReferenceIdeal.Read.val_main_v30]
  blk_ext [iblk, V, idx14 t]

/-- The blocks of the experts' last weight and of its cast at a grid point. -/
theorem idx15 : ∀ t : Fin cfg0.N,
    win0_5.index t = ![0, (grid0.coords t 0).val * 8 + (grid0.coords t 1).val, (grid0.coords t 2).val, 0]
    ∧ win0_15.index t = ![(grid0.coords t 0).val * 8 + (grid0.coords t 1).val, (grid0.coords t 2).val, 0] :=
  (by decide +kernel : ∀ t : Fin grid0.N, _)

/-- The cast of the experts' last weight after the run is the experts' last weight. -/
theorem final15 (c : Dev nD) :
    (dats m 0 c).arrAt 15 (cfgs 0).N
      = Cert.ReferenceIdeal.Read.val_main_v46 (F := Ideal) (m ((c.tc : Thread nD τ).loc main_arg5)) := by
  refine (dats m 0 c).arrAt_eq_of_covers 15 _ (by decide +kernel) fun t _ y => ?_
  blk_simp
  rw [after0_15]
  unfold out0_15
  canon_tiles x h
  generalize hY : Cert.ReferenceIdeal.Read.val_main_v46 (F := Ideal) (m ((c.tc : Thread nD τ).loc main_arg5)) = Y
  idx_vars x
  pointwise [k0_pay5]
  subst hY
  pointwise [Cert.ReferenceIdeal.Read.val_main_v46, Cert.ReferenceIdeal.Read.val_main_v33, Cert.ReferenceIdeal.Read.val_main_v32]
  blk_ext [iblk, V, idx15 t]

/-- The blocks of the even layer's output weight and of its cast at a grid point. -/
theorem idx16 : ∀ t : Fin cfg0.N,
    win0_6.index t = ![0, (((grid0.coords t 0).val * 8 + (grid0.coords t 1).val) * 4 + (grid0.coords t 2).val), 0]
    ∧ win0_16.index t = ![(((grid0.coords t 0).val * 8 + (grid0.coords t 1).val) * 4 + (grid0.coords t 2).val), 0] :=
  (by decide +kernel : ∀ t : Fin grid0.N, _)

/-- The cast of the even layer's output weight after the run is the even layer's output weight. -/
theorem final16 (c : Dev nD) :
    (dats m 0 c).arrAt 16 (cfgs 0).N
      = Cert.ReferenceIdeal.Read.val_main_v47 (F := Ideal) (m ((c.tc : Thread nD τ).loc main_arg6)) := by
  refine (dats m 0 c).arrAt_eq_of_covers 16 _ (by decide +kernel) fun t _ y => ?_
  blk_simp
  rw [after0_16]
  unfold out0_16
  canon_tiles x h
  generalize hY : Cert.ReferenceIdeal.Read.val_main_v47 (F := Ideal) (m ((c.tc : Thread nD τ).loc main_arg6)) = Y
  idx_vars x
  pointwise [k0_pay6]
  subst hY
  pointwise [Cert.ReferenceIdeal.Read.val_main_v47, Cert.ReferenceIdeal.Read.val_main_v34]
  blk_ext [iblk, V, idx16 t]

/-- The blocks of the retention layer's output weight and of its cast at a grid point. -/
theorem idx17 : ∀ t : Fin cfg0.N,
    win0_7.index t = ![0, (((grid0.coords t 0).val * 8 + (grid0.coords t 1).val) * 4 + (grid0.coords t 2).val), 0]
    ∧ win0_17.index t = ![(((grid0.coords t 0).val * 8 + (grid0.coords t 1).val) * 4 + (grid0.coords t 2).val), 0] :=
  (by decide +kernel : ∀ t : Fin grid0.N, _)

/-- The cast of the retention layer's output weight after the run is the retention layer's output weight. -/
theorem final17 (c : Dev nD) :
    (dats m 0 c).arrAt 17 (cfgs 0).N
      = Cert.ReferenceIdeal.Read.val_main_v48 (F := Ideal) (m ((c.tc : Thread nD τ).loc main_arg7)) := by
  refine (dats m 0 c).arrAt_eq_of_covers 17 _ (by decide +kernel) fun t _ y => ?_
  blk_simp
  rw [after0_17]
  unfold out0_17
  canon_tiles x h
  generalize hY : Cert.ReferenceIdeal.Read.val_main_v48 (F := Ideal) (m ((c.tc : Thread nD τ).loc main_arg7)) = Y
  idx_vars x
  pointwise [k0_pay7]
  subst hY
  pointwise [Cert.ReferenceIdeal.Read.val_main_v48, Cert.ReferenceIdeal.Read.val_main_v35]
  blk_ext [iblk, V, idx17 t]

/-- The blocks of the first layer's weight of the embeddings' gate and of its cast at a grid point. -/
theorem idx18 : ∀ t : Fin cfg0.N,
    win0_8.index t = ![0, (((grid0.coords t 0).val * 8 + (grid0.coords t 1).val) * 4 + (grid0.coords t 2).val), 0]
    ∧ win0_18.index t = ![(((grid0.coords t 0).val * 8 + (grid0.coords t 1).val) * 4 + (grid0.coords t 2).val), 0] :=
  (by decide +kernel : ∀ t : Fin grid0.N, _)

/-- The cast of the first layer's weight of the embeddings' gate after the run is the first layer's weight of the embeddings' gate. -/
theorem final18 (c : Dev nD) :
    (dats m 0 c).arrAt 18 (cfgs 0).N
      = Cert.ReferenceIdeal.Read.val_main_v49 (F := Ideal) (m ((c.tc : Thread nD τ).loc main_arg8)) := by
  refine (dats m 0 c).arrAt_eq_of_covers 18 _ (by decide +kernel) fun t _ y => ?_
  blk_simp
  rw [after0_18]
  unfold out0_18
  canon_tiles x h
  generalize hY : Cert.ReferenceIdeal.Read.val_main_v49 (F := Ideal) (m ((c.tc : Thread nD τ).loc main_arg8)) = Y
  idx_vars x
  pointwise [k0_pay8]
  subst hY
  pointwise [Cert.ReferenceIdeal.Read.val_main_v49, Cert.ReferenceIdeal.Read.val_main_v37, Cert.ReferenceIdeal.Read.val_main_v36]
  blk_ext [iblk, V, idx18 t]

/-- The blocks of the first layer's weight of the embeddings and of its cast at a grid point. -/
theorem idx19 : ∀ t : Fin cfg0.N,
    win0_9.index t = ![0, (min (((grid0.coords t 0).val * 8 + (grid0.coords t 1).val) * 4 + (grid0.coords t 2).val) 15), 0]
    ∧ win0_19.index t = ![(min (((grid0.coords t 0).val * 8 + (grid0.coords t 1).val) * 4 + (grid0.coords t 2).val) 15), 0] :=
  (by decide +kernel : ∀ t : Fin grid0.N, _)

/-- The cast of the first layer's weight of the embeddings after the run is the first layer's weight of the embeddings. -/
theorem final19 (c : Dev nD) :
    (dats m 0 c).arrAt 19 (cfgs 0).N
      = Cert.ReferenceIdeal.Read.val_main_v50 (F := Ideal) (m ((c.tc : Thread nD τ).loc main_arg9)) := by
  refine (dats m 0 c).arrAt_eq_of_covers 19 _ (by decide +kernel) fun t _ y => ?_
  blk_simp
  rw [after0_19]
  unfold out0_19
  canon_tiles x h
  generalize hY : Cert.ReferenceIdeal.Read.val_main_v50 (F := Ideal) (m ((c.tc : Thread nD τ).loc main_arg9)) = Y
  idx_vars x
  pointwise [k0_pay9]
  subst hY
  pointwise [Cert.ReferenceIdeal.Read.val_main_v50, Cert.ReferenceIdeal.Read.val_main_v39, Cert.ReferenceIdeal.Read.val_main_v38]
  blk_ext [iblk, V, idx19 t]

/-- The blocks of the second layer's weight of the embeddings' gate and of its cast at a grid point. -/
theorem idx20 : ∀ t : Fin cfg0.N,
    win0_10.index t = ![1, (((grid0.coords t 0).val * 8 + (grid0.coords t 1).val) * 4 + (grid0.coords t 2).val), 0]
    ∧ win0_20.index t = ![(((grid0.coords t 0).val * 8 + (grid0.coords t 1).val) * 4 + (grid0.coords t 2).val), 0] :=
  (by decide +kernel : ∀ t : Fin grid0.N, _)

/-- The cast of the second layer's weight of the embeddings' gate after the run is the second layer's weight of the embeddings' gate. -/
theorem final20 (c : Dev nD) :
    (dats m 0 c).arrAt 20 (cfgs 0).N
      = Cert.ReferenceIdeal.Read.val_main_v51 (F := Ideal) (m ((c.tc : Thread nD τ).loc main_arg8)) := by
  refine (dats m 0 c).arrAt_eq_of_covers 20 _ (by decide +kernel) fun t _ y => ?_
  blk_simp
  rw [after0_20]
  unfold out0_20
  canon_tiles x h
  generalize hY : Cert.ReferenceIdeal.Read.val_main_v51 (F := Ideal) (m ((c.tc : Thread nD τ).loc main_arg8)) = Y
  idx_vars x
  pointwise [k0_pay10]
  subst hY
  pointwise [Cert.ReferenceIdeal.Read.val_main_v51, Cert.ReferenceIdeal.Read.val_main_v41, Cert.ReferenceIdeal.Read.val_main_v40]
  blk_ext [iblk, V, idx20 t]

/-- The blocks of the second layer's weight of the embeddings and of its cast at a grid point. -/
theorem idx21 : ∀ t : Fin cfg0.N,
    win0_11.index t = ![1, (min (((grid0.coords t 0).val * 8 + (grid0.coords t 1).val) * 4 + (grid0.coords t 2).val) 15), 0]
    ∧ win0_21.index t = ![(min (((grid0.coords t 0).val * 8 + (grid0.coords t 1).val) * 4 + (grid0.coords t 2).val) 15), 0] :=
  (by decide +kernel : ∀ t : Fin grid0.N, _)

/-- The cast of the second layer's weight of the embeddings after the run is the second layer's weight of the embeddings. -/
theorem final21 (c : Dev nD) :
    (dats m 0 c).arrAt 21 (cfgs 0).N
      = Cert.ReferenceIdeal.Read.val_main_v52 (F := Ideal) (m ((c.tc : Thread nD τ).loc main_arg9)) := by
  refine (dats m 0 c).arrAt_eq_of_covers 21 _ (by decide +kernel) fun t _ y => ?_
  blk_simp
  rw [after0_21]
  unfold out0_21
  canon_tiles x h
  generalize hY : Cert.ReferenceIdeal.Read.val_main_v52 (F := Ideal) (m ((c.tc : Thread nD τ).loc main_arg9)) = Y
  idx_vars x
  pointwise [k0_pay11]
  subst hY
  pointwise [Cert.ReferenceIdeal.Read.val_main_v52, Cert.ReferenceIdeal.Read.val_main_v43, Cert.ReferenceIdeal.Read.val_main_v42]
  blk_ext [iblk, V, idx21 t]

end Cert.KernelIdeal.Casts

end
-- ==== Proof.CastRotary.lean ====
/- The experts' weights that the retention's projection casts on the way: each cast is its weight, index by index. -/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Casts

open Cert.Kernel2Ideal Cert.Kernel2Ideal.Gen Idealize.ShloMosaic Idealize.ShloMosaic.Pipeline

variable (m : (ℓ : Loc nD τ sig) → Buf (Elt Ideal) ℓ)

/-- The blocks of the gates' weight and of its cast at a grid point. -/
theorem idx8 : ∀ t : Fin cfg0.N,
    win0_4.index t = ![1, (grid0.coords t 0).val * 2 + min (grid0.coords t 1).val 7 / 4, min (grid0.coords t 1).val 7 % 4, 0]
    ∧ win0_8.index t = ![(grid0.coords t 0).val * 2 + min (grid0.coords t 1).val 7 / 4, min (grid0.coords t 1).val 7 % 4, 0] :=
  (by decide +kernel : ∀ t : Fin grid0.N, _)

set_option maxHeartbeats 1000000 in
/-- The cast of the gates' weight after the run is the gates' weight. -/
theorem final8 (c : Dev nD) :
    (dats m 0 c).arrAt 8 (cfgs 0).N
      = Cert.Reference2Ideal.Read.val_main_v72 (F := Ideal) (m ((c.tc : Thread nD τ).loc main_arg2)) := by
  refine (dats m 0 c).arrAt_eq_of_covers 8 _ (by decide +kernel) fun t _ y => ?_
  blk_simp
  rw [after0_8]
  by_cases h2 : t.val % 12 ≤ 3
  · rw [outsAt0_A m c t (by omega) (by omega) h2]
    frame_out
    generalize hY : Cert.Reference2Ideal.Read.val_main_v72 (F := Ideal) (m ((c.tc : Thread nD τ).loc main_arg2)) = Y
    idx_vars y
    pointwise [k0_pay21]
    subst hY
    pointwise [Cert.Reference2Ideal.Read.val_main_v72, Cert.Reference2Ideal.Read.val_main_v71, Cert.Reference2Ideal.Read.val_main_v70]
    blk_ext [iblk, V, idx8 t]
  by_cases h1 : 8 ≤ t.val % 12
  · rw [outsAt0_C m c t (by omega) h1 h2]
    frame_out
    generalize hY : Cert.Reference2Ideal.Read.val_main_v72 (F := Ideal) (m ((c.tc : Thread nD τ).loc main_arg2)) = Y
    idx_vars y
    pointwise [k0_pay21]
    subst hY
    pointwise [Cert.Reference2Ideal.Read.val_main_v72, Cert.Reference2Ideal.Read.val_main_v71, Cert.Reference2Ideal.Read.val_main_v70]
    blk_ext [iblk, V, idx8 t]
  · rw [outsAt0_B m c t (by omega) h1 h2]
    frame_out
    generalize hY : Cert.Reference2Ideal.Read.val_main_v72 (F := Ideal) (m ((c.tc : Thread nD τ).loc main_arg2)) = Y
    idx_vars y
    pointwise [k0_pay21]
    subst hY
    pointwise [Cert.Reference2Ideal.Read.val_main_v72, Cert.Reference2Ideal.Read.val_main_v71, Cert.Reference2Ideal.Read.val_main_v70]
    blk_ext [iblk, V, idx8 t]

/-- The blocks of the weight beside the gates and of its cast at a grid point. -/
theorem idx9 : ∀ t : Fin cfg0.N,
    win0_5.index t = ![1, (grid0.coords t 0).val * 2 + min (grid0.coords t 1).val 7 / 4, min (grid0.coords t 1).val 7 % 4, 0]
    ∧ win0_9.index t = ![(grid0.coords t 0).val * 2 + min (grid0.coords t 1).val 7 / 4, min (grid0.coords t 1).val 7 % 4, 0] :=
  (by decide +kernel : ∀ t : Fin grid0.N, _)

set_option maxHeartbeats 1000000 in
/-- The cast of the weight beside the gates after the run is the weight beside the gates. -/
theorem final9 (c : Dev nD) :
    (dats m 0 c).arrAt 9 (cfgs 0).N
      = Cert.Reference2Ideal.Read.val_main_v75 (F := Ideal) (m ((c.tc : Thread nD τ).loc main_arg3)) := by
  refine (dats m 0 c).arrAt_eq_of_covers 9 _ (by decide +kernel) fun t _ y => ?_
  blk_simp
  rw [after0_9]
  by_cases h2 : t.val % 12 ≤ 3
  · rw [outsAt0_A m c t (by omega) (by omega) h2]
    frame_out
    generalize hY : Cert.Reference2Ideal.Read.val_main_v75 (F := Ideal) (m ((c.tc : Thread nD τ).loc main_arg3)) = Y
    idx_vars y
    pointwise [k0_pay22]
    subst hY
    pointwise [Cert.Reference2Ideal.Read.val_main_v75, Cert.Reference2Ideal.Read.val_main_v74, Cert.Reference2Ideal.Read.val_main_v73]
    blk_ext [iblk, V, idx9 t]
  by_cases h1 : 8 ≤ t.val % 12
  · rw [outsAt0_C m c t (by omega) h1 h2]
    frame_out
    generalize hY : Cert.Reference2Ideal.Read.val_main_v75 (F := Ideal) (m ((c.tc : Thread nD τ).loc main_arg3)) = Y
    idx_vars y
    pointwise [k0_pay22]
    subst hY
    pointwise [Cert.Reference2Ideal.Read.val_main_v75, Cert.Reference2Ideal.Read.val_main_v74, Cert.Reference2Ideal.Read.val_main_v73]
    blk_ext [iblk, V, idx9 t]
  · rw [outsAt0_B m c t (by omega) h1 h2]
    frame_out
    generalize hY : Cert.Reference2Ideal.Read.val_main_v75 (F := Ideal) (m ((c.tc : Thread nD τ).loc main_arg3)) = Y
    idx_vars y
    pointwise [k0_pay22]
    subst hY
    pointwise [Cert.Reference2Ideal.Read.val_main_v75, Cert.Reference2Ideal.Read.val_main_v74, Cert.Reference2Ideal.Read.val_main_v73]
    blk_ext [iblk, V, idx9 t]

/-- The blocks of the experts' last weight and of its cast at a grid point. -/
theorem idx10 : ∀ t : Fin cfg0.N,
    win0_6.index t = ![1, (grid0.coords t 0).val * 2 + min (grid0.coords t 1).val 7 / 4, min (grid0.coords t 1).val 7 % 4, 0]
    ∧ win0_10.index t = ![(grid0.coords t 0).val * 2 + min (grid0.coords t 1).val 7 / 4, min (grid0.coords t 1).val 7 % 4, 0] :=
  (by decide +kernel : ∀ t : Fin grid0.N, _)

set_option maxHeartbeats 1000000 in
/-- The cast of the experts' last weight after the run is the experts' last weight. -/
theorem final10 (c : Dev nD) :
    (dats m 0 c).arrAt 10 (cfgs 0).N
      = Cert.Reference2Ideal.Read.val_main_v78 (F := Ideal) (m ((c.tc : Thread nD τ).loc main_arg4)) := by
  refine (dats m 0 c).arrAt_eq_of_covers 10 _ (by decide +kernel) fun t _ y => ?_
  blk_simp
  rw [after0_10]
  by_cases h2 : t.val % 12 ≤ 3
  · rw [outsAt0_A m c t (by omega) (by omega) h2]
    frame_out
    generalize hY : Cert.Reference2Ideal.Read.val_main_v78 (F := Ideal) (m ((c.tc : Thread nD τ).loc main_arg4)) = Y
    idx_vars y
    pointwise [k0_pay23]
    subst hY
    pointwise [Cert.Reference2Ideal.Read.val_main_v78, Cert.Reference2Ideal.Read.val_main_v77, Cert.Reference2Ideal.Read.val_main_v76]
    blk_ext [iblk, V, idx10 t]
  by_cases h1 : 8 ≤ t.val % 12
  · rw [outsAt0_C m c t (by omega) h1 h2]
    frame_out
    generalize hY : Cert.Reference2Ideal.Read.val_main_v78 (F := Ideal) (m ((c.tc : Thread nD τ).loc main_arg4)) = Y
    idx_vars y
    pointwise [k0_pay23]
    subst hY
    pointwise [Cert.Reference2Ideal.Read.val_main_v78, Cert.Reference2Ideal.Read.val_main_v77, Cert.Reference2Ideal.Read.val_main_v76]
    blk_ext [iblk, V, idx10 t]
  · rw [outsAt0_B m c t (by omega) h1 h2]
    frame_out
    generalize hY : Cert.Reference2Ideal.Read.val_main_v78 (F := Ideal) (m ((c.tc : Thread nD τ).loc main_arg4)) = Y
    idx_vars y
    pointwise [k0_pay23]
    subst hY
    pointwise [Cert.Reference2Ideal.Read.val_main_v78, Cert.Reference2Ideal.Read.val_main_v77, Cert.Reference2Ideal.Read.val_main_v76]
    blk_ext [iblk, V, idx10 t]

end Cert.Kernel2Ideal.Casts

end
-- ==== Proof.CastIn.lean ====
/- The weight that the input projection's call casts on the way: its cast is the weight, index by index. -/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.Casts

open Cert.Kernel3Ideal Cert.Kernel3Ideal.Gen Idealize.ShloMosaic Idealize.ShloMosaic.Pipeline

variable (m : (ℓ : Loc nD τ sig) → Buf (Elt Ideal) ℓ)

/-- The blocks of the weight and of its cast at a grid point. -/
theorem idx : ∀ t : Fin cfg0.N,
    win0_2.index t = ![0, (grid0.coords t 0).val * 4 + (grid0.coords t 1).val, 0]
    ∧ win0_4.index t = ![(grid0.coords t 0).val * 4 + (grid0.coords t 1).val, 0] :=
  (by decide +kernel : ∀ t : Fin grid0.N, _)

/-- The cast weight after the run is the weight. -/
theorem final (c : Dev nD) :
    (dats m 0 c).arrAt 4 (cfgs 0).N
      = Cert.Reference3Ideal.Read.val_main_v7 (F := Ideal) (m ((c.tc : Thread nD τ).loc main_arg2)) := by
  refine (dats m 0 c).arrAt_eq_of_covers 4 _ (by decide +kernel) fun t _ y => ?_
  blk_simp
  rw [after0_4]
  unfold out0_4
  canon_tiles x h
  generalize hY : Cert.Reference3Ideal.Read.val_main_v7 (F := Ideal) (m ((c.tc : Thread nD τ).loc main_arg2)) = Y
  idx_vars x
  pointwise [k0_pay1]
  subst hY
  pointwise [Cert.Reference3Ideal.Read.val_main_v7, Cert.Reference3Ideal.Read.val_main_v6]
  blk_ext [iblk, V, idx t]

end Cert.Kernel3Ideal.Casts

end
-- ==== Proof.RetRef.lean ====
/- The reference of the retention input, element by element: the projection, its queries and keys rotated, its gate
   through silu. -/
module

public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Reference2Ideal.RetRef

open Cert.Reference2Ideal Cert.Reference2Ideal.Gen Cert.Reference2Ideal.Read Idealize.ShloMosaic

variable (x : S16384x2048.Idx → EReal) (w : S2048x12288.Idx → EReal)

/-- Row `r` against column `j` of the weight; zero where there is no such row or column. -/
def col (r j : ℕ) : EReal :=
  if h : r < 16384 ∧ j < 12288 then ∑ k : Fin 2048, x (ix2 ⟨r, h.1⟩ k) * w (ix2 k ⟨j, h.2⟩) else 0

/-- The cosine of position `s` at pair `u`; zero where there is none. -/
def co (s u : ℕ) : EReal := if h : s < 4096 ∧ u < 128 then val_main_v18 (F := Ideal) (ix2 ⟨s, h.1⟩ ⟨u, h.2⟩) else 0

/-- The sine of position `s` at pair `u`; zero where there is none. -/
def si (s u : ℕ) : EReal := if h : s < 4096 ∧ u < 128 then val_main_v20 (F := Ideal) (ix2 ⟨s, h.1⟩ ⟨u, h.2⟩) else 0

/-- The factor of a column: one sixteenth for the queries, one elsewhere. -/
def fac (j : ℕ) : EReal := if j < 2048 then Ideal.ofBits .f32 0x3D800000#32 else 1

/-- The pattern of one sixteenth. -/
theorem sixteenth : Ideal.ofBits .f32 0x3D800000#32 = ((1 / 16 : ℝ) : EReal) := by
  simp [Ideal.ofBits, Ideal.ieee, -EReal.coe_mul]; norm_num

/-- The pattern of one. -/
theorem one : Ideal.ofBits .f32 0x3F800000#32 = 1 := by
  simp [Ideal.ofBits, Ideal.ieee, -EReal.coe_mul]; norm_num

/-- A factor is not negative. -/
theorem fac_nonneg (j : ℕ) : 0 ≤ fac j := by
  unfold fac
  split_ifs
  · rw [sixteenth, ← EReal.coe_zero, EReal.coe_le_coe_iff]; norm_num
  · exact zero_le_one

/-- A factor is finite. -/
theorem fac_ne_top (j : ℕ) : fac j ≠ ⊤ := by
  unfold fac
  split_ifs
  · rw [sixteenth]; exact EReal.coe_ne_top _
  · rw [← EReal.coe_one]; exact EReal.coe_ne_top _

/-- A factor may go into a sum of products. -/
theorem fac_add (j : ℕ) (a b c d : EReal) : a * (c * fac j) + b * (d * fac j) = (a * c + b * d) * fac j := by
  rw [mul_comm (_ + _), EReal.left_distrib_of_nonneg_of_ne_top (fac_nonneg j) (fac_ne_top j), ← mul_assoc, ← mul_assoc,
    mul_comm (fac j), mul_comm (fac j)]

/-- A factor may go into a difference of products. -/
theorem fac_sub (j : ℕ) (a b c d : EReal) : a * (c * fac j) - b * (d * fac j) = (a * c - b * d) * fac j := by
  rw [sub_eq_add_neg, sub_eq_add_neg, ← neg_mul, ← neg_mul, fac_add]

/-- The projection at an index. -/
theorem col_eq (r : Fin 16384) (j : Fin 12288) :
    (val_main_v2 (F := Ideal) x w (ix2 r j) : EReal) = col x w r.val j.val := by
  pointwise [val_main_v2, val_main_v1, val_main_v0]
  rw [col, dif_pos ⟨r.2, j.2⟩]

/-- The table of cosines at an index. -/
theorem co_eq (s : Fin 4096) (u : Fin 128) : (val_main_v18 (F := Ideal) (ix2 s u) : EReal) = co s.val u.val := by
  rw [co, dif_pos ⟨s.2, u.2⟩]

/-- The table of sines at an index. -/
theorem si_eq (s : Fin 4096) (u : Fin 128) : (val_main_v20 (F := Ideal) (ix2 s u) : EReal) = si s.val u.val := by
  rw [si, dif_pos ⟨s.2, u.2⟩]

/-- The reference's result at row `r` and column `j`. -/
def out (r j : ℕ) : EReal :=
  if j < 4096 then
    if j % 256 < 128 then
      (col x w r j * co (r % 4096) (j % 256) - col x w r (j + 128) * si (r % 4096) (j % 256)) * fac j
    else
      (col x w r j * co (r % 4096) (j % 256 - 128) + col x w r (j - 128) * si (r % 4096) (j % 256 - 128)) * fac j
  else if j < 8192 then col x w r j
  else col x w r j * Ideal.logistic (col x w r j)

/-- The first half of a query's or key's columns. -/
theorem out_lo {r j : ℕ} (h1 : j < 4096) (h2 : j % 256 < 128) : out x w r j
    = (col x w r j * co (r % 4096) (j % 256) - col x w r (j + 128) * si (r % 4096) (j % 256)) * fac j :=
  (if_pos h1).trans (if_pos h2)

/-- The second half of a query's or key's columns. -/
theorem out_hi {r j : ℕ} (h1 : j < 4096) (h2 : ¬j % 256 < 128) : out x w r j
    = (col x w r j * co (r % 4096) (j % 256 - 128) + col x w r (j - 128) * si (r % 4096) (j % 256 - 128)) * fac j :=
  (if_pos h1).trans (if_neg h2)

/-- The columns of the values. -/
theorem out_val {r j : ℕ} (h1 : ¬j < 4096) (h2 : j < 8192) : out x w r j = col x w r j :=
  (if_neg h1).trans (if_pos h2)

/-- The columns of the gate. -/
theorem out_gate {r j : ℕ} (h2 : ¬j < 8192) : out x w r j = col x w r j * Ideal.logistic (col x w r j) :=
  (if_neg (by omega)).trans (if_neg h2)

/-- The projection, in sequences. -/
theorem seq_apply (B : Fin 4) (S : Fin 4096) (j : Fin 12288) :
    (val_main_v3 (F := Ideal) x w (ix3 B S j) : EReal) = col x w (B.val * 4096 + S.val) j.val := by
  pointwise [val_main_v3]
  exact col_eq x w _ _

/-- The first half of a query. -/
theorem query_lo (B : Fin 4) (S : Fin 4096) (h : Fin 8) (u : Fin 256) (hu : u.val < 128) :
    (val_main_v40 (F := Ideal) x w (ix4 B S h u) : EReal)
      = col x w (B.val * 4096 + S.val) (h.val * 256 + u.val) * co S.val u.val
        - col x w (B.val * 4096 + S.val) (h.val * 256 + (128 + u.val)) * si S.val u.val := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19]
  rw [dif_pos hu, seq_apply, seq_apply, co_eq, si_eq]

/-- The second half of a query. -/
theorem query_hi (B : Fin 4) (S : Fin 4096) (h : Fin 8) (u : Fin 256) (hu : ¬u.val < 128) :
    (val_main_v40 (F := Ideal) x w (ix4 B S h u) : EReal)
      = col x w (B.val * 4096 + S.val) (h.val * 256 + (128 + (u.val - 128))) * co S.val (u.val - 128)
        + col x w (B.val * 4096 + S.val) (h.val * 256 + (u.val - 128)) * si S.val (u.val - 128) := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v19]
  rw [dif_neg hu, seq_apply, seq_apply, co_eq, si_eq]

/-- The first half of a key. -/
theorem key_lo (B : Fin 4) (S : Fin 4096) (h : Fin 8) (u : Fin 256) (hu : u.val < 128) :
    (val_main_v62 (F := Ideal) x w (ix4 B S h u) : EReal)
      = col x w (B.val * 4096 + S.val) (2048 + (h.val * 256 + u.val)) * co S.val u.val
        - col x w (B.val * 4096 + S.val) (2048 + (h.val * 256 + (128 + u.val))) * si S.val u.val := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v21, val_main_v19]
  rw [dif_pos hu, seq_apply, seq_apply, co_eq, si_eq]

/-- The second half of a key. -/
theorem key_hi (B : Fin 4) (S : Fin 4096) (h : Fin 8) (u : Fin 256) (hu : ¬u.val < 128) :
    (val_main_v62 (F := Ideal) x w (ix4 B S h u) : EReal)
      = col x w (B.val * 4096 + S.val) (2048 + (h.val * 256 + (128 + (u.val - 128)))) * co S.val (u.val - 128)
        + col x w (B.val * 4096 + S.val) (2048 + (h.val * 256 + (u.val - 128))) * si S.val (u.val - 128) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v21, val_main_v19]
  rw [dif_neg hu, seq_apply, seq_apply, co_eq, si_eq]

/-- The queries. -/
theorem query (B : Fin 4) (S : Fin 4096) (j : Fin 2048) (r : ℕ) (kr : B.val * 4096 + S.val = r) :
    (val_main_v43 (F := Ideal) x w (ix3 B S j) : EReal) = out x w r j.val := by
  have ks : S.val = r % 4096 := by omega
  have hj := j.2
  have hf : fac j.val = Ideal.ofBits .f32 0x3D800000#32 := if_pos hj
  by_cases h : j.val % 256 < 128
  · rw [out_lo x w (by omega) h, hf]
    pointwise [val_main_v43, val_main_v42, val_main_v41, val_main_cst_2]
    rw [query_lo x w _ _ _ _ h]
    dsimp only
    rw [kr, ks, show j.val / 256 * 256 + j.val % 256 = j.val by omega,
      show j.val / 256 * 256 + (128 + j.val % 256) = j.val + 128 by omega]
  · rw [out_hi x w (by omega) h, hf]
    pointwise [val_main_v43, val_main_v42, val_main_v41, val_main_cst_2]
    rw [query_hi x w _ _ _ _ h]
    dsimp only
    rw [kr, ks, show j.val / 256 * 256 + (128 + (j.val % 256 - 128)) = j.val by omega,
      show j.val / 256 * 256 + (j.val % 256 - 128) = j.val - 128 by omega]

/-- The keys. -/
theorem key (B : Fin 4) (S : Fin 4096) (j : Fin 2048) (r : ℕ) (kr : B.val * 4096 + S.val = r) (J : ℕ) (kJ : J = 2048 + j.val) :
    (val_main_v63 (F := Ideal) x w (ix3 B S j) : EReal) = out x w r J := by
  have ks : S.val = r % 4096 := by omega
  have hj := j.2
  have hf : fac J = 1 := if_neg (by omega)
  have hm : J % 256 = j.val % 256 := by omega
  by_cases h : j.val % 256 < 128
  · rw [out_lo x w (by omega) (by omega), hf, mul_one]
    pointwise [val_main_v63]
    rw [key_lo x w _ _ _ _ h]
    dsimp only
    rw [kr, ks, hm, show 2048 + (j.val / 256 * 256 + j.val % 256) = J by omega,
      show 2048 + (j.val / 256 * 256 + (128 + j.val % 256)) = J + 128 by omega]
  · rw [out_hi x w (by omega) (by omega), hf, mul_one]
    pointwise [val_main_v63]
    rw [key_hi x w _ _ _ _ h]
    dsimp only
    rw [kr, ks, hm, show 2048 + (j.val / 256 * 256 + (128 + (j.val % 256 - 128))) = J by omega,
      show 2048 + (j.val / 256 * 256 + (j.val % 256 - 128)) = J - 128 by omega]

/-- The values. -/
theorem value (B : Fin 4) (S : Fin 4096) (j : Fin 4096) (r : ℕ) (kr : B.val * 4096 + S.val = r) (J : ℕ) (kJ : J = 4096 + j.val) :
    (val_main_v64 (F := Ideal) x w (ix3 B S j) : EReal) = out x w r J := by
  have hj := j.2
  rw [out_val x w (by omega) (by omega)]
  pointwise [val_main_v64]
  rw [seq_apply]
  dsimp only
  rw [kr, kJ]

/-- The gate. -/
theorem gate (B : Fin 4) (S : Fin 4096) (j : Fin 4096) (r : ℕ) (kr : B.val * 4096 + S.val = r) (J : ℕ) (kJ : J = 8192 + j.val) :
    (val_main_v66 (F := Ideal) x w (ix3 B S j) : EReal) = out x w r J := by
  have hj := j.2
  rw [out_gate x w (by omega)]
  pointwise [val_main_v66, val_main_v65, val_main_call0_v5, val_main_call0_v4, val_main_call0_cst_0, val_main_call0_v3, val_main_call0_v2, val_main_call0_cst, val_main_call0_v1, val_main_call0_v0]
  rw [seq_apply]
  dsimp only
  rw [kr, ← kJ]
  rfl

/-- All of them. -/
theorem ref_read (B : Fin 4) (S : Fin 4096) (j : Fin 12288) (hb : B.val * 4096 + S.val < 16384) (r : ℕ)
    (kr : B.val * 4096 + S.val = r) :
    (val_main_v69 (F := Ideal) x w (ix2 ⟨B.val * 4096 + S.val, hb⟩ j) : EReal) = out x w r j.val := by
  generalize hO : out x w r j.val = O
  pointwise [val_main_v69, val_main_v68, val_main_v67]
  subst hO
  by_cases h1 : j.val < 2048
  · rw [dif_pos h1]; exact query x w B S ⟨j.val, h1⟩ r kr
  rw [dif_neg h1]
  by_cases h2 : j.val - 2048 < 2048
  · rw [dif_pos h2]; exact key x w B S ⟨j.val - 2048, h2⟩ r kr _ (by show j.val = 2048 + (j.val - 2048); omega)
  rw [dif_neg h2]
  by_cases h3 : j.val - 2048 - 2048 < 4096
  · rw [dif_pos h3]; exact value x w B S ⟨j.val - 2048 - 2048, h3⟩ r kr _ (by show j.val = 4096 + (j.val - 2048 - 2048); omega)
  · rw [dif_neg h3]; exact gate x w B S ⟨j.val - 2048 - 2048 - 4096, by omega⟩ r kr _ (by show j.val = 8192 + (j.val - 2048 - 2048 - 4096); omega)

/-- It is that. -/
theorem ref_apply (i : S16384x12288.Idx) (r j : ℕ) (e0 : (i 0).val = r) (e1 : (i 1).val = j) :
    (val_main_v69 (F := Ideal) x w i : EReal) = out x w r j := by
  have hr : r < 16384 := e0 ▸ (i 0).2
  have hj : j < 12288 := e1 ▸ (i 1).2
  have hb : r / 4096 < 4 := by omega
  have hs : r % 4096 < 4096 := by omega
  have hi : r / 4096 * 4096 + r % 4096 = r := by omega
  refine Eq.trans (congrArg (val_main_v69 (F := Ideal) x w) ?_) (ref_read x w ⟨r / 4096, hb⟩ ⟨r % 4096, hs⟩ ⟨j, hj⟩ (by show r / 4096 * 4096 + r % 4096 < 16384; omega) r hi)
  funext a
  refine Fin.ext ?_
  match a with
  | ⟨0, _⟩ => exact e0.trans hi.symm
  | ⟨1, _⟩ => exact e1

end Cert.Reference2Ideal.RetRef

end
-- ==== Proof.Rotary.lean ====
/- The projection of the retention's input: the result array of the call is the reference's array. -/
module

public import proofs.«01_k».proof.Proof.Gen.Kernel2Ideal.Value
public import proofs.«01_k».proof.Proof.RetRef

@[expose] public section

set_option maxRecDepth 16384

noncomputable section

namespace Cert.Kernel2Ideal.Rotary

open Cert.Kernel2Ideal Cert.Kernel2Ideal.Gen Idealize.ShloMosaic Idealize.ShloMosaic.Pipeline Cert.Reference2Ideal.RetRef

variable (m : (ℓ : Loc nD τ sig) → Buf (Elt Ideal) ℓ)

set_option maxHeartbeats 2000000 in
/-- The host's table of cosines is the reference's. -/
theorem V_cos (c : Dev nD) : V m c main_v14 = Cert.Reference2Ideal.Read.val_main_v18 (F := Ideal) := by
  unfold V
  after_results <;> rfl

set_option maxHeartbeats 2000000 in
/-- The host's table of sines is the reference's. -/
theorem V_sin (c : Dev nD) : V m c main_v15 = Cert.Reference2Ideal.Read.val_main_v20 (F := Ideal) := by
  unfold V
  after_results <;> rfl

/-- The blocks of the rows, the weight, the tables and the result at a grid point. -/
theorem idx : ∀ t : Fin cfg0.N,
    win0_0.index t = ![(grid0.coords t 0).val, 0]
    ∧ win0_1.index t = ![0, (grid0.coords t 1).val]
    ∧ win0_2.index t = ![(grid0.coords t 0).val % 4, 0]
    ∧ win0_3.index t = ![(grid0.coords t 0).val % 4, 0]
    ∧ win0_7.index t = ![(grid0.coords t 0).val, (grid0.coords t 1).val] :=
  (by decide +kernel : ∀ t : Fin grid0.N, _)

/-- The grid has 16 blocks of rows and 12 blocks of columns, the columns inside. -/
theorem bounds : ∀ t : Fin cfg0.N, (grid0.coords t 0).val < 16 ∧ (grid0.coords t 1).val < 12 ∧ (grid0.coords t 1).val = t.val % 12 :=
  (by decide +kernel : ∀ t : Fin grid0.N, _)

/-- The projection at an index of a block. -/
theorem proj_at (c : Dev nD) (t : Fin cfg0.N) (a q : Fin 1024) :
    (k0_pay24 (iblk m c 0 t) (iblk m c 1 t) (ix2 a q) : EReal)
      = col (m ((c.tc : Thread nD τ).loc main_arg0)) (m ((c.tc : Thread nD τ).loc main_arg1))
          ((grid0.coords t 0).val * 1024 + a.val) ((grid0.coords t 1).val * 1024 + q.val) := by
  obtain ⟨b0, b1, -⟩ := bounds t
  rw [col, dif_pos ⟨by omega, by omega⟩]
  pointwise [k0_pay24]
  refine Finset.sum_congr rfl fun k _ => congrArg₂ (· * ·) ?_ ?_
  · blk_ext [iblk, V, idx t]
  · blk_ext [iblk, V, idx t]

/-- The cosines at an index of a block. -/
theorem co_at (c : Dev nD) (t : Fin cfg0.N) (a : Fin 1024) (u : Fin 128) :
    (iblk m c 2 t (ix2 a u) : EReal) = co (((grid0.coords t 0).val * 1024 + a.val) % 4096) u.val := by
  obtain ⟨b0, b1, -⟩ := bounds t
  refine Eq.trans ?_ ((congrFun (V_cos m c) (ix2 ⟨(grid0.coords t 0).val % 4 * 1024 + a.val, by omega⟩ u)).trans ((co_eq _ _).trans ?_))
  · blk_ext [iblk, idx t]
  · exact congrArg (fun n => co n u.val) (by show (grid0.coords t 0).val % 4 * 1024 + a.val = _; omega)

/-- The sines at an index of a block. -/
theorem si_at (c : Dev nD) (t : Fin cfg0.N) (a : Fin 1024) (u : Fin 128) :
    (iblk m c 3 t (ix2 a u) : EReal) = si (((grid0.coords t 0).val * 1024 + a.val) % 4096) u.val := by
  obtain ⟨b0, b1, -⟩ := bounds t
  refine Eq.trans ?_ ((congrFun (V_sin m c) (ix2 ⟨(grid0.coords t 0).val % 4 * 1024 + a.val, by omega⟩ u)).trans ((si_eq _ _).trans ?_))
  · blk_ext [iblk, idx t]
  · exact congrArg (fun n => si n u.val) (by show (grid0.coords t 0).val % 4 * 1024 + a.val = _; omega)

/-- The factor of a block of columns. -/
theorem fac_at : ∀ j : Fin 12, (k0_pay7 (F := Ideal) (BitVec.ofNat 32 j.val) : EReal) = fac (j.val * 1024) := by
  intro j
  have e : ∀ j : Fin 12, Scalar.cmpi .slt (BitVec.ofNat 32 j.val) 2#32 = if j.val < 2 then 1#1 else 0#1 := by decide
  unfold k0_pay7
  dsimp only
  rw [e j]
  by_cases h : j.val < 2
  · rw [if_pos h]
    exact (if_pos (by omega : j.val * 1024 < 2048)).symm
  · rw [if_neg h]
    exact one.trans (if_neg (by omega : ¬j.val * 1024 < 2048)).symm

/-- The factor of a column of a grid point's block. -/
theorem fac_block (t : Fin cfg0.N) (q : Fin 1024) :
    (k0_pay7 (F := Ideal) (BitVec.ofNat 32 (grid0.coords t 1).val) : EReal) = fac ((grid0.coords t 1).val * 1024 + q.val) := by
  obtain ⟨-, b1, -⟩ := bounds t
  rw [fac_at ⟨_, b1⟩]
  unfold fac
  dsimp only
  exact if_congr (by omega) rfl rfl

/-- The first half of a query or key, as the grid point computes it from its blocks `P` of the projection and `C`, `D` of the tables. -/
theorem lo_piece (c : Dev nD) (t : Fin cfg0.N) (ht : t.val % 12 ≤ 3) (P : S1024x1024.Idx → EReal) (C D : S1024x128.Idx → EReal) (f : EReal)
    (hP : P = k0_pay24 (iblk m c 0 t) (iblk m c 1 t)) (hC : C = iblk m c 2 t) (hD : D = iblk m c 3 t)
    (hf : f = k0_pay7 (F := Ideal) (BitVec.ofNat 32 (grid0.coords t 1).val)) (a : Fin 1024) (u : Fin 128) (q q' : Fin 1024)
    (hq : q.val % 256 = u.val) (hq' : q'.val = q.val + 128) :
    P (ix2 a q) * (C (ix2 a u) * f) - P (ix2 a q') * (D (ix2 a u) * f)
      = out (m ((c.tc : Thread nD τ).loc main_arg0)) (m ((c.tc : Thread nD τ).loc main_arg1))
          ((grid0.coords t 0).val * 1024 + a.val) ((grid0.coords t 1).val * 1024 + q.val) := by
  obtain ⟨b0, b1, b2⟩ := bounds t
  have p1 := (congrFun hP (ix2 a q)).trans (proj_at m c t a q)
  have p2 := (congrFun hP (ix2 a q')).trans (proj_at m c t a q')
  have p3 := (congrFun hC (ix2 a u)).trans (co_at m c t a u)
  have p4 := (congrFun hD (ix2 a u)).trans (si_at m c t a u)
  rw [p1, p2, p3, p4, hf.trans (fac_block t q), fac_sub, out_lo _ _ (by omega) (by omega)]
  have e1 : ((grid0.coords t 1).val * 1024 + q.val) % 256 = u.val := by omega
  have e2 : (grid0.coords t 1).val * 1024 + q'.val = (grid0.coords t 1).val * 1024 + q.val + 128 := by omega
  rw [e1, e2]

/-- The second half of a query or key, as the grid point computes it from its blocks `P` of the projection and `C`, `D` of the tables. -/
theorem hi_piece (c : Dev nD) (t : Fin cfg0.N) (ht : t.val % 12 ≤ 3) (P : S1024x1024.Idx → EReal) (C D : S1024x128.Idx → EReal) (f : EReal)
    (hP : P = k0_pay24 (iblk m c 0 t) (iblk m c 1 t)) (hC : C = iblk m c 2 t) (hD : D = iblk m c 3 t)
    (hf : f = k0_pay7 (F := Ideal) (BitVec.ofNat 32 (grid0.coords t 1).val)) (a : Fin 1024) (u : Fin 128) (q q' : Fin 1024)
    (hq : q.val % 256 = u.val + 128) (hq' : q.val = q'.val + 128) :
    P (ix2 a q) * (C (ix2 a u) * f) + P (ix2 a q') * (D (ix2 a u) * f)
      = out (m ((c.tc : Thread nD τ).loc main_arg0)) (m ((c.tc : Thread nD τ).loc main_arg1))
          ((grid0.coords t 0).val * 1024 + a.val) ((grid0.coords t 1).val * 1024 + q.val) := by
  obtain ⟨b0, b1, b2⟩ := bounds t
  have p1 := (congrFun hP (ix2 a q)).trans (proj_at m c t a q)
  have p2 := (congrFun hP (ix2 a q')).trans (proj_at m c t a q')
  have p3 := (congrFun hC (ix2 a u)).trans (co_at m c t a u)
  have p4 := (congrFun hD (ix2 a u)).trans (si_at m c t a u)
  rw [p1, p2, p3, p4, hf.trans (fac_block t q), fac_add, out_hi _ _ (by omega) (by omega)]
  have e1 : ((grid0.coords t 1).val * 1024 + q.val) % 256 - 128 = u.val := by omega
  have e2 : (grid0.coords t 1).val * 1024 + q'.val = (grid0.coords t 1).val * 1024 + q.val - 128 := by omega
  rw [e1, e2]

/-- The gate, as the grid point computes it. -/
theorem gate_piece (c : Dev nD) (t : Fin cfg0.N) (ht : 8 ≤ t.val % 12) (y : S1024x1024.Idx) :
    (k0_pay1 (k0_pay24 (iblk m c 0 t) (iblk m c 1 t)) y : EReal)
      = out (m ((c.tc : Thread nD τ).loc main_arg0)) (m ((c.tc : Thread nD τ).loc main_arg1))
          ((grid0.coords t 0).val * 1024 + (y 0).val) ((grid0.coords t 1).val * 1024 + (y 1).val) := by
  obtain ⟨b0, b1, b2⟩ := bounds t
  idx_vars y
  rw [out_gate _ _ (by omega)]
  have h := proj_at m c t y0 y1
  generalize k0_pay24 (iblk m c 0 t) (iblk m c 1 t) = P at h ⊢
  refine Eq.trans ?_ (congrArg (fun z : EReal => z * Ideal.logistic z) h)
  pointwise [k0_pay1]

/-- The values, as the grid point computes them. -/
theorem value_piece (c : Dev nD) (t : Fin cfg0.N) (h1 : ¬8 ≤ t.val % 12) (h2 : ¬t.val % 12 ≤ 3) (y : S1024x1024.Idx) :
    (k0_pay25 (iblk m c 0 t) (iblk m c 1 t) y : EReal)
      = out (m ((c.tc : Thread nD τ).loc main_arg0)) (m ((c.tc : Thread nD τ).loc main_arg1))
          ((grid0.coords t 0).val * 1024 + (y 0).val) ((grid0.coords t 1).val * 1024 + (y 1).val) := by
  obtain ⟨b0, b1, b2⟩ := bounds t
  idx_vars y
  have hy : y1.val < 1024 := y1.2
  rw [out_val _ _ (by omega) (by omega)]
  refine Eq.trans ?_ (proj_at m c t y0 y1)
  pointwise [k0_pay25]

set_option maxHeartbeats 1000000 in
/-- The result array after the run is the reference's array. -/
theorem final (c : Dev nD) :
    (dats m 0 c).arrAt 7 (cfgs 0).N
      = Cert.Reference2Ideal.Read.val_main_v69 (F := Ideal) (m ((c.tc : Thread nD τ).loc main_arg0))
          (m ((c.tc : Thread nD τ).loc main_arg1)) := by
  refine (dats m 0 c).arrAt_eq_of_covers 7 _ (by decide +kernel) fun t _ y => ?_
  blk_simp
  rw [after0_7]
  have e0 : (((cfg0.win 7).blk t).view.emb y 0 : ℕ) = (grid0.coords t 0).val * 1024 + (y 0 : ℕ) := by
    blk_simp [idx t]
  have e1 : (((cfg0.win 7).blk t).view.emb y 1 : ℕ) = (grid0.coords t 1).val * 1024 + (y 1 : ℕ) := by
    blk_simp [idx t]
  refine Eq.trans ?_ (ref_apply _ _ ((win0_7.blk t).view.emb y) _ _ e0 e1).symm
  obtain ⟨b0, b1, b2⟩ := bounds t
  by_cases h2 : t.val % 12 ≤ 3
  · rw [outsAt0_A m c t (by omega) (by omega) h2]
    frame_out
    canon_tiles x h
    · rw [show (y 0 : ℕ) = x 0 from h0, show (y 1 : ℕ) = 896 + x 1 from h1]
      idx_vars x
      pointwise [k0_pay6, k0_pay2, k0_pay3, k0_pay4, k0_pay8, k0_pay9, k0_pay10, k0_pay11, k0_pay14, k0_pay15, k0_pay18, k0_pay19]
      exact hi_piece m c t h2 _ _ _ _ rfl rfl rfl rfl x0 x1 ⟨896 + x1, by omega⟩ ⟨768 + x1, by omega⟩ (by dsimp only; omega) (by dsimp only; omega)
    · rw [show (y 0 : ℕ) = x 0 from h0, show (y 1 : ℕ) = 768 + x 1 from h1]
      idx_vars x
      pointwise [k0_pay5, k0_pay2, k0_pay3, k0_pay4, k0_pay8, k0_pay9, k0_pay10, k0_pay11, k0_pay14, k0_pay15, k0_pay18, k0_pay19]
      exact lo_piece m c t h2 _ _ _ _ rfl rfl rfl rfl x0 x1 ⟨768 + x1, by omega⟩ ⟨896 + x1, by omega⟩ (by dsimp only; omega) (by dsimp only; omega)
    · rw [show (y 0 : ℕ) = x 0 from h0, show (y 1 : ℕ) = 640 + x 1 from h1]
      idx_vars x
      pointwise [k0_pay2, k0_pay2, k0_pay3, k0_pay4, k0_pay8, k0_pay9, k0_pay10, k0_pay11, k0_pay14, k0_pay15, k0_pay18, k0_pay19]
      exact hi_piece m c t h2 _ _ _ _ rfl rfl rfl rfl x0 x1 ⟨640 + x1, by omega⟩ ⟨512 + x1, by omega⟩ (by dsimp only; omega) (by dsimp only; omega)
    · rw [show (y 0 : ℕ) = x 0 from h0, show (y 1 : ℕ) = 512 + x 1 from h1]
      idx_vars x
      pointwise [k0_pay20, k0_pay2, k0_pay3, k0_pay4, k0_pay8, k0_pay9, k0_pay10, k0_pay11, k0_pay14, k0_pay15, k0_pay18, k0_pay19]
      exact lo_piece m c t h2 _ _ _ _ rfl rfl rfl rfl x0 x1 ⟨512 + x1, by omega⟩ ⟨640 + x1, by omega⟩ (by dsimp only; omega) (by dsimp only; omega)
    · rw [show (y 0 : ℕ) = x 0 from h0, show (y 1 : ℕ) = 384 + x 1 from h1]
      idx_vars x
      pointwise [k0_pay17, k0_pay2, k0_pay3, k0_pay4, k0_pay8, k0_pay9, k0_pay10, k0_pay11, k0_pay14, k0_pay15, k0_pay18, k0_pay19]
      exact hi_piece m c t h2 _ _ _ _ rfl rfl rfl rfl x0 x1 ⟨384 + x1, by omega⟩ ⟨256 + x1, by omega⟩ (by dsimp only; omega) (by dsimp only; omega)
    · rw [show (y 0 : ℕ) = x 0 from h0, show (y 1 : ℕ) = 256 + x 1 from h1]
      idx_vars x
      pointwise [k0_pay16, k0_pay2, k0_pay3, k0_pay4, k0_pay8, k0_pay9, k0_pay10, k0_pay11, k0_pay14, k0_pay15, k0_pay18, k0_pay19]
      exact lo_piece m c t h2 _ _ _ _ rfl rfl rfl rfl x0 x1 ⟨256 + x1, by omega⟩ ⟨384 + x1, by omega⟩ (by dsimp only; omega) (by dsimp only; omega)
    · rw [show (y 0 : ℕ) = x 0 from h0, show (y 1 : ℕ) = 128 + x 1 from h1]
      idx_vars x
      pointwise [k0_pay13, k0_pay2, k0_pay3, k0_pay4, k0_pay8, k0_pay9, k0_pay10, k0_pay11, k0_pay14, k0_pay15, k0_pay18, k0_pay19]
      exact hi_piece m c t h2 _ _ _ _ rfl rfl rfl rfl x0 x1 ⟨128 + x1, by omega⟩ ⟨x1, by omega⟩ (by dsimp only; omega) (by dsimp only; omega)
    · rw [show (y 0 : ℕ) = x 0 from h0, show (y 1 : ℕ) = x 1 from h1]
      idx_vars x
      pointwise [k0_pay12, k0_pay2, k0_pay3, k0_pay4, k0_pay8, k0_pay9, k0_pay10, k0_pay11, k0_pay14, k0_pay15, k0_pay18, k0_pay19]
      exact lo_piece m c t h2 _ _ _ _ rfl rfl rfl rfl x0 x1 ⟨x1, by omega⟩ ⟨128 + x1, by omega⟩ (by dsimp only; omega) (by dsimp only; omega)
  by_cases h1 : 8 ≤ t.val % 12
  · rw [outsAt0_C m c t (by omega) h1 h2]
    frame_out
    exact gate_piece m c t h1 y
  · rw [outsAt0_B m c t (by omega) h1 h2]
    frame_out
    exact value_piece m c t h1 h2 y

end Cert.Kernel2Ideal.Rotary

end
-- ==== Proof.Projection.lean ====
/- The input projection's result array: every block the grid writes is the product of a block of rows with a block of
   columns of the widened weight, which is the reference's array. -/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.Projection

open Cert.Kernel3Ideal Cert.Kernel3Ideal.Gen Idealize.ShloMosaic Idealize.ShloMosaic.Pipeline

/-- The weight with columns 3872–3903 and 3840–3871 once more behind it, and zeros behind those. -/
def pad (w : S2048x3904.Idx → EReal) (k : Fin 2048) (j : ℕ) : EReal :=
  if h : j < 3904 then w (ix2 k ⟨j, h⟩)
  else if h : j < 3936 then w (ix2 k ⟨j - 32, by omega⟩)
  else if h : j < 3968 then w (ix2 k ⟨j - 96, by omega⟩)
  else 0

/-- An early column. -/
theorem pad_lt (w : S2048x3904.Idx → EReal) (k : Fin 2048) {j : ℕ} (h : j < 3904) : pad w k j = w (ix2 k ⟨j, h⟩) := dif_pos h

/-- A column of the later half, once more. -/
theorem pad_hi (w : S2048x3904.Idx → EReal) (k : Fin 2048) {j : ℕ} (h : ¬j < 3904) (h' : j < 3936) (n : Fin 3904)
    (hn : n.val = j - 32) : pad w k j = w (ix2 k n) := by
  rw [pad, dif_neg h, dif_pos h']
  exact congrArg (fun n : Fin 3904 => w (ix2 k n)) (Fin.ext hn.symm)

/-- A column of the earlier half, once more. -/
theorem pad_lo (w : S2048x3904.Idx → EReal) (k : Fin 2048) {j : ℕ} (h : ¬j < 3936) (h' : j < 3968) (n : Fin 3904)
    (hn : n.val = j - 96) : pad w k j = w (ix2 k n) := by
  rw [pad, dif_neg (by omega), dif_neg h, dif_pos h']
  exact congrArg (fun n : Fin 3904 => w (ix2 k n)) (Fin.ext hn.symm)

/-- The columns behind those are zero. -/
theorem pad_zero (w : S2048x3904.Idx → EReal) (k : Fin 2048) {j : ℕ} (h : ¬j < 3968) : pad w k j = 0 := by
  rw [pad, dif_neg (by omega), dif_neg (by omega), dif_neg h]

variable (m : (ℓ : Loc nD τ sig) → Buf (Elt Ideal) ℓ)

/-- The array that the host code before the call makes of a weight. -/
def widened (w : FVec Ideal S2048x3904 .f32) : FVec Ideal S2048x4096 .bf16 :=
  truncf .bf16 (concatenate S2048x4096 1 [⟨S2048x3904, w⟩, ⟨S2048x64, concatenate S2048x64 1
    [⟨S2048x32, extractStridedSlice S2048x32 ![0, 32] (extractStridedSlice S2048x64 ![0, 3840] w slices_S2048x3904_S2048x64_0_3840) slices_S2048x64_S2048x32_0_32⟩,
     ⟨S2048x32, extractStridedSlice S2048x32 ![0, 0] (extractStridedSlice S2048x64 ![0, 3840] w slices_S2048x3904_S2048x64_0_3840) slices_S2048x64_S2048x32_0_0⟩]
    concatenates_S2048x32_S2048x32_S2048x64_d1⟩, ⟨S2048x128, broadcastInDim S2048x128 ![] bcast_S_S2048x128 (constant S_ .f32 0x00000000#32)⟩]
    concatenates_S2048x3904_S2048x64_S2048x128_S2048x4096_d1) bitsLt_bf16_f32

/-- It is the widened weight. -/
theorem widened_apply (w : S2048x3904.Idx → EReal) (k : Fin 2048) (j : Fin 4096) :
    (widened w (ix2 k j) : EReal) = pad w k j.val := by
  pointwise [widened]
  by_cases h1 : (j : ℕ) < 3904
  · rw [dif_pos h1]; exact (pad_lt w k h1).symm
  rw [dif_neg h1]
  by_cases h2 : (j : ℕ) - 3904 < 64
  · rw [dif_pos h2]
    by_cases h3 : (j : ℕ) - 3904 < 32
    · rw [dif_pos h3]; exact (pad_hi w k h1 (by omega) _ (by show 3840 + (32 + ((j : ℕ) - 3904)) = j - 32; omega)).symm
    · rw [dif_neg h3]; exact (pad_lo w k (by omega) (by omega) _ (by show 3840 + ((j : ℕ) - 3904 - 32) = j - 96; omega)).symm
  · rw [dif_neg h2]; exact (pad_zero w k (by omega)).symm

set_option maxHeartbeats 2000000 in
/-- The call finds it in its second operand. -/
theorem V_weight (c : Dev nD) : V m c main_v6 = widened (m ((c.tc : Thread nD τ).loc main_arg1)) := by
  unfold V
  after_results <;> rfl

/-- The call's second operand is the widened weight. -/
theorem weight (c : Dev nD) (k : Fin 2048) (j : Fin 4096) :
    (V m c main_v6 (ix2 k j) : EReal) = pad (m ((c.tc : Thread nD τ).loc main_arg1)) k j.val := by
  rw [V_weight]
  exact widened_apply _ k j

/-- The reference at an index: a row against a column of the widened weight. -/
theorem ref_apply (x : S16384x2048.Idx → EReal) (w : S2048x3904.Idx → EReal) (r : Fin 16384) (j : Fin 4096) :
    (Cert.Reference3Ideal.Read.val_main_v5 (F := Ideal) x w (ix2 r j) : EReal) = ∑ k : Fin 2048, x (ix2 r k) * pad w k j.val := by
  pointwise [Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst]
  by_cases h1 : (j : ℕ) < 3904
  · rw [dif_pos h1]; exact Finset.sum_congr rfl fun k _ => congrArg (_ * ·) (pad_lt w k h1).symm
  rw [dif_neg h1]
  by_cases h2 : (j : ℕ) - 3904 < 32
  · rw [dif_pos h2]; exact Finset.sum_congr rfl fun k _ => congrArg (_ * ·)
      (pad_hi w k h1 (by omega) _ (by show 3872 + ((j : ℕ) - 3904) = j - 32; omega)).symm
  rw [dif_neg h2]
  by_cases h3 : (j : ℕ) - 3904 - 32 < 32
  · rw [dif_pos h3]; exact Finset.sum_congr rfl fun k _ => congrArg (_ * ·)
      (pad_lo w k (by omega) (by omega) _ (by show 3840 + ((j : ℕ) - 3904 - 32) = j - 96; omega)).symm
  · rw [dif_neg h3]; exact (Finset.sum_eq_zero fun k _ => by rw [pad_zero w k (by omega), mul_zero]).symm

/-- The blocks of the rows, the weight and the result at a grid point. -/
theorem idx : ∀ t : Fin cfg0.N,
    win0_0.index t = ![(grid0.coords t 0).val, 0]
    ∧ win0_1.index t = ![0, (grid0.coords t 1).val]
    ∧ win0_3.index t = ![(grid0.coords t 0).val, (grid0.coords t 1).val] :=
  (by decide +kernel : ∀ t : Fin grid0.N, _)

/-- The grid has 16 blocks of rows and 4 blocks of columns. -/
theorem bounds : ∀ t : Fin cfg0.N, (grid0.coords t 0).val < 16 ∧ (grid0.coords t 1).val < 4 :=
  (by decide +kernel : ∀ t : Fin grid0.N, _)

/-- The result array after the run is the reference's array. -/
theorem final (c : Dev nD) :
    (dats m 0 c).arrAt 3 (cfgs 0).N
      = Cert.Reference3Ideal.Read.val_main_v5 (F := Ideal) (m ((c.tc : Thread nD τ).loc main_arg0))
          (m ((c.tc : Thread nD τ).loc main_arg1)) := by
  refine (dats m 0 c).arrAt_eq_of_covers 3 _ (by decide +kernel) fun t _ y => ?_
  blk_simp
  rw [after0_3]
  unfold out0_3
  canon_tiles x h
  have e0 : (((cfg0.win 3).blk t).view.emb y 0 : ℕ) = (grid0.coords t 0).val * 1024 + (y 0 : ℕ) := by
    blk_simp [idx t]
  have e1 : (((cfg0.win 3).blk t).view.emb y 1 : ℕ) = (grid0.coords t 1).val * 1024 + (y 1 : ℕ) := by
    blk_simp [idx t]
  have hx : ((win0_3.blk t).view.emb y) = ix2 ⟨(grid0.coords t 0).val * 1024 + (x 0 : ℕ), by have := (bounds t).1; omega⟩ ⟨(grid0.coords t 1).val * 1024 + (x 1 : ℕ), by have := (bounds t).2; omega⟩ := by
    funext a
    refine Fin.ext ?_
    match a with
    | ⟨0, _⟩ => exact e0.trans (by rw [h0]; rfl)
    | ⟨1, _⟩ => exact e1.trans (by rw [h1]; rfl)
  rw [hx, ref_apply]
  idx_vars x
  pointwise [k0_pay2]
  refine Finset.sum_congr rfl fun k _ => congrArg₂ (· * ·) ?_ (Eq.trans ?_
    (weight m c k ⟨(grid0.coords t 1).val * 1024 + x1, by have := (bounds t).2; omega⟩))
  · blk_ext [iblk, V, idx t]
  · blk_ext [iblk, idx t]

end Cert.Kernel3Ideal.Projection

end
-- ==== Proof.BodyKernel4.lean ====
module

public import proofs.«01_k».proof.Proof.Gen.Kernel4.Frame
public import proofs.«01_k».proof.Proof.Gen.Kernel4.Skeleton
public import Idealize.ShloMosaic.Lib.Claim
public import Idealize.ShloMosaic.Lib.UnfoldOut

@[expose] public section

set_option maxRecDepth 16384

noncomputable section

namespace Cert.Kernel4.Body

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

abbrev r0 : Rect S512x4096 := Rect.unit (s := S512x4096) ![0, 0] S256x4096.size inb_S512x4096_S256x4096_0_0
abbrev r1 : Rect S4096x2048 := Rect.unit (s := S4096x2048) ![0, 0] S4096x2048.size inb_S4096x2048_S4096x2048_0_0
abbrev r2 : Rect S512x2048 := Rect.unit (s := S512x2048) ![0, 0] S256x2048.size inb_S512x2048_S256x2048_0_0
abbrev r3 : Rect S1x2048 := Rect.unit (s := S1x2048) ![0, 0] S1x2048.size inb_S1x2048_S1x2048_0_0
abbrev r4 : Rect S4096x128 := (Rect.unit (s := S4096x128) ![0, 0] S2048x128.size inb_S4096x128_S2048x128_0_0).within ⟨⟨![0, 0], S256x128.size, ![8, 1], inb_S2048x128_S256x128_0_0_s_8_1⟩, spos_8_1⟩ (fun _ => rfl)
abbrev r5 : Rect S4096x128 := (Rect.unit (s := S4096x128) ![0, 0] S2048x128.size inb_S4096x128_S2048x128_0_0).within ⟨⟨![1, 0], S256x128.size, ![8, 1], inb_S2048x128_S256x128_1_0_s_8_1⟩, spos_8_1⟩ (fun _ => rfl)
abbrev r6 : Rect S4096x128 := (Rect.unit (s := S4096x128) ![0, 0] S2048x128.size inb_S4096x128_S2048x128_0_0).within ⟨⟨![2, 0], S256x128.size, ![8, 1], inb_S2048x128_S256x128_2_0_s_8_1⟩, spos_8_1⟩ (fun _ => rfl)
abbrev r7 : Rect S4096x128 := (Rect.unit (s := S4096x128) ![0, 0] S2048x128.size inb_S4096x128_S2048x128_0_0).within ⟨⟨![3, 0], S256x128.size, ![8, 1], inb_S2048x128_S256x128_3_0_s_8_1⟩, spos_8_1⟩ (fun _ => rfl)
abbrev r8 : Rect S4096x128 := (Rect.unit (s := S4096x128) ![0, 0] S2048x128.size inb_S4096x128_S2048x128_0_0).within ⟨⟨![4, 0], S256x128.size, ![8, 1], inb_S2048x128_S256x128_4_0_s_8_1⟩, spos_8_1⟩ (fun _ => rfl)
abbrev r9 : Rect S4096x128 := (Rect.unit (s := S4096x128) ![0, 0] S2048x128.size inb_S4096x128_S2048x128_0_0).within ⟨⟨![5, 0], S256x128.size, ![8, 1], inb_S2048x128_S256x128_5_0_s_8_1⟩, spos_8_1⟩ (fun _ => rfl)
abbrev r10 : Rect S4096x128 := (Rect.unit (s := S4096x128) ![0, 0] S2048x128.size inb_S4096x128_S2048x128_0_0).within ⟨⟨![6, 0], S256x128.size, ![8, 1], inb_S2048x128_S256x128_6_0_s_8_1⟩, spos_8_1⟩ (fun _ => rfl)
abbrev r11 : Rect S4096x128 := (Rect.unit (s := S4096x128) ![0, 0] S2048x128.size inb_S4096x128_S2048x128_0_0).within ⟨⟨![7, 0], S256x128.size, ![8, 1], inb_S2048x128_S256x128_7_0_s_8_1⟩, spos_8_1⟩ (fun _ => rfl)
abbrev r12 : Rect S512x4096 := Rect.unit (s := S512x4096) ![256, 0] S256x4096.size inb_S512x4096_S256x4096_256_0
abbrev r13 : Rect S512x2048 := Rect.unit (s := S512x2048) ![256, 0] S256x2048.size inb_S512x2048_S256x2048_256_0
abbrev r14 : Rect S4096x128 := (Rect.unit (s := S4096x128) ![2048, 0] S2048x128.size inb_S4096x128_S2048x128_2048_0).within ⟨⟨![0, 0], S256x128.size, ![8, 1], inb_S2048x128_S256x128_0_0_s_8_1⟩, spos_8_1⟩ (fun _ => rfl)
abbrev r15 : Rect S4096x128 := (Rect.unit (s := S4096x128) ![2048, 0] S2048x128.size inb_S4096x128_S2048x128_2048_0).within ⟨⟨![1, 0], S256x128.size, ![8, 1], inb_S2048x128_S256x128_1_0_s_8_1⟩, spos_8_1⟩ (fun _ => rfl)
abbrev r16 : Rect S4096x128 := (Rect.unit (s := S4096x128) ![2048, 0] S2048x128.size inb_S4096x128_S2048x128_2048_0).within ⟨⟨![2, 0], S256x128.size, ![8, 1], inb_S2048x128_S256x128_2_0_s_8_1⟩, spos_8_1⟩ (fun _ => rfl)
abbrev r17 : Rect S4096x128 := (Rect.unit (s := S4096x128) ![2048, 0] S2048x128.size inb_S4096x128_S2048x128_2048_0).within ⟨⟨![3, 0], S256x128.size, ![8, 1], inb_S2048x128_S256x128_3_0_s_8_1⟩, spos_8_1⟩ (fun _ => rfl)
abbrev r18 : Rect S4096x128 := (Rect.unit (s := S4096x128) ![2048, 0] S2048x128.size inb_S4096x128_S2048x128_2048_0).within ⟨⟨![4, 0], S256x128.size, ![8, 1], inb_S2048x128_S256x128_4_0_s_8_1⟩, spos_8_1⟩ (fun _ => rfl)
abbrev r19 : Rect S4096x128 := (Rect.unit (s := S4096x128) ![2048, 0] S2048x128.size inb_S4096x128_S2048x128_2048_0).within ⟨⟨![5, 0], S256x128.size, ![8, 1], inb_S2048x128_S256x128_5_0_s_8_1⟩, spos_8_1⟩ (fun _ => rfl)
abbrev r20 : Rect S4096x128 := (Rect.unit (s := S4096x128) ![2048, 0] S2048x128.size inb_S4096x128_S2048x128_2048_0).within ⟨⟨![6, 0], S256x128.size, ![8, 1], inb_S2048x128_S256x128_6_0_s_8_1⟩, spos_8_1⟩ (fun _ => rfl)
abbrev r21 : Rect S4096x128 := (Rect.unit (s := S4096x128) ![2048, 0] S2048x128.size inb_S4096x128_S2048x128_2048_0).within ⟨⟨![7, 0], S256x128.size, ![8, 1], inb_S2048x128_S256x128_7_0_s_8_1⟩, spos_8_1⟩ (fun _ => rfl)

/-! ## What the body leaves in each output's staging buffer

The pieces are listed last store first. The third output is filled row by row: the rows of a half congruent to `s`
modulo 8 by one strided store. -/

/-- The buffer of output 0 after the body, from the input blocks. -/
def out5 (x0 : Vec F S512x4096 .bf16) (x1 : Vec F S4096x2048 .bf16) (x2 : Vec F S512x2048 .f32) (x3 : Vec F S1x2048 .f32) (x4 : Vec F S1x2048 .f32) : Vec F S512x2048 .f32 :=
  View.canon [⟨r13, (k0_pay18 (View.ld x0 r12) (View.ld x1 r1) (View.ld x2 r13) (View.ld x3 r3) (View.ld x4 r3))⟩,
    ⟨r2, (k0_pay2 (View.ld x0 r0) (View.ld x1 r1) (View.ld x2 r2) (View.ld x3 r3) (View.ld x4 r3))⟩]

/-- Its stores cover it. -/
theorem cover5 (p0 : r13.shape.Idx → Elt F .f32) (p1 : r2.shape.Idx → Elt F .f32) (y : S512x2048.Idx) :
    ∃ pc ∈ ([⟨r13, p0⟩, ⟨r2, p1⟩] : List (View.Piece (Elt F) S512x2048 .f32)), y ∈ pc.1.set :=
  View.cover_of_tiled [⟨r13, p0⟩, ⟨r2, p1⟩] S256x2048.size (by rfl) y

/-- The buffer of output 1 after the body, from the input blocks. -/
def out6 (x0 : Vec F S512x4096 .bf16) (x1 : Vec F S4096x2048 .bf16) (x2 : Vec F S512x2048 .f32) (x3 : Vec F S1x2048 .f32) (x4 : Vec F S1x2048 .f32) : Vec F S512x2048 .bf16 :=
  View.canon [⟨r13, (k0_pay19 (k0_pay18 (View.ld x0 r12) (View.ld x1 r1) (View.ld x2 r13) (View.ld x3 r3) (View.ld x4 r3)))⟩,
    ⟨r2, (k0_pay3 (View.ld x0 r0) (View.ld x1 r1) (View.ld x2 r2) (View.ld x3 r3) (View.ld x4 r3))⟩]

/-- Its stores cover it. -/
theorem cover6 (p0 : r13.shape.Idx → Elt F .bf16) (p1 : r2.shape.Idx → Elt F .bf16) (y : S512x2048.Idx) :
    ∃ pc ∈ ([⟨r13, p0⟩, ⟨r2, p1⟩] : List (View.Piece (Elt F) S512x2048 .bf16)), y ∈ pc.1.set :=
  View.cover_of_tiled [⟨r13, p0⟩, ⟨r2, p1⟩] S256x2048.size (by rfl) y

/-- The buffer of output 2 after the body, from the input blocks. -/
def out7 (x0 : Vec F S512x4096 .bf16) (x1 : Vec F S4096x2048 .bf16) (x2 : Vec F S512x2048 .f32) (x3 : Vec F S1x2048 .f32) (x4 : Vec F S1x2048 .f32) : Vec F S4096x128 .i32 :=
  View.canon [⟨r21, (k0_pay1 (k0_pay31 (k0_pay18 (View.ld x0 r12) (View.ld x1 r1) (View.ld x2 r13) (View.ld x3 r3) (View.ld x4 r3))) (k0_pay32 (k0_pay18 (View.ld x0 r12) (View.ld x1 r1) (View.ld x2 r13) (View.ld x3 r3) (View.ld x4 r3))))⟩,
    ⟨r20, (k0_pay30 (k0_pay18 (View.ld x0 r12) (View.ld x1 r1) (View.ld x2 r13) (View.ld x3 r3) (View.ld x4 r3)))⟩,
    ⟨r19, (k0_pay29 (k0_pay18 (View.ld x0 r12) (View.ld x1 r1) (View.ld x2 r13) (View.ld x3 r3) (View.ld x4 r3)))⟩,
    ⟨r18, (k0_pay28 (k0_pay26 (k0_pay18 (View.ld x0 r12) (View.ld x1 r1) (View.ld x2 r13) (View.ld x3 r3) (View.ld x4 r3))) (k0_pay27 (k0_pay18 (View.ld x0 r12) (View.ld x1 r1) (View.ld x2 r13) (View.ld x3 r3) (View.ld x4 r3))))⟩,
    ⟨r17, (k0_pay25 (k0_pay18 (View.ld x0 r12) (View.ld x1 r1) (View.ld x2 r13) (View.ld x3 r3) (View.ld x4 r3)))⟩,
    ⟨r16, (k0_pay24 (k0_pay22 (k0_pay18 (View.ld x0 r12) (View.ld x1 r1) (View.ld x2 r13) (View.ld x3 r3) (View.ld x4 r3))) (k0_pay23 (k0_pay18 (View.ld x0 r12) (View.ld x1 r1) (View.ld x2 r13) (View.ld x3 r3) (View.ld x4 r3))))⟩,
    ⟨r15, (k0_pay21 (k0_pay18 (View.ld x0 r12) (View.ld x1 r1) (View.ld x2 r13) (View.ld x3 r3) (View.ld x4 r3)))⟩,
    ⟨r14, (k0_pay20 (k0_pay18 (View.ld x0 r12) (View.ld x1 r1) (View.ld x2 r13) (View.ld x3 r3) (View.ld x4 r3)))⟩,
    ⟨r11, (k0_pay17 (k0_pay15 (k0_pay2 (View.ld x0 r0) (View.ld x1 r1) (View.ld x2 r2) (View.ld x3 r3) (View.ld x4 r3))) (k0_pay16 (k0_pay2 (View.ld x0 r0) (View.ld x1 r1) (View.ld x2 r2) (View.ld x3 r3) (View.ld x4 r3))))⟩,
    ⟨r10, (k0_pay14 (k0_pay2 (View.ld x0 r0) (View.ld x1 r1) (View.ld x2 r2) (View.ld x3 r3) (View.ld x4 r3)))⟩,
    ⟨r9, (k0_pay13 (k0_pay2 (View.ld x0 r0) (View.ld x1 r1) (View.ld x2 r2) (View.ld x3 r3) (View.ld x4 r3)) (k0_pay12 (k0_pay2 (View.ld x0 r0) (View.ld x1 r1) (View.ld x2 r2) (View.ld x3 r3) (View.ld x4 r3))))⟩,
    ⟨r8, (k0_pay11 (k0_pay2 (View.ld x0 r0) (View.ld x1 r1) (View.ld x2 r2) (View.ld x3 r3) (View.ld x4 r3)))⟩,
    ⟨r7, (k0_pay10 (k0_pay2 (View.ld x0 r0) (View.ld x1 r1) (View.ld x2 r2) (View.ld x3 r3) (View.ld x4 r3)))⟩,
    ⟨r6, (k0_pay9 (k0_pay7 (k0_pay2 (View.ld x0 r0) (View.ld x1 r1) (View.ld x2 r2) (View.ld x3 r3) (View.ld x4 r3))) (k0_pay8 (k0_pay2 (View.ld x0 r0) (View.ld x1 r1) (View.ld x2 r2) (View.ld x3 r3) (View.ld x4 r3))))⟩,
    ⟨r5, (k0_pay6 (k0_pay2 (View.ld x0 r0) (View.ld x1 r1) (View.ld x2 r2) (View.ld x3 r3) (View.ld x4 r3)))⟩,
    ⟨r4, (k0_pay5 (k0_pay2 (View.ld x0 r0) (View.ld x1 r1) (View.ld x2 r2) (View.ld x3 r3) (View.ld x4 r3)) (k0_pay4 (View.ld x0 r0) (View.ld x1 r1) (View.ld x2 r2) (View.ld x3 r3) (View.ld x4 r3)))⟩]

theorem mem_r21 (y : S4096x128.Idx) (h : (y 0).val / 2048 = 1) (hs : (y 0).val % 8 = 7) : y ∈ r21.set := by
  refine r21.mem_set.mpr fun a => ?_
  have h0 : (y 0).val < 4096 := (y 0).isLt
  match a with
  | ⟨0, _⟩ => exact ⟨((y 0).val - 2048) / 8, by show _ < 256; omega, by show (y 0).val = 2048 + 1 * 7 + 1 * 8 * _; omega⟩
  | ⟨1, _⟩ => exact ⟨(y 1).val, (y 1).isLt, by show (y 1).val = 0 + 1 * 0 + 1 * 1 * _; omega⟩
theorem mem_r20 (y : S4096x128.Idx) (h : (y 0).val / 2048 = 1) (hs : (y 0).val % 8 = 6) : y ∈ r20.set := by
  refine r20.mem_set.mpr fun a => ?_
  have h0 : (y 0).val < 4096 := (y 0).isLt
  match a with
  | ⟨0, _⟩ => exact ⟨((y 0).val - 2048) / 8, by show _ < 256; omega, by show (y 0).val = 2048 + 1 * 6 + 1 * 8 * _; omega⟩
  | ⟨1, _⟩ => exact ⟨(y 1).val, (y 1).isLt, by show (y 1).val = 0 + 1 * 0 + 1 * 1 * _; omega⟩
theorem mem_r19 (y : S4096x128.Idx) (h : (y 0).val / 2048 = 1) (hs : (y 0).val % 8 = 5) : y ∈ r19.set := by
  refine r19.mem_set.mpr fun a => ?_
  have h0 : (y 0).val < 4096 := (y 0).isLt
  match a with
  | ⟨0, _⟩ => exact ⟨((y 0).val - 2048) / 8, by show _ < 256; omega, by show (y 0).val = 2048 + 1 * 5 + 1 * 8 * _; omega⟩
  | ⟨1, _⟩ => exact ⟨(y 1).val, (y 1).isLt, by show (y 1).val = 0 + 1 * 0 + 1 * 1 * _; omega⟩
theorem mem_r18 (y : S4096x128.Idx) (h : (y 0).val / 2048 = 1) (hs : (y 0).val % 8 = 4) : y ∈ r18.set := by
  refine r18.mem_set.mpr fun a => ?_
  have h0 : (y 0).val < 4096 := (y 0).isLt
  match a with
  | ⟨0, _⟩ => exact ⟨((y 0).val - 2048) / 8, by show _ < 256; omega, by show (y 0).val = 2048 + 1 * 4 + 1 * 8 * _; omega⟩
  | ⟨1, _⟩ => exact ⟨(y 1).val, (y 1).isLt, by show (y 1).val = 0 + 1 * 0 + 1 * 1 * _; omega⟩
theorem mem_r17 (y : S4096x128.Idx) (h : (y 0).val / 2048 = 1) (hs : (y 0).val % 8 = 3) : y ∈ r17.set := by
  refine r17.mem_set.mpr fun a => ?_
  have h0 : (y 0).val < 4096 := (y 0).isLt
  match a with
  | ⟨0, _⟩ => exact ⟨((y 0).val - 2048) / 8, by show _ < 256; omega, by show (y 0).val = 2048 + 1 * 3 + 1 * 8 * _; omega⟩
  | ⟨1, _⟩ => exact ⟨(y 1).val, (y 1).isLt, by show (y 1).val = 0 + 1 * 0 + 1 * 1 * _; omega⟩
theorem mem_r16 (y : S4096x128.Idx) (h : (y 0).val / 2048 = 1) (hs : (y 0).val % 8 = 2) : y ∈ r16.set := by
  refine r16.mem_set.mpr fun a => ?_
  have h0 : (y 0).val < 4096 := (y 0).isLt
  match a with
  | ⟨0, _⟩ => exact ⟨((y 0).val - 2048) / 8, by show _ < 256; omega, by show (y 0).val = 2048 + 1 * 2 + 1 * 8 * _; omega⟩
  | ⟨1, _⟩ => exact ⟨(y 1).val, (y 1).isLt, by show (y 1).val = 0 + 1 * 0 + 1 * 1 * _; omega⟩
theorem mem_r15 (y : S4096x128.Idx) (h : (y 0).val / 2048 = 1) (hs : (y 0).val % 8 = 1) : y ∈ r15.set := by
  refine r15.mem_set.mpr fun a => ?_
  have h0 : (y 0).val < 4096 := (y 0).isLt
  match a with
  | ⟨0, _⟩ => exact ⟨((y 0).val - 2048) / 8, by show _ < 256; omega, by show (y 0).val = 2048 + 1 * 1 + 1 * 8 * _; omega⟩
  | ⟨1, _⟩ => exact ⟨(y 1).val, (y 1).isLt, by show (y 1).val = 0 + 1 * 0 + 1 * 1 * _; omega⟩
theorem mem_r14 (y : S4096x128.Idx) (h : (y 0).val / 2048 = 1) (hs : (y 0).val % 8 = 0) : y ∈ r14.set := by
  refine r14.mem_set.mpr fun a => ?_
  have h0 : (y 0).val < 4096 := (y 0).isLt
  match a with
  | ⟨0, _⟩ => exact ⟨((y 0).val - 2048) / 8, by show _ < 256; omega, by show (y 0).val = 2048 + 1 * 0 + 1 * 8 * _; omega⟩
  | ⟨1, _⟩ => exact ⟨(y 1).val, (y 1).isLt, by show (y 1).val = 0 + 1 * 0 + 1 * 1 * _; omega⟩
theorem mem_r11 (y : S4096x128.Idx) (h : (y 0).val / 2048 = 0) (hs : (y 0).val % 8 = 7) : y ∈ r11.set := by
  refine r11.mem_set.mpr fun a => ?_
  have h0 : (y 0).val < 4096 := (y 0).isLt
  match a with
  | ⟨0, _⟩ => exact ⟨((y 0).val - 0) / 8, by show _ < 256; omega, by show (y 0).val = 0 + 1 * 7 + 1 * 8 * _; omega⟩
  | ⟨1, _⟩ => exact ⟨(y 1).val, (y 1).isLt, by show (y 1).val = 0 + 1 * 0 + 1 * 1 * _; omega⟩
theorem mem_r10 (y : S4096x128.Idx) (h : (y 0).val / 2048 = 0) (hs : (y 0).val % 8 = 6) : y ∈ r10.set := by
  refine r10.mem_set.mpr fun a => ?_
  have h0 : (y 0).val < 4096 := (y 0).isLt
  match a with
  | ⟨0, _⟩ => exact ⟨((y 0).val - 0) / 8, by show _ < 256; omega, by show (y 0).val = 0 + 1 * 6 + 1 * 8 * _; omega⟩
  | ⟨1, _⟩ => exact ⟨(y 1).val, (y 1).isLt, by show (y 1).val = 0 + 1 * 0 + 1 * 1 * _; omega⟩
theorem mem_r9 (y : S4096x128.Idx) (h : (y 0).val / 2048 = 0) (hs : (y 0).val % 8 = 5) : y ∈ r9.set := by
  refine r9.mem_set.mpr fun a => ?_
  have h0 : (y 0).val < 4096 := (y 0).isLt
  match a with
  | ⟨0, _⟩ => exact ⟨((y 0).val - 0) / 8, by show _ < 256; omega, by show (y 0).val = 0 + 1 * 5 + 1 * 8 * _; omega⟩
  | ⟨1, _⟩ => exact ⟨(y 1).val, (y 1).isLt, by show (y 1).val = 0 + 1 * 0 + 1 * 1 * _; omega⟩
theorem mem_r8 (y : S4096x128.Idx) (h : (y 0).val / 2048 = 0) (hs : (y 0).val % 8 = 4) : y ∈ r8.set := by
  refine r8.mem_set.mpr fun a => ?_
  have h0 : (y 0).val < 4096 := (y 0).isLt
  match a with
  | ⟨0, _⟩ => exact ⟨((y 0).val - 0) / 8, by show _ < 256; omega, by show (y 0).val = 0 + 1 * 4 + 1 * 8 * _; omega⟩
  | ⟨1, _⟩ => exact ⟨(y 1).val, (y 1).isLt, by show (y 1).val = 0 + 1 * 0 + 1 * 1 * _; omega⟩
theorem mem_r7 (y : S4096x128.Idx) (h : (y 0).val / 2048 = 0) (hs : (y 0).val % 8 = 3) : y ∈ r7.set := by
  refine r7.mem_set.mpr fun a => ?_
  have h0 : (y 0).val < 4096 := (y 0).isLt
  match a with
  | ⟨0, _⟩ => exact ⟨((y 0).val - 0) / 8, by show _ < 256; omega, by show (y 0).val = 0 + 1 * 3 + 1 * 8 * _; omega⟩
  | ⟨1, _⟩ => exact ⟨(y 1).val, (y 1).isLt, by show (y 1).val = 0 + 1 * 0 + 1 * 1 * _; omega⟩
theorem mem_r6 (y : S4096x128.Idx) (h : (y 0).val / 2048 = 0) (hs : (y 0).val % 8 = 2) : y ∈ r6.set := by
  refine r6.mem_set.mpr fun a => ?_
  have h0 : (y 0).val < 4096 := (y 0).isLt
  match a with
  | ⟨0, _⟩ => exact ⟨((y 0).val - 0) / 8, by show _ < 256; omega, by show (y 0).val = 0 + 1 * 2 + 1 * 8 * _; omega⟩
  | ⟨1, _⟩ => exact ⟨(y 1).val, (y 1).isLt, by show (y 1).val = 0 + 1 * 0 + 1 * 1 * _; omega⟩
theorem mem_r5 (y : S4096x128.Idx) (h : (y 0).val / 2048 = 0) (hs : (y 0).val % 8 = 1) : y ∈ r5.set := by
  refine r5.mem_set.mpr fun a => ?_
  have h0 : (y 0).val < 4096 := (y 0).isLt
  match a with
  | ⟨0, _⟩ => exact ⟨((y 0).val - 0) / 8, by show _ < 256; omega, by show (y 0).val = 0 + 1 * 1 + 1 * 8 * _; omega⟩
  | ⟨1, _⟩ => exact ⟨(y 1).val, (y 1).isLt, by show (y 1).val = 0 + 1 * 0 + 1 * 1 * _; omega⟩
theorem mem_r4 (y : S4096x128.Idx) (h : (y 0).val / 2048 = 0) (hs : (y 0).val % 8 = 0) : y ∈ r4.set := by
  refine r4.mem_set.mpr fun a => ?_
  have h0 : (y 0).val < 4096 := (y 0).isLt
  match a with
  | ⟨0, _⟩ => exact ⟨((y 0).val - 0) / 8, by show _ < 256; omega, by show (y 0).val = 0 + 1 * 0 + 1 * 8 * _; omega⟩
  | ⟨1, _⟩ => exact ⟨(y 1).val, (y 1).isLt, by show (y 1).val = 0 + 1 * 0 + 1 * 1 * _; omega⟩

/-- Its stores cover it: a row lies in its half, at its remainder modulo 8. -/
theorem cover7 (p0 : r21.shape.Idx → Elt F .i32) (p1 : r20.shape.Idx → Elt F .i32) (p2 : r19.shape.Idx → Elt F .i32) (p3 : r18.shape.Idx → Elt F .i32) (p4 : r17.shape.Idx → Elt F .i32) (p5 : r16.shape.Idx → Elt F .i32) (p6 : r15.shape.Idx → Elt F .i32) (p7 : r14.shape.Idx → Elt F .i32) (p8 : r11.shape.Idx → Elt F .i32) (p9 : r10.shape.Idx → Elt F .i32) (p10 : r9.shape.Idx → Elt F .i32) (p11 : r8.shape.Idx → Elt F .i32) (p12 : r7.shape.Idx → Elt F .i32) (p13 : r6.shape.Idx → Elt F .i32) (p14 : r5.shape.Idx → Elt F .i32) (p15 : r4.shape.Idx → Elt F .i32) (y : S4096x128.Idx) :
    ∃ pc ∈ ([⟨r21, p0⟩, ⟨r20, p1⟩, ⟨r19, p2⟩, ⟨r18, p3⟩, ⟨r17, p4⟩, ⟨r16, p5⟩, ⟨r15, p6⟩, ⟨r14, p7⟩, ⟨r11, p8⟩, ⟨r10, p9⟩, ⟨r9, p10⟩, ⟨r8, p11⟩, ⟨r7, p12⟩, ⟨r6, p13⟩, ⟨r5, p14⟩, ⟨r4, p15⟩] : List (View.Piece (Elt F) S4096x128 .i32)), y ∈ pc.1.set := by
  have h0 : (y 0).val < 4096 := (y 0).isLt
  have hh : (y 0).val / 2048 = 0 ∨ (y 0).val / 2048 = 1 := by omega
  have hs : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hh with h | h <;> rcases hs with g | g | g | g | g | g | g | g
  · exact ⟨_, .tail _ (.tail _ (.tail _ (.tail _ (.tail _ (.tail _ (.tail _ (.tail _ (.tail _ (.tail _ (.tail _ (.tail _ (.tail _ (.tail _ (.tail _ (.head _))))))))))))))), mem_r4 y h g⟩
  · exact ⟨_, .tail _ (.tail _ (.tail _ (.tail _ (.tail _ (.tail _ (.tail _ (.tail _ (.tail _ (.tail _ (.tail _ (.tail _ (.tail _ (.tail _ (.head _)))))))))))))), mem_r5 y h g⟩
  · exact ⟨_, .tail _ (.tail _ (.tail _ (.tail _ (.tail _ (.tail _ (.tail _ (.tail _ (.tail _ (.tail _ (.tail _ (.tail _ (.tail _ (.head _))))))))))))), mem_r6 y h g⟩
  · exact ⟨_, .tail _ (.tail _ (.tail _ (.tail _ (.tail _ (.tail _ (.tail _ (.tail _ (.tail _ (.tail _ (.tail _ (.tail _ (.head _)))))))))))), mem_r7 y h g⟩
  · exact ⟨_, .tail _ (.tail _ (.tail _ (.tail _ (.tail _ (.tail _ (.tail _ (.tail _ (.tail _ (.tail _ (.tail _ (.head _))))))))))), mem_r8 y h g⟩
  · exact ⟨_, .tail _ (.tail _ (.tail _ (.tail _ (.tail _ (.tail _ (.tail _ (.tail _ (.tail _ (.tail _ (.head _)))))))))), mem_r9 y h g⟩
  · exact ⟨_, .tail _ (.tail _ (.tail _ (.tail _ (.tail _ (.tail _ (.tail _ (.tail _ (.tail _ (.head _))))))))), mem_r10 y h g⟩
  · exact ⟨_, .tail _ (.tail _ (.tail _ (.tail _ (.tail _ (.tail _ (.tail _ (.tail _ (.head _)))))))), mem_r11 y h g⟩
  · exact ⟨_, .tail _ (.tail _ (.tail _ (.tail _ (.tail _ (.tail _ (.tail _ (.head _))))))), mem_r14 y h g⟩
  · exact ⟨_, .tail _ (.tail _ (.tail _ (.tail _ (.tail _ (.tail _ (.head _)))))), mem_r15 y h g⟩
  · exact ⟨_, .tail _ (.tail _ (.tail _ (.tail _ (.tail _ (.head _))))), mem_r16 y h g⟩
  · exact ⟨_, .tail _ (.tail _ (.tail _ (.tail _ (.head _)))), mem_r17 y h g⟩
  · exact ⟨_, .tail _ (.tail _ (.tail _ (.head _))), mem_r18 y h g⟩
  · exact ⟨_, .tail _ (.tail _ (.head _)), mem_r19 y h g⟩
  · exact ⟨_, .tail _ (.head _), mem_r20 y h g⟩
  · exact ⟨_, .head _, mem_r21 y h g⟩

/-! ## The body's triple -/

set_option maxHeartbeats 4000000 in
/-- The body, on whole staging buffers with the inputs at `x…` and the outputs at anything, leaves the inputs as they were
    and each output at `out…` of the inputs. -/
theorem sound_kernel (c : Dev nD) (E : Set ℕ) (i : grid0.Coords) (arg2 : Memref sig .tc .vmem S512x4096 .bf16) (harg2 : arg2.IsWhole) (arg3 : Memref sig .tc .vmem S4096x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S4096x128 .i32) (harg9 : arg9.IsWhole)
    (x0 : Vec F S512x4096 .bf16) (x1 : Vec F S4096x2048 .bf16) (x2 : Vec F S512x2048 .f32) (x3 : Vec F S1x2048 .f32) (x4 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5 x0 x1 x2 x3 x4) ∗ owns (c : Thread nD τ) arg8 fullShare (out6 x0 x1 x2 x3 x4) ∗ owns (c : Thread nD τ) arg9 fullShare (out7 x0 x1 x2 x3 x4)) -∗ K ⟨⟩))
      ⊢ wp frame (wpE (defs₀ (F := F)) Variants.none c none) E (cc0_proj_ln i arg2 harg2 arg3 harg3 arg4 harg4 arg5 harg5 arg6 harg6 arg7 harg7 arg8 harg8 arg9 harg9) K := by
  simp only [cc0_proj_ln_eq_skeleton]; unfold cc0_proj_ln_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _ _)
  isplitl [H6]
  · iexists _; isplitr
    swap; · iexact H6
    ipureintro
    exact View.read_writes_eq_canon _ _ _ (cover6 _ _)
  iexists _; isplitr
  swap; · iexact H7
  ipureintro
  exact View.read_writes_eq_canon _ _ _ (cover7 _ _ _ _ _ _ _ _ _ _ _ _ _ _ _ _)

/-! ## The pipeline's proof data -/

/-- The arrays as the call finds them; after the body each input's buffer at its block, each output's at `out…` of the
    input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
    | ⟨7, _⟩ => out7 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) (iblk m c 2 t) (iblk m c 3 t) (iblk m c 4 t) := by dsimp only [dats]
theorem after6 (c : Dev nD) (t : Fin cfg0.N) : (dats m 0 c).after 6 t = out6 (iblk m c 0 t) (iblk m c 1 t) (iblk m c 2 t) (iblk m c 3 t) (iblk m c 4 t) := by dsimp only [dats]
theorem after7 (c : Dev nD) (t : Fin cfg0.N) : (dats m 0 c).after 7 t = out7 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl, after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the call runs at point `t` is the printed one on that point's buffers. -/
theorem row_eq (t : Fin cfg0.N) : defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run: every array of the call ends at what the proof data computes, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

end Cert.Kernel4.Body

end
-- ==== Proof.BodyKernel4Ideal.lean ====
module

public import proofs.«01_k».proof.Proof.Gen.Kernel4Ideal.Frame
public import proofs.«01_k».proof.Proof.Gen.Kernel4Ideal.Skeleton
public import Idealize.ShloMosaic.Lib.Claim
public import Idealize.ShloMosaic.Lib.UnfoldOut

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

abbrev r0 : Rect S512x4096 := Rect.unit (s := S512x4096) ![0, 0] S256x4096.size inb_S512x4096_S256x4096_0_0
abbrev r1 : Rect S4096x2048 := Rect.unit (s := S4096x2048) ![0, 0] S4096x2048.size inb_S4096x2048_S4096x2048_0_0
abbrev r2 : Rect S512x2048 := Rect.unit (s := S512x2048) ![0, 0] S256x2048.size inb_S512x2048_S256x2048_0_0
abbrev r3 : Rect S1x2048 := Rect.unit (s := S1x2048) ![0, 0] S1x2048.size inb_S1x2048_S1x2048_0_0
abbrev r4 : Rect S4096x2x128 := (Rect.unit (s := S4096x2x128) ![0, 0, 0] S2048x2x128.size inb_S4096x2x128_S2048x2x128_0_0_0).within ⟨⟨![0, 0, 0], S256x2x128.size, ![8, 1, 1], inb_S2048x2x128_S256x2x128_0_0_0_s_8_1_1⟩, spos_8_1_1⟩ (fun _ => rfl)
abbrev r5 : Rect S4096x2x128 := (Rect.unit (s := S4096x2x128) ![0, 0, 0] S2048x2x128.size inb_S4096x2x128_S2048x2x128_0_0_0).within ⟨⟨![1, 0, 0], S256x2x128.size, ![8, 1, 1], inb_S2048x2x128_S256x2x128_1_0_0_s_8_1_1⟩, spos_8_1_1⟩ (fun _ => rfl)
abbrev r6 : Rect S4096x2x128 := (Rect.unit (s := S4096x2x128) ![0, 0, 0] S2048x2x128.size inb_S4096x2x128_S2048x2x128_0_0_0).within ⟨⟨![2, 0, 0], S256x2x128.size, ![8, 1, 1], inb_S2048x2x128_S256x2x128_2_0_0_s_8_1_1⟩, spos_8_1_1⟩ (fun _ => rfl)
abbrev r7 : Rect S4096x2x128 := (Rect.unit (s := S4096x2x128) ![0, 0, 0] S2048x2x128.size inb_S4096x2x128_S2048x2x128_0_0_0).within ⟨⟨![3, 0, 0], S256x2x128.size, ![8, 1, 1], inb_S2048x2x128_S256x2x128_3_0_0_s_8_1_1⟩, spos_8_1_1⟩ (fun _ => rfl)
abbrev r8 : Rect S4096x2x128 := (Rect.unit (s := S4096x2x128) ![0, 0, 0] S2048x2x128.size inb_S4096x2x128_S2048x2x128_0_0_0).within ⟨⟨![4, 0, 0], S256x2x128.size, ![8, 1, 1], inb_S2048x2x128_S256x2x128_4_0_0_s_8_1_1⟩, spos_8_1_1⟩ (fun _ => rfl)
abbrev r9 : Rect S4096x2x128 := (Rect.unit (s := S4096x2x128) ![0, 0, 0] S2048x2x128.size inb_S4096x2x128_S2048x2x128_0_0_0).within ⟨⟨![5, 0, 0], S256x2x128.size, ![8, 1, 1], inb_S2048x2x128_S256x2x128_5_0_0_s_8_1_1⟩, spos_8_1_1⟩ (fun _ => rfl)
abbrev r10 : Rect S4096x2x128 := (Rect.unit (s := S4096x2x128) ![0, 0, 0] S2048x2x128.size inb_S4096x2x128_S2048x2x128_0_0_0).within ⟨⟨![6, 0, 0], S256x2x128.size, ![8, 1, 1], inb_S2048x2x128_S256x2x128_6_0_0_s_8_1_1⟩, spos_8_1_1⟩ (fun _ => rfl)
abbrev r11 : Rect S4096x2x128 := (Rect.unit (s := S4096x2x128) ![0, 0, 0] S2048x2x128.size inb_S4096x2x128_S2048x2x128_0_0_0).within ⟨⟨![7, 0, 0], S256x2x128.size, ![8, 1, 1], inb_S2048x2x128_S256x2x128_7_0_0_s_8_1_1⟩, spos_8_1_1⟩ (fun _ => rfl)
abbrev r12 : Rect S512x4096 := Rect.unit (s := S512x4096) ![256, 0] S256x4096.size inb_S512x4096_S256x4096_256_0
abbrev r13 : Rect S512x2048 := Rect.unit (s := S512x2048) ![256, 0] S256x2048.size inb_S512x2048_S256x2048_256_0
abbrev r14 : Rect S4096x2x128 := (Rect.unit (s := S4096x2x128) ![2048, 0, 0] S2048x2x128.size inb_S4096x2x128_S2048x2x128_2048_0_0).within ⟨⟨![0, 0, 0], S256x2x128.size, ![8, 1, 1], inb_S2048x2x128_S256x2x128_0_0_0_s_8_1_1⟩, spos_8_1_1⟩ (fun _ => rfl)
abbrev r15 : Rect S4096x2x128 := (Rect.unit (s := S4096x2x128) ![2048, 0, 0] S2048x2x128.size inb_S4096x2x128_S2048x2x128_2048_0_0).within ⟨⟨![1, 0, 0], S256x2x128.size, ![8, 1, 1], inb_S2048x2x128_S256x2x128_1_0_0_s_8_1_1⟩, spos_8_1_1⟩ (fun _ => rfl)
abbrev r16 : Rect S4096x2x128 := (Rect.unit (s := S4096x2x128) ![2048, 0, 0] S2048x2x128.size inb_S4096x2x128_S2048x2x128_2048_0_0).within ⟨⟨![2, 0, 0], S256x2x128.size, ![8, 1, 1], inb_S2048x2x128_S256x2x128_2_0_0_s_8_1_1⟩, spos_8_1_1⟩ (fun _ => rfl)
abbrev r17 : Rect S4096x2x128 := (Rect.unit (s := S4096x2x128) ![2048, 0, 0] S2048x2x128.size inb_S4096x2x128_S2048x2x128_2048_0_0).within ⟨⟨![3, 0, 0], S256x2x128.size, ![8, 1, 1], inb_S2048x2x128_S256x2x128_3_0_0_s_8_1_1⟩, spos_8_1_1⟩ (fun _ => rfl)
abbrev r18 : Rect S4096x2x128 := (Rect.unit (s := S4096x2x128) ![2048, 0, 0] S2048x2x128.size inb_S4096x2x128_S2048x2x128_2048_0_0).within ⟨⟨![4, 0, 0], S256x2x128.size, ![8, 1, 1], inb_S2048x2x128_S256x2x128_4_0_0_s_8_1_1⟩, spos_8_1_1⟩ (fun _ => rfl)
abbrev r19 : Rect S4096x2x128 := (Rect.unit (s := S4096x2x128) ![2048, 0, 0] S2048x2x128.size inb_S4096x2x128_S2048x2x128_2048_0_0).within ⟨⟨![5, 0, 0], S256x2x128.size, ![8, 1, 1], inb_S2048x2x128_S256x2x128_5_0_0_s_8_1_1⟩, spos_8_1_1⟩ (fun _ => rfl)
abbrev r20 : Rect S4096x2x128 := (Rect.unit (s := S4096x2x128) ![2048, 0, 0] S2048x2x128.size inb_S4096x2x128_S2048x2x128_2048_0_0).within ⟨⟨![6, 0, 0], S256x2x128.size, ![8, 1, 1], inb_S2048x2x128_S256x2x128_6_0_0_s_8_1_1⟩, spos_8_1_1⟩ (fun _ => rfl)
abbrev r21 : Rect S4096x2x128 := (Rect.unit (s := S4096x2x128) ![2048, 0, 0] S2048x2x128.size inb_S4096x2x128_S2048x2x128_2048_0_0).within ⟨⟨![7, 0, 0], S256x2x128.size, ![8, 1, 1], inb_S2048x2x128_S256x2x128_7_0_0_s_8_1_1⟩, spos_8_1_1⟩ (fun _ => rfl)

/-! ## What the body leaves in each output's staging buffer

The pieces are listed last store first. The third output is filled row by row: the rows of a half congruent to `s`
modulo 8 by one strided store. -/

/-- The buffer of output 0 after the body, from the input blocks. -/
def out5 (x0 : Vec F S512x4096 .bf16) (x1 : Vec F S4096x2048 .bf16) (x2 : Vec F S512x2048 .f32) (x3 : Vec F S1x2048 .f32) (x4 : Vec F S1x2048 .f32) : Vec F S512x2048 .f32 :=
  View.canon [⟨r13, (k0_pay17 (k0_pay15 (View.ld x0 r12) (View.ld x1 r1) (View.ld x2 r13)) (k0_pay16 (View.ld x3 r3)) (View.ld x4 r3))⟩,
    ⟨r2, (k0_pay2 (View.ld x0 r0) (View.ld x1 r1) (View.ld x2 r2) (View.ld x3 r3) (View.ld x4 r3))⟩]

/-- Its stores cover it. -/
theorem cover5 (p0 : r13.shape.Idx → Elt F .f32) (p1 : r2.shape.Idx → Elt F .f32) (y : S512x2048.Idx) :
    ∃ pc ∈ ([⟨r13, p0⟩, ⟨r2, p1⟩] : List (View.Piece (Elt F) S512x2048 .f32)), y ∈ pc.1.set :=
  View.cover_of_tiled [⟨r13, p0⟩, ⟨r2, p1⟩] S256x2048.size (by rfl) y

/-- The buffer of output 1 after the body, from the input blocks. -/
def out6 (x0 : Vec F S512x4096 .bf16) (x1 : Vec F S4096x2048 .bf16) (x2 : Vec F S512x2048 .f32) (x3 : Vec F S1x2048 .f32) (x4 : Vec F S1x2048 .f32) : Vec F S512x2048 .bf16 :=
  View.canon [⟨r13, (k0_pay18 (k0_pay15 (View.ld x0 r12) (View.ld x1 r1) (View.ld x2 r13)) (k0_pay16 (View.ld x3 r3)) (View.ld x4 r3))⟩,
    ⟨r2, (k0_pay3 (View.ld x0 r0) (View.ld x1 r1) (View.ld x2 r2) (View.ld x3 r3) (View.ld x4 r3))⟩]

/-- Its stores cover it. -/
theorem cover6 (p0 : r13.shape.Idx → Elt F .bf16) (p1 : r2.shape.Idx → Elt F .bf16) (y : S512x2048.Idx) :
    ∃ pc ∈ ([⟨r13, p0⟩, ⟨r2, p1⟩] : List (View.Piece (Elt F) S512x2048 .bf16)), y ∈ pc.1.set :=
  View.cover_of_tiled [⟨r13, p0⟩, ⟨r2, p1⟩] S256x2048.size (by rfl) y

/-- The buffer of output 2 after the body, from the input blocks. -/
def out7 (x0 : Vec F S512x4096 .bf16) (x1 : Vec F S4096x2048 .bf16) (x2 : Vec F S512x2048 .f32) (x3 : Vec F S1x2048 .f32) (x4 : Vec F S1x2048 .f32) : Vec F S4096x2x128 .bf16 :=
  View.canon [⟨r21, (k0_pay1 (k0_pay30 (k0_pay17 (k0_pay15 (View.ld x0 r12) (View.ld x1 r1) (View.ld x2 r13)) (k0_pay16 (View.ld x3 r3)) (View.ld x4 r3))) (k0_pay31 (k0_pay17 (k0_pay15 (View.ld x0 r12) (View.ld x1 r1) (View.ld x2 r13)) (k0_pay16 (View.ld x3 r3)) (View.ld x4 r3))))⟩,
    ⟨r20, (k0_pay29 (k0_pay17 (k0_pay15 (View.ld x0 r12) (View.ld x1 r1) (View.ld x2 r13)) (k0_pay16 (View.ld x3 r3)) (View.ld x4 r3)))⟩,
    ⟨r19, (k0_pay28 (k0_pay17 (k0_pay15 (View.ld x0 r12) (View.ld x1 r1) (View.ld x2 r13)) (k0_pay16 (View.ld x3 r3)) (View.ld x4 r3)))⟩,
    ⟨r18, (k0_pay27 (k0_pay25 (k0_pay17 (k0_pay15 (View.ld x0 r12) (View.ld x1 r1) (View.ld x2 r13)) (k0_pay16 (View.ld x3 r3)) (View.ld x4 r3))) (k0_pay26 (k0_pay17 (k0_pay15 (View.ld x0 r12) (View.ld x1 r1) (View.ld x2 r13)) (k0_pay16 (View.ld x3 r3)) (View.ld x4 r3))))⟩,
    ⟨r17, (k0_pay24 (k0_pay17 (k0_pay15 (View.ld x0 r12) (View.ld x1 r1) (View.ld x2 r13)) (k0_pay16 (View.ld x3 r3)) (View.ld x4 r3)))⟩,
    ⟨r16, (k0_pay23 (k0_pay17 (k0_pay15 (View.ld x0 r12) (View.ld x1 r1) (View.ld x2 r13)) (k0_pay16 (View.ld x3 r3)) (View.ld x4 r3)))⟩,
    ⟨r15, (k0_pay22 (k0_pay20 (k0_pay15 (View.ld x0 r12) (View.ld x1 r1) (View.ld x2 r13)) (k0_pay16 (View.ld x3 r3)) (View.ld x4 r3)) (k0_pay21 (k0_pay15 (View.ld x0 r12) (View.ld x1 r1) (View.ld x2 r13)) (k0_pay16 (View.ld x3 r3)) (View.ld x4 r3)))⟩,
    ⟨r14, (k0_pay19 (k0_pay15 (View.ld x0 r12) (View.ld x1 r1) (View.ld x2 r13)) (k0_pay16 (View.ld x3 r3)) (View.ld x4 r3))⟩,
    ⟨r11, (k0_pay14 (k0_pay2 (View.ld x0 r0) (View.ld x1 r1) (View.ld x2 r2) (View.ld x3 r3) (View.ld x4 r3)))⟩,
    ⟨r10, (k0_pay13 (k0_pay2 (View.ld x0 r0) (View.ld x1 r1) (View.ld x2 r2) (View.ld x3 r3) (View.ld x4 r3)) (k0_pay12 (k0_pay2 (View.ld x0 r0) (View.ld x1 r1) (View.ld x2 r2) (View.ld x3 r3) (View.ld x4 r3))))⟩,
    ⟨r9, (k0_pay11 (k0_pay2 (View.ld x0 r0) (View.ld x1 r1) (View.ld x2 r2) (View.ld x3 r3) (View.ld x4 r3)))⟩,
    ⟨r8, (k0_pay10 (k0_pay2 (View.ld x0 r0) (View.ld x1 r1) (View.ld x2 r2) (View.ld x3 r3) (View.ld x4 r3)))⟩,
    ⟨r7, (k0_pay9 (k0_pay2 (View.ld x0 r0) (View.ld x1 r1) (View.ld x2 r2) (View.ld x3 r3) (View.ld x4 r3)) (k0_pay8 (k0_pay2 (View.ld x0 r0) (View.ld x1 r1) (View.ld x2 r2) (View.ld x3 r3) (View.ld x4 r3))))⟩,
    ⟨r6, (k0_pay7 (k0_pay2 (View.ld x0 r0) (View.ld x1 r1) (View.ld x2 r2) (View.ld x3 r3) (View.ld x4 r3)))⟩,
    ⟨r5, (k0_pay6 (k0_pay2 (View.ld x0 r0) (View.ld x1 r1) (View.ld x2 r2) (View.ld x3 r3) (View.ld x4 r3)))⟩,
    ⟨r4, (k0_pay5 (k0_pay2 (View.ld x0 r0) (View.ld x1 r1) (View.ld x2 r2) (View.ld x3 r3) (View.ld x4 r3)) (k0_pay4 (View.ld x0 r0) (View.ld x1 r1) (View.ld x2 r2) (View.ld x3 r3) (View.ld x4 r3)))⟩]

theorem mem_r21 (y : S4096x2x128.Idx) (h : (y 0).val / 2048 = 1) (hs : (y 0).val % 8 = 7) : y ∈ r21.set := by
  refine r21.mem_set.mpr fun a => ?_
  have h0 : (y 0).val < 4096 := (y 0).isLt
  match a with
  | ⟨0, _⟩ => exact ⟨((y 0).val - 2048) / 8, by show _ < 256; omega, by show (y 0).val = 2048 + 1 * 7 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r20 (y : S4096x2x128.Idx) (h : (y 0).val / 2048 = 1) (hs : (y 0).val % 8 = 6) : y ∈ r20.set := by
  refine r20.mem_set.mpr fun a => ?_
  have h0 : (y 0).val < 4096 := (y 0).isLt
  match a with
  | ⟨0, _⟩ => exact ⟨((y 0).val - 2048) / 8, by show _ < 256; omega, by show (y 0).val = 2048 + 1 * 6 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r19 (y : S4096x2x128.Idx) (h : (y 0).val / 2048 = 1) (hs : (y 0).val % 8 = 5) : y ∈ r19.set := by
  refine r19.mem_set.mpr fun a => ?_
  have h0 : (y 0).val < 4096 := (y 0).isLt
  match a with
  | ⟨0, _⟩ => exact ⟨((y 0).val - 2048) / 8, by show _ < 256; omega, by show (y 0).val = 2048 + 1 * 5 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r18 (y : S4096x2x128.Idx) (h : (y 0).val / 2048 = 1) (hs : (y 0).val % 8 = 4) : y ∈ r18.set := by
  refine r18.mem_set.mpr fun a => ?_
  have h0 : (y 0).val < 4096 := (y 0).isLt
  match a with
  | ⟨0, _⟩ => exact ⟨((y 0).val - 2048) / 8, by show _ < 256; omega, by show (y 0).val = 2048 + 1 * 4 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r17 (y : S4096x2x128.Idx) (h : (y 0).val / 2048 = 1) (hs : (y 0).val % 8 = 3) : y ∈ r17.set := by
  refine r17.mem_set.mpr fun a => ?_
  have h0 : (y 0).val < 4096 := (y 0).isLt
  match a with
  | ⟨0, _⟩ => exact ⟨((y 0).val - 2048) / 8, by show _ < 256; omega, by show (y 0).val = 2048 + 1 * 3 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r16 (y : S4096x2x128.Idx) (h : (y 0).val / 2048 = 1) (hs : (y 0).val % 8 = 2) : y ∈ r16.set := by
  refine r16.mem_set.mpr fun a => ?_
  have h0 : (y 0).val < 4096 := (y 0).isLt
  match a with
  | ⟨0, _⟩ => exact ⟨((y 0).val - 2048) / 8, by show _ < 256; omega, by show (y 0).val = 2048 + 1 * 2 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r15 (y : S4096x2x128.Idx) (h : (y 0).val / 2048 = 1) (hs : (y 0).val % 8 = 1) : y ∈ r15.set := by
  refine r15.mem_set.mpr fun a => ?_
  have h0 : (y 0).val < 4096 := (y 0).isLt
  match a with
  | ⟨0, _⟩ => exact ⟨((y 0).val - 2048) / 8, by show _ < 256; omega, by show (y 0).val = 2048 + 1 * 1 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r14 (y : S4096x2x128.Idx) (h : (y 0).val / 2048 = 1) (hs : (y 0).val % 8 = 0) : y ∈ r14.set := by
  refine r14.mem_set.mpr fun a => ?_
  have h0 : (y 0).val < 4096 := (y 0).isLt
  match a with
  | ⟨0, _⟩ => exact ⟨((y 0).val - 2048) / 8, by show _ < 256; omega, by show (y 0).val = 2048 + 1 * 0 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r11 (y : S4096x2x128.Idx) (h : (y 0).val / 2048 = 0) (hs : (y 0).val % 8 = 7) : y ∈ r11.set := by
  refine r11.mem_set.mpr fun a => ?_
  have h0 : (y 0).val < 4096 := (y 0).isLt
  match a with
  | ⟨0, _⟩ => exact ⟨((y 0).val - 0) / 8, by show _ < 256; omega, by show (y 0).val = 0 + 1 * 7 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r10 (y : S4096x2x128.Idx) (h : (y 0).val / 2048 = 0) (hs : (y 0).val % 8 = 6) : y ∈ r10.set := by
  refine r10.mem_set.mpr fun a => ?_
  have h0 : (y 0).val < 4096 := (y 0).isLt
  match a with
  | ⟨0, _⟩ => exact ⟨((y 0).val - 0) / 8, by show _ < 256; omega, by show (y 0).val = 0 + 1 * 6 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r9 (y : S4096x2x128.Idx) (h : (y 0).val / 2048 = 0) (hs : (y 0).val % 8 = 5) : y ∈ r9.set := by
  refine r9.mem_set.mpr fun a => ?_
  have h0 : (y 0).val < 4096 := (y 0).isLt
  match a with
  | ⟨0, _⟩ => exact ⟨((y 0).val - 0) / 8, by show _ < 256; omega, by show (y 0).val = 0 + 1 * 5 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r8 (y : S4096x2x128.Idx) (h : (y 0).val / 2048 = 0) (hs : (y 0).val % 8 = 4) : y ∈ r8.set := by
  refine r8.mem_set.mpr fun a => ?_
  have h0 : (y 0).val < 4096 := (y 0).isLt
  match a with
  | ⟨0, _⟩ => exact ⟨((y 0).val - 0) / 8, by show _ < 256; omega, by show (y 0).val = 0 + 1 * 4 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r7 (y : S4096x2x128.Idx) (h : (y 0).val / 2048 = 0) (hs : (y 0).val % 8 = 3) : y ∈ r7.set := by
  refine r7.mem_set.mpr fun a => ?_
  have h0 : (y 0).val < 4096 := (y 0).isLt
  match a with
  | ⟨0, _⟩ => exact ⟨((y 0).val - 0) / 8, by show _ < 256; omega, by show (y 0).val = 0 + 1 * 3 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r6 (y : S4096x2x128.Idx) (h : (y 0).val / 2048 = 0) (hs : (y 0).val % 8 = 2) : y ∈ r6.set := by
  refine r6.mem_set.mpr fun a => ?_
  have h0 : (y 0).val < 4096 := (y 0).isLt
  match a with
  | ⟨0, _⟩ => exact ⟨((y 0).val - 0) / 8, by show _ < 256; omega, by show (y 0).val = 0 + 1 * 2 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r5 (y : S4096x2x128.Idx) (h : (y 0).val / 2048 = 0) (hs : (y 0).val % 8 = 1) : y ∈ r5.set := by
  refine r5.mem_set.mpr fun a => ?_
  have h0 : (y 0).val < 4096 := (y 0).isLt
  match a with
  | ⟨0, _⟩ => exact ⟨((y 0).val - 0) / 8, by show _ < 256; omega, by show (y 0).val = 0 + 1 * 1 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r4 (y : S4096x2x128.Idx) (h : (y 0).val / 2048 = 0) (hs : (y 0).val % 8 = 0) : y ∈ r4.set := by
  refine r4.mem_set.mpr fun a => ?_
  have h0 : (y 0).val < 4096 := (y 0).isLt
  match a with
  | ⟨0, _⟩ => exact ⟨((y 0).val - 0) / 8, by show _ < 256; omega, by show (y 0).val = 0 + 1 * 0 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩

/-- Its stores cover it: a row lies in its half, at its remainder modulo 8. -/
theorem cover7 (p0 : r21.shape.Idx → Elt F .bf16) (p1 : r20.shape.Idx → Elt F .bf16) (p2 : r19.shape.Idx → Elt F .bf16) (p3 : r18.shape.Idx → Elt F .bf16) (p4 : r17.shape.Idx → Elt F .bf16) (p5 : r16.shape.Idx → Elt F .bf16) (p6 : r15.shape.Idx → Elt F .bf16) (p7 : r14.shape.Idx → Elt F .bf16) (p8 : r11.shape.Idx → Elt F .bf16) (p9 : r10.shape.Idx → Elt F .bf16) (p10 : r9.shape.Idx → Elt F .bf16) (p11 : r8.shape.Idx → Elt F .bf16) (p12 : r7.shape.Idx → Elt F .bf16) (p13 : r6.shape.Idx → Elt F .bf16) (p14 : r5.shape.Idx → Elt F .bf16) (p15 : r4.shape.Idx → Elt F .bf16) (y : S4096x2x128.Idx) :
    ∃ pc ∈ ([⟨r21, p0⟩, ⟨r20, p1⟩, ⟨r19, p2⟩, ⟨r18, p3⟩, ⟨r17, p4⟩, ⟨r16, p5⟩, ⟨r15, p6⟩, ⟨r14, p7⟩, ⟨r11, p8⟩, ⟨r10, p9⟩, ⟨r9, p10⟩, ⟨r8, p11⟩, ⟨r7, p12⟩, ⟨r6, p13⟩, ⟨r5, p14⟩, ⟨r4, p15⟩] : List (View.Piece (Elt F) S4096x2x128 .bf16)), y ∈ pc.1.set := by
  have h0 : (y 0).val < 4096 := (y 0).isLt
  have hh : (y 0).val / 2048 = 0 ∨ (y 0).val / 2048 = 1 := by omega
  have hs : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hh with h | h <;> rcases hs with g | g | g | g | g | g | g | g
  · exact ⟨_, .tail _ (.tail _ (.tail _ (.tail _ (.tail _ (.tail _ (.tail _ (.tail _ (.tail _ (.tail _ (.tail _ (.tail _ (.tail _ (.tail _ (.tail _ (.head _))))))))))))))), mem_r4 y h g⟩
  · exact ⟨_, .tail _ (.tail _ (.tail _ (.tail _ (.tail _ (.tail _ (.tail _ (.tail _ (.tail _ (.tail _ (.tail _ (.tail _ (.tail _ (.tail _ (.head _)))))))))))))), mem_r5 y h g⟩
  · exact ⟨_, .tail _ (.tail _ (.tail _ (.tail _ (.tail _ (.tail _ (.tail _ (.tail _ (.tail _ (.tail _ (.tail _ (.tail _ (.tail _ (.head _))))))))))))), mem_r6 y h g⟩
  · exact ⟨_, .tail _ (.tail _ (.tail _ (.tail _ (.tail _ (.tail _ (.tail _ (.tail _ (.tail _ (.tail _ (.tail _ (.tail _ (.head _)))))))))))), mem_r7 y h g⟩
  · exact ⟨_, .tail _ (.tail _ (.tail _ (.tail _ (.tail _ (.tail _ (.tail _ (.tail _ (.tail _ (.tail _ (.tail _ (.head _))))))))))), mem_r8 y h g⟩
  · exact ⟨_, .tail _ (.tail _ (.tail _ (.tail _ (.tail _ (.tail _ (.tail _ (.tail _ (.tail _ (.tail _ (.head _)))))))))), mem_r9 y h g⟩
  · exact ⟨_, .tail _ (.tail _ (.tail _ (.tail _ (.tail _ (.tail _ (.tail _ (.tail _ (.tail _ (.head _))))))))), mem_r10 y h g⟩
  · exact ⟨_, .tail _ (.tail _ (.tail _ (.tail _ (.tail _ (.tail _ (.tail _ (.tail _ (.head _)))))))), mem_r11 y h g⟩
  · exact ⟨_, .tail _ (.tail _ (.tail _ (.tail _ (.tail _ (.tail _ (.tail _ (.head _))))))), mem_r14 y h g⟩
  · exact ⟨_, .tail _ (.tail _ (.tail _ (.tail _ (.tail _ (.tail _ (.head _)))))), mem_r15 y h g⟩
  · exact ⟨_, .tail _ (.tail _ (.tail _ (.tail _ (.tail _ (.head _))))), mem_r16 y h g⟩
  · exact ⟨_, .tail _ (.tail _ (.tail _ (.tail _ (.head _)))), mem_r17 y h g⟩
  · exact ⟨_, .tail _ (.tail _ (.tail _ (.head _))), mem_r18 y h g⟩
  · exact ⟨_, .tail _ (.tail _ (.head _)), mem_r19 y h g⟩
  · exact ⟨_, .tail _ (.head _), mem_r20 y h g⟩
  · exact ⟨_, .head _, mem_r21 y h g⟩

/-! ## The body's triple -/

set_option maxHeartbeats 4000000 in
/-- The body, on whole staging buffers with the inputs at `x…` and the outputs at anything, leaves the inputs as they were
    and each output at `out…` of the inputs. -/
theorem sound_kernel (c : Dev nD) (E : Set ℕ) (i : grid0.Coords) (arg2 : Memref sig .tc .vmem S512x4096 .bf16) (harg2 : arg2.IsWhole) (arg3 : Memref sig .tc .vmem S4096x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S4096x2x128 .bf16) (harg9 : arg9.IsWhole)
    (x0 : Vec F S512x4096 .bf16) (x1 : Vec F S4096x2048 .bf16) (x2 : Vec F S512x2048 .f32) (x3 : Vec F S1x2048 .f32) (x4 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5 x0 x1 x2 x3 x4) ∗ owns (c : Thread nD τ) arg8 fullShare (out6 x0 x1 x2 x3 x4) ∗ owns (c : Thread nD τ) arg9 fullShare (out7 x0 x1 x2 x3 x4)) -∗ K ⟨⟩))
      ⊢ wp frame (wpE (defs₀ (F := F)) Variants.none c none) E (cc0_proj_ln i arg2 harg2 arg3 harg3 arg4 harg4 arg5 harg5 arg6 harg6 arg7 harg7 arg8 harg8 arg9 harg9) K := by
  simp only [cc0_proj_ln_eq_skeleton]; unfold cc0_proj_ln_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5 _ _)
  isplitl [H6]
  · iexists _; isplitr
    swap; · iexact H6
    ipureintro
    exact View.read_writes_eq_canon _ _ _ (cover6 _ _)
  iexists _; isplitr
  swap; · iexact H7
  ipureintro
  exact View.read_writes_eq_canon _ _ _ (cover7 _ _ _ _ _ _ _ _ _ _ _ _ _ _ _ _)

/-! ## The pipeline's proof data -/

/-- The arrays as the call finds them; after the body each input's buffer at its block, each output's at `out…` of the
    input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
    | ⟨6, _⟩ => out6 (iblk m c 0 t) (iblk m c 1 t) (iblk m c 2 t) (iblk m c 3 t) (iblk m c 4 t)
    | ⟨7, _⟩ => out7 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 (iblk m c 0 t) (iblk m c 1 t) (iblk m c 2 t) (iblk m c 3 t) (iblk m c 4 t) := by dsimp only [dats]
theorem after6 (c : Dev nD) (t : Fin cfg0.N) : (dats m 0 c).after 6 t = out6 (iblk m c 0 t) (iblk m c 1 t) (iblk m c 2 t) (iblk m c 3 t) (iblk m c 4 t) := by dsimp only [dats]
theorem after7 (c : Dev nD) (t : Fin cfg0.N) : (dats m 0 c).after 7 t = out7 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl, after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the call runs at point `t` is the printed one on that point's buffers. -/
theorem row_eq (t : Fin cfg0.N) : defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run: every array of the call ends at what the proof data computes, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

end Cert.Kernel4Ideal.Body

end
-- ==== Proof.LayerNorm.lean ====
/- The layer norm of a row, as both the kernels and their references compute it. -/
module

public import Idealize.ShloMosaic.Lib.Pointwise

@[expose] public section

noncomputable section

namespace Cert.LayerNorm

open Idealize.ShloMosaic

/-- The mean of a row of 2048 entries: their sum over 2048. -/
def mean (z : Fin 2048 → EReal) : EReal := Ideal.div (∑ j, z j) (Ideal.ofBits FTy.f32 1157627904#32)

/-- The layer norm of a row, with a gain and a bias, at one of its entries: the entry less the mean, times the
    reciprocal square root of the variance and the small constant. -/
def layerNorm (z : Fin 2048 → EReal) (g b : EReal) (j : Fin 2048) : EReal :=
  (z j - mean z) * Ideal.rsqrt (mean (fun k => (z k - mean z) * (z k - mean z)) + Ideal.ofBits FTy.f32 925353388#32) * g + b

/-- An entry of the stream with a projection added: the scaled residual and the product of a row and a column. -/
def stream {n : ℕ} (x : EReal) (a w : Fin n → EReal) : EReal :=
  Ideal.ofBits FTy.f32 1068827891#32 * x + ∑ k, a k * w k

/-- Rows and gains that agree have the same layer norm. -/
theorem layerNorm_congr {z z' : Fin 2048 → EReal} {g g' b b' : EReal} (hz : ∀ j, z j = z' j) (hg : g = g') (hb : b = b')
    (j : Fin 2048) : layerNorm z g b j = layerNorm z' g' b' j := by
  rw [show z = z' from funext hz, hg, hb]

/-- Entries that agree give the same residual. -/
theorem stream_congr {n : ℕ} {x x' : EReal} {a a' w w' : Fin n → EReal} (hx : x = x') (ha : ∀ k, a k = a' k)
    (hw : ∀ k, w k = w' k) : stream x a w = stream x' a' w' := by
  rw [hx, show a = a' from funext ha, show w = w' from funext hw]

/-- The same with the row and the column in two parts, each with its own product. -/
def stream2 {n : ℕ} (x : EReal) (a w b v : Fin n → EReal) : EReal :=
  Ideal.ofBits FTy.f32 1068827891#32 * x + (∑ k, a k * w k + ∑ k, b k * v k)

/-- Parts that agree give the same entry. -/
theorem stream2_congr {n : ℕ} {x x' : EReal} {a a' w w' b b' v v' : Fin n → EReal} (hx : x = x') (ha : ∀ k, a k = a' k)
    (hw : ∀ k, w k = w' k) (hb : ∀ k, b k = b' k) (hv : ∀ k, v k = v' k) : stream2 x a w b v = stream2 x' a' w' b' v' := by
  rw [hx, show a = a' from funext ha, show w = w' from funext hw, show b = b' from funext hb, show v = v' from funext hv]

end Cert.LayerNorm

end
-- ==== Proof.OddNorm.lean ====
/- The end of the retention layer's mixer: each block of rows the kernel computes is that block of the reference's
   array, both of the normalised stream and of its rounding. -/
module

public import proofs.«01_k».proof.Proof.BodyKernel4Ideal
public import proofs.«01_k».proof.Proof.LayerNorm
public import proofs.«01_k».proof.Proof.Gen.Reference4Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel4Ideal.Norm

open Cert.Kernel4Ideal Cert.Kernel4Ideal.Gen Cert.Kernel4Ideal.Body Cert.LayerNorm
open Idealize.ShloMosaic Idealize.ShloMosaic.Pipeline

/-- The first half of a block of rows. -/
theorem piece0 (v0 : S256x4096.Idx → EReal) (v1 : S4096x2048.Idx → EReal) (v3 : S256x2048.Idx → EReal)
    (v7 v9 : S1x2048.Idx → EReal) (r : Fin 256) (j : Fin 2048) :
    (k0_pay2 (F := Ideal) v0 v1 v3 v7 v9 (ix2 r j) : EReal)
      = layerNorm (fun i => stream (v3 (ix2 r i)) (fun k => v0 (ix2 r k)) (fun k => v1 (ix2 k i))) (v7 (ix2 0 j)) (v9 (ix2 0 j)) j := by
  unfold layerNorm mean stream
  pointwise [k0_pay2]

/-- The second half of a block of rows. -/
theorem piece1 (v0 : S256x4096.Idx → EReal) (v1 : S4096x2048.Idx → EReal) (v3 : S256x2048.Idx → EReal)
    (v7 v9 : S1x2048.Idx → EReal) (r : Fin 256) (j : Fin 2048) :
    (k0_pay17 (F := Ideal) (k0_pay15 v0 v1 v3) (k0_pay16 v7) v9 (ix2 r j) : EReal)
      = layerNorm (fun i => stream (v3 (ix2 r i)) (fun k => v0 (ix2 r k)) (fun k => v1 (ix2 k i))) (v7 (ix2 0 j)) (v9 (ix2 0 j)) j := by
  unfold layerNorm mean stream
  pointwise [k0_pay17, k0_pay15, k0_pay16]

open Cert.Reference4Ideal.Read in
/-- The reference at an index. -/
theorem ref_apply (x0 : S16384x4096.Idx → EReal) (x1 : S4096x2048.Idx → EReal) (x2 : S16384x2048.Idx → EReal)
    (x3 x4 : S2048.Idx → EReal) (r : Fin 16384) (j : Fin 2048) :
    (val_main_v27 (F := Ideal) x0 x1 x2 x3 x4 (ix2 r j) : EReal)
      = layerNorm (fun i => stream (x2 (ix2 r i)) (fun k => x0 (ix2 r k)) (fun k => x1 (ix2 k i))) (x3 (ix1 j)) (x4 (ix1 j)) j := by
  unfold layerNorm mean stream
  pointwise [val_main_cst, val_main_v0, val_main_v1, val_main_v2, val_main_v3, val_main_v4, val_main_v5, val_main_cst_0, val_main_v6, val_main_v7, val_main_cst_1, val_main_v8, val_main_v9, val_main_v10, val_main_v11, val_main_v12, val_main_cst_2, val_main_v13, val_main_v14, val_main_cst_3, val_main_v15, val_main_v16, val_main_cst_4, val_main_v17, val_main_v18, val_main_v19, val_main_v20, val_main_v21, val_main_v22, val_main_v23, val_main_v24, val_main_v25, val_main_v26, val_main_v27]

/-- The blocks at a grid point. -/
theorem idx : ∀ t : Fin cfg0.N,
    win0_0.index t = ![(grid0.coords t 0).val, 0] ∧ win0_1.index t = ![0, 0]
    ∧ win0_2.index t = ![(grid0.coords t 0).val, 0] ∧ win0_3.index t = ![0, 0] ∧ win0_4.index t = ![0, 0]
    ∧ win0_5.index t = ![(grid0.coords t 0).val, 0] ∧ win0_6.index t = ![(grid0.coords t 0).val, 0] :=
  (by decide +kernel : ∀ t : Fin grid0.N, _)

/-- The grid has 32 blocks of rows. -/
theorem bounds : ∀ t : Fin cfg0.N, (grid0.coords t 0).val < 32 :=
  (by decide +kernel : ∀ t : Fin grid0.N, _)

variable (m : (ℓ : Loc nD τ sig) → Buf (Elt Ideal) ℓ)

/-- The gain as the call finds it: a row. -/
theorem gain (c : Dev nD) (j : Fin 2048) :
    (V m c main_v0 (ix2 0 j) : EReal) = m ((c.tc : Thread nD τ).loc main_arg3) (ix1 j) := by
  rw [show V m c main_v0 = shapeCast S1x2048 (m ((c.tc : Thread nD τ).loc main_arg3)) (by rfl) from by unfold V; after_results <;> rfl]
  pointwise []

/-- The bias as the call finds it: a row. -/
theorem bias (c : Dev nD) (j : Fin 2048) :
    (V m c main_v1 (ix2 0 j) : EReal) = m ((c.tc : Thread nD τ).loc main_arg4) (ix1 j) := by
  rw [show V m c main_v1 = shapeCast S1x2048 (m ((c.tc : Thread nD τ).loc main_arg4)) (by rfl) from by unfold V; after_results <;> rfl]
  pointwise []

/-- A block of the rows. -/
theorem blk_rows (c : Dev nD) (t : Fin cfg0.N) (r : Fin 512) (k : Fin 4096) :
    (iblk m c 0 t (ix2 r k) : EReal)
      = m ((c.tc : Thread nD τ).loc main_arg0) (ix2 ⟨(grid0.coords t 0).val * 512 + r, by have := bounds t; omega⟩ k) := by
  unfold iblk
  rw [show V m c (arrRef spec0 0) = m ((c.tc : Thread nD τ).loc main_arg0) from V_main_arg0 m c]
  blk_ext [idx t]

/-- A block of the scaled stream. -/
theorem blk_stream (c : Dev nD) (t : Fin cfg0.N) (r : Fin 512) (k : Fin 2048) :
    (iblk m c 2 t (ix2 r k) : EReal)
      = m ((c.tc : Thread nD τ).loc main_arg2) (ix2 ⟨(grid0.coords t 0).val * 512 + r, by have := bounds t; omega⟩ k) := by
  unfold iblk
  rw [show V m c (arrRef spec0 2) = m ((c.tc : Thread nD τ).loc main_arg2) from V_main_arg2 m c]
  blk_ext [idx t]

/-- The weight, whole at every point. -/
theorem blk_weight (c : Dev nD) (t : Fin cfg0.N) (k : Fin 4096) (j : Fin 2048) :
    (iblk m c 1 t (ix2 k j) : EReal) = m ((c.tc : Thread nD τ).loc main_arg1) (ix2 k j) := by
  unfold iblk
  rw [show V m c (arrRef spec0 1) = m ((c.tc : Thread nD τ).loc main_arg1) from V_main_arg1 m c]
  blk_ext [idx t]

/-- The gain, whole at every point. -/
theorem blk_gain (c : Dev nD) (t : Fin cfg0.N) (j : Fin 2048) :
    (iblk m c 3 t (ix2 0 j) : EReal) = m ((c.tc : Thread nD τ).loc main_arg3) (ix1 j) := by
  refine Eq.trans ?_ (gain m c j)
  unfold iblk
  rw [show V m c (arrRef spec0 3) = V m c main_v0 from rfl]
  generalize V m c main_v0 = X
  blk_ext [idx t]

/-- The bias, whole at every point. -/
theorem blk_bias (c : Dev nD) (t : Fin cfg0.N) (j : Fin 2048) :
    (iblk m c 4 t (ix2 0 j) : EReal) = m ((c.tc : Thread nD τ).loc main_arg4) (ix1 j) := by
  refine Eq.trans ?_ (bias m c j)
  unfold iblk
  rw [show V m c (arrRef spec0 4) = V m c main_v1 from rfl]
  generalize V m c main_v1 = X
  blk_ext [idx t]

/-- The first half of a grid point's block, by the arguments. -/
theorem point0 (c : Dev nD) (t : Fin cfg0.N) (r : Fin 256) (j : Fin 2048) :
    (k0_pay2 (F := Ideal) (View.ld (iblk m c 0 t) r0) (View.ld (iblk m c 1 t) r1) (View.ld (iblk m c 2 t) r2)
        (View.ld (iblk m c 3 t) r3) (View.ld (iblk m c 4 t) r3) (ix2 r j) : EReal)
      = Cert.Reference4Ideal.Read.val_main_v27 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (ix2 ⟨(grid0.coords t 0).val * 512 + r, by have := bounds t; omega⟩ j) := by
  rw [piece0, ref_apply]
  refine layerNorm_congr (fun i => stream_congr (Eq.trans ?_ (blk_stream m c t ⟨r, by omega⟩ i))
    (fun k => Eq.trans ?_ (blk_rows m c t ⟨r, by omega⟩ k)) (fun k => Eq.trans ?_ (blk_weight m c t k i)))
    (Eq.trans ?_ (blk_gain m c t j)) (Eq.trans ?_ (blk_bias m c t j)) j
  · generalize iblk m c 2 t = X
    refine congrArg X (funext fun a => Fin.ext ?_)
    match a with
    | ⟨0, _⟩ => show 0 + 1 * (r : ℕ) = r; omega
    | ⟨1, _⟩ => show 0 + 1 * (i : ℕ) = i; omega
  · generalize iblk m c 0 t = X
    refine congrArg X (funext fun a => Fin.ext ?_)
    match a with
    | ⟨0, _⟩ => show 0 + 1 * (r : ℕ) = r; omega
    | ⟨1, _⟩ => show 0 + 1 * (k : ℕ) = k; omega
  · generalize iblk m c 1 t = X
    refine congrArg X (funext fun a => Fin.ext ?_)
    match a with
    | ⟨0, _⟩ => show 0 + 1 * (k : ℕ) = k; omega
    | ⟨1, _⟩ => show 0 + 1 * (i : ℕ) = i; omega
  · generalize iblk m c 3 t = X
    refine congrArg X (funext fun a => Fin.ext ?_)
    match a with
    | ⟨0, _⟩ => show 0 + 1 * (0 : ℕ) = 0; omega
    | ⟨1, _⟩ => show 0 + 1 * (j : ℕ) = j; omega
  · generalize iblk m c 4 t = X
    refine congrArg X (funext fun a => Fin.ext ?_)
    match a with
    | ⟨0, _⟩ => show 0 + 1 * (0 : ℕ) = 0; omega
    | ⟨1, _⟩ => show 0 + 1 * (j : ℕ) = j; omega

/-- The second half of a grid point's block, by the arguments. -/
theorem point1 (c : Dev nD) (t : Fin cfg0.N) (r : Fin 256) (j : Fin 2048) :
    (k0_pay17 (F := Ideal) (k0_pay15 (View.ld (iblk m c 0 t) r12) (View.ld (iblk m c 1 t) r1) (View.ld (iblk m c 2 t) r13))
        (k0_pay16 (View.ld (iblk m c 3 t) r3)) (View.ld (iblk m c 4 t) r3) (ix2 r j) : EReal)
      = Cert.Reference4Ideal.Read.val_main_v27 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (ix2 ⟨(grid0.coords t 0).val * 512 + (256 + r), by have := bounds t; omega⟩ j) := by
  rw [piece1, ref_apply]
  refine layerNorm_congr (fun i => stream_congr (Eq.trans ?_ (blk_stream m c t ⟨256 + r, by omega⟩ i))
    (fun k => Eq.trans ?_ (blk_rows m c t ⟨256 + r, by omega⟩ k)) (fun k => Eq.trans ?_ (blk_weight m c t k i)))
    (Eq.trans ?_ (blk_gain m c t j)) (Eq.trans ?_ (blk_bias m c t j)) j
  · generalize iblk m c 2 t = X
    refine congrArg X (funext fun a => Fin.ext ?_)
    match a with
    | ⟨0, _⟩ => show 256 + 1 * (r : ℕ) = 256 + r; omega
    | ⟨1, _⟩ => show 0 + 1 * (i : ℕ) = i; omega
  · generalize iblk m c 0 t = X
    refine congrArg X (funext fun a => Fin.ext ?_)
    match a with
    | ⟨0, _⟩ => show 256 + 1 * (r : ℕ) = 256 + r; omega
    | ⟨1, _⟩ => show 0 + 1 * (k : ℕ) = k; omega
  · generalize iblk m c 1 t = X
    refine congrArg X (funext fun a => Fin.ext ?_)
    match a with
    | ⟨0, _⟩ => show 0 + 1 * (k : ℕ) = k; omega
    | ⟨1, _⟩ => show 0 + 1 * (i : ℕ) = i; omega
  · generalize iblk m c 3 t = X
    refine congrArg X (funext fun a => Fin.ext ?_)
    match a with
    | ⟨0, _⟩ => show 0 + 1 * (0 : ℕ) = 0; omega
    | ⟨1, _⟩ => show 0 + 1 * (j : ℕ) = j; omega
  · generalize iblk m c 4 t = X
    refine congrArg X (funext fun a => Fin.ext ?_)
    match a with
    | ⟨0, _⟩ => show 0 + 1 * (0 : ℕ) = 0; omega
    | ⟨1, _⟩ => show 0 + 1 * (j : ℕ) = j; omega

/-- Where an entry of the normalised stream's block lies in the array. -/
theorem place5 (t : Fin cfg0.N) (y : ((cfg0.win 5).xblock (cfg0.grid.coords t)).Idx) (a b : ℕ) (ha : a < 512) (hb : b < 2048)
    (h0 : ((y 0 : Fin _) : ℕ) = a) (h1 : ((y 1 : Fin _) : ℕ) = b) :
    (win0_5.blk t).view.emb y = ix2 ⟨(grid0.coords t 0).val * 512 + a, by have := bounds t; omega⟩ ⟨b, hb⟩ := by
  have e0 : (((cfg0.win 5).blk t).view.emb y 0 : ℕ) = (grid0.coords t 0).val * 512 + (y 0 : ℕ) := by blk_simp [idx t]
  have e1 : (((cfg0.win 5).blk t).view.emb y 1 : ℕ) = (y 1 : ℕ) := by blk_simp [idx t]
  funext i
  refine Fin.ext ?_
  match i with
  | ⟨0, _⟩ => exact e0.trans (by rw [h0]; rfl)
  | ⟨1, _⟩ => exact e1.trans (by rw [h1]; rfl)

/-- Where an entry of the rounded stream's block lies in the array. -/
theorem place6 (t : Fin cfg0.N) (y : ((cfg0.win 6).xblock (cfg0.grid.coords t)).Idx) (a b : ℕ) (ha : a < 512) (hb : b < 2048)
    (h0 : ((y 0 : Fin _) : ℕ) = a) (h1 : ((y 1 : Fin _) : ℕ) = b) :
    (win0_6.blk t).view.emb y = ix2 ⟨(grid0.coords t 0).val * 512 + a, by have := bounds t; omega⟩ ⟨b, hb⟩ := by
  have e0 : (((cfg0.win 6).blk t).view.emb y 0 : ℕ) = (grid0.coords t 0).val * 512 + (y 0 : ℕ) := by blk_simp [idx t]
  have e1 : (((cfg0.win 6).blk t).view.emb y 1 : ℕ) = (y 1 : ℕ) := by blk_simp [idx t]
  funext i
  refine Fin.ext ?_
  match i with
  | ⟨0, _⟩ => exact e0.trans (by rw [h0]; rfl)
  | ⟨1, _⟩ => exact e1.trans (by rw [h1]; rfl)

/-- The normalised stream after the run is the reference's. -/
theorem final5 (c : Dev nD) :
    (dats m 0 c).arrAt 5 (cfgs 0).N
      = Cert.Reference4Ideal.Read.val_main_v27 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t _ y => ?_
  blk_simp
  rw [after5]
  unfold out5
  canon_tiles x h
  · rw [place5 t y _ _ (by omega) x1_lt h0 h1]
    idx_vars x
    exact point1 m c t x0 x1
  · rw [place5 t y _ _ (by omega) x1_lt h0 h1]
    idx_vars x
    exact point0 m c t x0 x1

/-- The rounded stream after the run is the reference's. -/
theorem final6 (c : Dev nD) :
    (dats m 0 c).arrAt 6 (cfgs 0).N
      = Cert.Reference4Ideal.Read.val_main_v28 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 6 _ (by decide +kernel) fun t _ y => ?_
  blk_simp
  rw [after6]
  unfold out6
  canon_tiles x h
  · rw [place6 t y _ _ (by omega) x1_lt h0 h1]
    idx_vars x
    exact point1 m c t x0 x1
  · rw [place6 t y _ _ (by omega) x1_lt h0 h1]
    idx_vars x
    exact point0 m c t x0 x1

end Cert.Kernel4Ideal.Norm

end
-- ==== Proof.BodyKernel5.lean ====
module

public import proofs.«01_k».proof.Proof.Gen.Kernel5.Frame
public import proofs.«01_k».proof.Proof.Gen.Kernel5.Skeleton
public import Idealize.ShloMosaic.Lib.Claim
public import Idealize.ShloMosaic.Lib.UnfoldOut

@[expose] public section

set_option maxRecDepth 16384

noncomputable section

namespace Cert.Kernel5.Body

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

abbrev r0 : Rect S512x1024 := Rect.unit (s := S512x1024) ![0, 0] S256x1024.size inb_S512x1024_S256x1024_0_0
abbrev r1 : Rect S1024x2048 := Rect.unit (s := S1024x2048) ![0, 0] S1024x2048.size inb_S1024x2048_S1024x2048_0_0
abbrev r2 : Rect S512x2048 := Rect.unit (s := S512x2048) ![0, 0] S256x2048.size inb_S512x2048_S256x2048_0_0
abbrev r3 : Rect S1x2048 := Rect.unit (s := S1x2048) ![0, 0] S1x2048.size inb_S1x2048_S1x2048_0_0
abbrev r4 : Rect S4096x128 := (Rect.unit (s := S4096x128) ![0, 0] S2048x128.size inb_S4096x128_S2048x128_0_0).within ⟨⟨![0, 0], S256x128.size, ![8, 1], inb_S2048x128_S256x128_0_0_s_8_1⟩, spos_8_1⟩ (fun _ => rfl)
abbrev r5 : Rect S4096x128 := (Rect.unit (s := S4096x128) ![0, 0] S2048x128.size inb_S4096x128_S2048x128_0_0).within ⟨⟨![1, 0], S256x128.size, ![8, 1], inb_S2048x128_S256x128_1_0_s_8_1⟩, spos_8_1⟩ (fun _ => rfl)
abbrev r6 : Rect S4096x128 := (Rect.unit (s := S4096x128) ![0, 0] S2048x128.size inb_S4096x128_S2048x128_0_0).within ⟨⟨![2, 0], S256x128.size, ![8, 1], inb_S2048x128_S256x128_2_0_s_8_1⟩, spos_8_1⟩ (fun _ => rfl)
abbrev r7 : Rect S4096x128 := (Rect.unit (s := S4096x128) ![0, 0] S2048x128.size inb_S4096x128_S2048x128_0_0).within ⟨⟨![3, 0], S256x128.size, ![8, 1], inb_S2048x128_S256x128_3_0_s_8_1⟩, spos_8_1⟩ (fun _ => rfl)
abbrev r8 : Rect S4096x128 := (Rect.unit (s := S4096x128) ![0, 0] S2048x128.size inb_S4096x128_S2048x128_0_0).within ⟨⟨![4, 0], S256x128.size, ![8, 1], inb_S2048x128_S256x128_4_0_s_8_1⟩, spos_8_1⟩ (fun _ => rfl)
abbrev r9 : Rect S4096x128 := (Rect.unit (s := S4096x128) ![0, 0] S2048x128.size inb_S4096x128_S2048x128_0_0).within ⟨⟨![5, 0], S256x128.size, ![8, 1], inb_S2048x128_S256x128_5_0_s_8_1⟩, spos_8_1⟩ (fun _ => rfl)
abbrev r10 : Rect S4096x128 := (Rect.unit (s := S4096x128) ![0, 0] S2048x128.size inb_S4096x128_S2048x128_0_0).within ⟨⟨![6, 0], S256x128.size, ![8, 1], inb_S2048x128_S256x128_6_0_s_8_1⟩, spos_8_1⟩ (fun _ => rfl)
abbrev r11 : Rect S4096x128 := (Rect.unit (s := S4096x128) ![0, 0] S2048x128.size inb_S4096x128_S2048x128_0_0).within ⟨⟨![7, 0], S256x128.size, ![8, 1], inb_S2048x128_S256x128_7_0_s_8_1⟩, spos_8_1⟩ (fun _ => rfl)
abbrev r12 : Rect S512x1024 := Rect.unit (s := S512x1024) ![256, 0] S256x1024.size inb_S512x1024_S256x1024_256_0
abbrev r13 : Rect S512x2048 := Rect.unit (s := S512x2048) ![256, 0] S256x2048.size inb_S512x2048_S256x2048_256_0
abbrev r14 : Rect S4096x128 := (Rect.unit (s := S4096x128) ![2048, 0] S2048x128.size inb_S4096x128_S2048x128_2048_0).within ⟨⟨![0, 0], S256x128.size, ![8, 1], inb_S2048x128_S256x128_0_0_s_8_1⟩, spos_8_1⟩ (fun _ => rfl)
abbrev r15 : Rect S4096x128 := (Rect.unit (s := S4096x128) ![2048, 0] S2048x128.size inb_S4096x128_S2048x128_2048_0).within ⟨⟨![1, 0], S256x128.size, ![8, 1], inb_S2048x128_S256x128_1_0_s_8_1⟩, spos_8_1⟩ (fun _ => rfl)
abbrev r16 : Rect S4096x128 := (Rect.unit (s := S4096x128) ![2048, 0] S2048x128.size inb_S4096x128_S2048x128_2048_0).within ⟨⟨![2, 0], S256x128.size, ![8, 1], inb_S2048x128_S256x128_2_0_s_8_1⟩, spos_8_1⟩ (fun _ => rfl)
abbrev r17 : Rect S4096x128 := (Rect.unit (s := S4096x128) ![2048, 0] S2048x128.size inb_S4096x128_S2048x128_2048_0).within ⟨⟨![3, 0], S256x128.size, ![8, 1], inb_S2048x128_S256x128_3_0_s_8_1⟩, spos_8_1⟩ (fun _ => rfl)
abbrev r18 : Rect S4096x128 := (Rect.unit (s := S4096x128) ![2048, 0] S2048x128.size inb_S4096x128_S2048x128_2048_0).within ⟨⟨![4, 0], S256x128.size, ![8, 1], inb_S2048x128_S256x128_4_0_s_8_1⟩, spos_8_1⟩ (fun _ => rfl)
abbrev r19 : Rect S4096x128 := (Rect.unit (s := S4096x128) ![2048, 0] S2048x128.size inb_S4096x128_S2048x128_2048_0).within ⟨⟨![5, 0], S256x128.size, ![8, 1], inb_S2048x128_S256x128_5_0_s_8_1⟩, spos_8_1⟩ (fun _ => rfl)
abbrev r20 : Rect S4096x128 := (Rect.unit (s := S4096x128) ![2048, 0] S2048x128.size inb_S4096x128_S2048x128_2048_0).within ⟨⟨![6, 0], S256x128.size, ![8, 1], inb_S2048x128_S256x128_6_0_s_8_1⟩, spos_8_1⟩ (fun _ => rfl)
abbrev r21 : Rect S4096x128 := (Rect.unit (s := S4096x128) ![2048, 0] S2048x128.size inb_S4096x128_S2048x128_2048_0).within ⟨⟨![7, 0], S256x128.size, ![8, 1], inb_S2048x128_S256x128_7_0_s_8_1⟩, spos_8_1⟩ (fun _ => rfl)

/-! ## What the body leaves in each output's staging buffer

The pieces are listed last store first. The third output is filled row by row: the rows of a half congruent to `s`
modulo 8 by one strided store. -/

/-- The buffer of output 0 after the body, from the input blocks. -/
def out7 (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) : Vec F S512x2048 .f32 :=
  View.canon [⟨r13, (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32))⟩,
    ⟨r2, (k0_pay5 (k0_pay3 (View.ld x0 r0) (View.ld x2 r1) (View.ld x1 r0) (View.ld x3 r1) (View.ld x4 r2) (View.ld x5 r3)) (k0_pay4 (View.ld x6 r3)))⟩]

/-- Its stores cover it. -/
theorem cover7 (p0 : r13.shape.Idx → Elt F .f32) (p1 : r2.shape.Idx → Elt F .f32) (y : S512x2048.Idx) :
    ∃ pc ∈ ([⟨r13, p0⟩, ⟨r2, p1⟩] : List (View.Piece (Elt F) S512x2048 .f32)), y ∈ pc.1.set :=
  View.cover_of_tiled [⟨r13, p0⟩, ⟨r2, p1⟩] S256x2048.size (by rfl) y

/-- The buffer of output 1 after the body, from the input blocks. -/
def out8 (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) : Vec F S512x2048 .bf16 :=
  View.canon [⟨r13, (k0_pay24 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32))⟩,
    ⟨r2, (k0_pay6 (k0_pay3 (View.ld x0 r0) (View.ld x2 r1) (View.ld x1 r0) (View.ld x3 r1) (View.ld x4 r2) (View.ld x5 r3)) (k0_pay4 (View.ld x6 r3)))⟩]

/-- Its stores cover it. -/
theorem cover8 (p0 : r13.shape.Idx → Elt F .bf16) (p1 : r2.shape.Idx → Elt F .bf16) (y : S512x2048.Idx) :
    ∃ pc ∈ ([⟨r13, p0⟩, ⟨r2, p1⟩] : List (View.Piece (Elt F) S512x2048 .bf16)), y ∈ pc.1.set :=
  View.cover_of_tiled [⟨r13, p0⟩, ⟨r2, p1⟩] S256x2048.size (by rfl) y

/-- The buffer of output 2 after the body, from the input blocks. -/
def out9 (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) : Vec F S4096x128 .i32 :=
  View.canon [⟨r21, (k0_pay2 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)))⟩,
    ⟨r20, (k0_pay1 (k0_pay33 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32))) (k0_pay34 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32))))⟩,
    ⟨r19, (k0_pay32 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)))⟩,
    ⟨r18, (k0_pay31 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)))⟩,
    ⟨r17, (k0_pay30 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)))⟩,
    ⟨r16, (k0_pay29 (k0_pay23 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)))⟩,
    ⟨r15, (k0_pay28 (k0_pay26 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)) (k0_pay27 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32)))⟩,
    ⟨r14, (k0_pay25 (k0_pay19 (View.ld x0 r12) (View.ld x2 r1) (View.ld x1 r12) (View.ld x3 r1) (View.ld x4 r13)) (k0_pay20 (View.ld x5 r3)) (k0_pay21 (View.ld x6 r3)) (k0_pay22 (View.ld x0 r12) (View.ld x2 r1) (View.ld x1 r12) (View.ld x3 r1) (View.ld x4 r13)) (Scalar.ofBits .f32 0x45000000#32))⟩,
    ⟨r11, (k0_pay18 (k0_pay5 (k0_pay3 (View.ld x0 r0) (View.ld x2 r1) (View.ld x1 r0) (View.ld x3 r1) (View.ld x4 r2) (View.ld x5 r3)) (k0_pay4 (View.ld x6 r3))) (k0_pay17 (k0_pay5 (k0_pay3 (View.ld x0 r0) (View.ld x2 r1) (View.ld x1 r0) (View.ld x3 r1) (View.ld x4 r2) (View.ld x5 r3)) (k0_pay4 (View.ld x6 r3)))))⟩,
    ⟨r10, (k0_pay16 (k0_pay5 (k0_pay3 (View.ld x0 r0) (View.ld x2 r1) (View.ld x1 r0) (View.ld x3 r1) (View.ld x4 r2) (View.ld x5 r3)) (k0_pay4 (View.ld x6 r3))))⟩,
    ⟨r9, (k0_pay15 (k0_pay5 (k0_pay3 (View.ld x0 r0) (View.ld x2 r1) (View.ld x1 r0) (View.ld x3 r1) (View.ld x4 r2) (View.ld x5 r3)) (k0_pay4 (View.ld x6 r3))))⟩,
    ⟨r8, (k0_pay14 (k0_pay12 (k0_pay5 (k0_pay3 (View.ld x0 r0) (View.ld x2 r1) (View.ld x1 r0) (View.ld x3 r1) (View.ld x4 r2) (View.ld x5 r3)) (k0_pay4 (View.ld x6 r3)))) (k0_pay13 (k0_pay5 (k0_pay3 (View.ld x0 r0) (View.ld x2 r1) (View.ld x1 r0) (View.ld x3 r1) (View.ld x4 r2) (View.ld x5 r3)) (k0_pay4 (View.ld x6 r3)))) (4294901760#32))⟩,
    ⟨r7, (k0_pay11 (k0_pay5 (k0_pay3 (View.ld x0 r0) (View.ld x2 r1) (View.ld x1 r0) (View.ld x3 r1) (View.ld x4 r2) (View.ld x5 r3)) (k0_pay4 (View.ld x6 r3))))⟩,
    ⟨r6, (k0_pay10 (k0_pay5 (k0_pay3 (View.ld x0 r0) (View.ld x2 r1) (View.ld x1 r0) (View.ld x3 r1) (View.ld x4 r2) (View.ld x5 r3)) (k0_pay4 (View.ld x6 r3))) (k0_pay9 (k0_pay3 (View.ld x0 r0) (View.ld x2 r1) (View.ld x1 r0) (View.ld x3 r1) (View.ld x4 r2) (View.ld x5 r3)) (k0_pay4 (View.ld x6 r3))))⟩,
    ⟨r5, (k0_pay8 (k0_pay3 (View.ld x0 r0) (View.ld x2 r1) (View.ld x1 r0) (View.ld x3 r1) (View.ld x4 r2) (View.ld x5 r3)) (k0_pay4 (View.ld x6 r3)))⟩,
    ⟨r4, (k0_pay7 (k0_pay3 (View.ld x0 r0) (View.ld x2 r1) (View.ld x1 r0) (View.ld x3 r1) (View.ld x4 r2) (View.ld x5 r3)) (k0_pay4 (View.ld x6 r3)))⟩]

theorem mem_r21 (y : S4096x128.Idx) (h : (y 0).val / 2048 = 1) (hs : (y 0).val % 8 = 7) : y ∈ r21.set := by
  refine r21.mem_set.mpr fun a => ?_
  have h0 : (y 0).val < 4096 := (y 0).isLt
  match a with
  | ⟨0, _⟩ => exact ⟨((y 0).val - 2048) / 8, by show _ < 256; omega, by show (y 0).val = 2048 + 1 * 7 + 1 * 8 * _; omega⟩
  | ⟨1, _⟩ => exact ⟨(y 1).val, (y 1).isLt, by show (y 1).val = 0 + 1 * 0 + 1 * 1 * _; omega⟩
theorem mem_r20 (y : S4096x128.Idx) (h : (y 0).val / 2048 = 1) (hs : (y 0).val % 8 = 6) : y ∈ r20.set := by
  refine r20.mem_set.mpr fun a => ?_
  have h0 : (y 0).val < 4096 := (y 0).isLt
  match a with
  | ⟨0, _⟩ => exact ⟨((y 0).val - 2048) / 8, by show _ < 256; omega, by show (y 0).val = 2048 + 1 * 6 + 1 * 8 * _; omega⟩
  | ⟨1, _⟩ => exact ⟨(y 1).val, (y 1).isLt, by show (y 1).val = 0 + 1 * 0 + 1 * 1 * _; omega⟩
theorem mem_r19 (y : S4096x128.Idx) (h : (y 0).val / 2048 = 1) (hs : (y 0).val % 8 = 5) : y ∈ r19.set := by
  refine r19.mem_set.mpr fun a => ?_
  have h0 : (y 0).val < 4096 := (y 0).isLt
  match a with
  | ⟨0, _⟩ => exact ⟨((y 0).val - 2048) / 8, by show _ < 256; omega, by show (y 0).val = 2048 + 1 * 5 + 1 * 8 * _; omega⟩
  | ⟨1, _⟩ => exact ⟨(y 1).val, (y 1).isLt, by show (y 1).val = 0 + 1 * 0 + 1 * 1 * _; omega⟩
theorem mem_r18 (y : S4096x128.Idx) (h : (y 0).val / 2048 = 1) (hs : (y 0).val % 8 = 4) : y ∈ r18.set := by
  refine r18.mem_set.mpr fun a => ?_
  have h0 : (y 0).val < 4096 := (y 0).isLt
  match a with
  | ⟨0, _⟩ => exact ⟨((y 0).val - 2048) / 8, by show _ < 256; omega, by show (y 0).val = 2048 + 1 * 4 + 1 * 8 * _; omega⟩
  | ⟨1, _⟩ => exact ⟨(y 1).val, (y 1).isLt, by show (y 1).val = 0 + 1 * 0 + 1 * 1 * _; omega⟩
theorem mem_r17 (y : S4096x128.Idx) (h : (y 0).val / 2048 = 1) (hs : (y 0).val % 8 = 3) : y ∈ r17.set := by
  refine r17.mem_set.mpr fun a => ?_
  have h0 : (y 0).val < 4096 := (y 0).isLt
  match a with
  | ⟨0, _⟩ => exact ⟨((y 0).val - 2048) / 8, by show _ < 256; omega, by show (y 0).val = 2048 + 1 * 3 + 1 * 8 * _; omega⟩
  | ⟨1, _⟩ => exact ⟨(y 1).val, (y 1).isLt, by show (y 1).val = 0 + 1 * 0 + 1 * 1 * _; omega⟩
theorem mem_r16 (y : S4096x128.Idx) (h : (y 0).val / 2048 = 1) (hs : (y 0).val % 8 = 2) : y ∈ r16.set := by
  refine r16.mem_set.mpr fun a => ?_
  have h0 : (y 0).val < 4096 := (y 0).isLt
  match a with
  | ⟨0, _⟩ => exact ⟨((y 0).val - 2048) / 8, by show _ < 256; omega, by show (y 0).val = 2048 + 1 * 2 + 1 * 8 * _; omega⟩
  | ⟨1, _⟩ => exact ⟨(y 1).val, (y 1).isLt, by show (y 1).val = 0 + 1 * 0 + 1 * 1 * _; omega⟩
theorem mem_r15 (y : S4096x128.Idx) (h : (y 0).val / 2048 = 1) (hs : (y 0).val % 8 = 1) : y ∈ r15.set := by
  refine r15.mem_set.mpr fun a => ?_
  have h0 : (y 0).val < 4096 := (y 0).isLt
  match a with
  | ⟨0, _⟩ => exact ⟨((y 0).val - 2048) / 8, by show _ < 256; omega, by show (y 0).val = 2048 + 1 * 1 + 1 * 8 * _; omega⟩
  | ⟨1, _⟩ => exact ⟨(y 1).val, (y 1).isLt, by show (y 1).val = 0 + 1 * 0 + 1 * 1 * _; omega⟩
theorem mem_r14 (y : S4096x128.Idx) (h : (y 0).val / 2048 = 1) (hs : (y 0).val % 8 = 0) : y ∈ r14.set := by
  refine r14.mem_set.mpr fun a => ?_
  have h0 : (y 0).val < 4096 := (y 0).isLt
  match a with
  | ⟨0, _⟩ => exact ⟨((y 0).val - 2048) / 8, by show _ < 256; omega, by show (y 0).val = 2048 + 1 * 0 + 1 * 8 * _; omega⟩
  | ⟨1, _⟩ => exact ⟨(y 1).val, (y 1).isLt, by show (y 1).val = 0 + 1 * 0 + 1 * 1 * _; omega⟩
theorem mem_r11 (y : S4096x128.Idx) (h : (y 0).val / 2048 = 0) (hs : (y 0).val % 8 = 7) : y ∈ r11.set := by
  refine r11.mem_set.mpr fun a => ?_
  have h0 : (y 0).val < 4096 := (y 0).isLt
  match a with
  | ⟨0, _⟩ => exact ⟨((y 0).val - 0) / 8, by show _ < 256; omega, by show (y 0).val = 0 + 1 * 7 + 1 * 8 * _; omega⟩
  | ⟨1, _⟩ => exact ⟨(y 1).val, (y 1).isLt, by show (y 1).val = 0 + 1 * 0 + 1 * 1 * _; omega⟩
theorem mem_r10 (y : S4096x128.Idx) (h : (y 0).val / 2048 = 0) (hs : (y 0).val % 8 = 6) : y ∈ r10.set := by
  refine r10.mem_set.mpr fun a => ?_
  have h0 : (y 0).val < 4096 := (y 0).isLt
  match a with
  | ⟨0, _⟩ => exact ⟨((y 0).val - 0) / 8, by show _ < 256; omega, by show (y 0).val = 0 + 1 * 6 + 1 * 8 * _; omega⟩
  | ⟨1, _⟩ => exact ⟨(y 1).val, (y 1).isLt, by show (y 1).val = 0 + 1 * 0 + 1 * 1 * _; omega⟩
theorem mem_r9 (y : S4096x128.Idx) (h : (y 0).val / 2048 = 0) (hs : (y 0).val % 8 = 5) : y ∈ r9.set := by
  refine r9.mem_set.mpr fun a => ?_
  have h0 : (y 0).val < 4096 := (y 0).isLt
  match a with
  | ⟨0, _⟩ => exact ⟨((y 0).val - 0) / 8, by show _ < 256; omega, by show (y 0).val = 0 + 1 * 5 + 1 * 8 * _; omega⟩
  | ⟨1, _⟩ => exact ⟨(y 1).val, (y 1).isLt, by show (y 1).val = 0 + 1 * 0 + 1 * 1 * _; omega⟩
theorem mem_r8 (y : S4096x128.Idx) (h : (y 0).val / 2048 = 0) (hs : (y 0).val % 8 = 4) : y ∈ r8.set := by
  refine r8.mem_set.mpr fun a => ?_
  have h0 : (y 0).val < 4096 := (y 0).isLt
  match a with
  | ⟨0, _⟩ => exact ⟨((y 0).val - 0) / 8, by show _ < 256; omega, by show (y 0).val = 0 + 1 * 4 + 1 * 8 * _; omega⟩
  | ⟨1, _⟩ => exact ⟨(y 1).val, (y 1).isLt, by show (y 1).val = 0 + 1 * 0 + 1 * 1 * _; omega⟩
theorem mem_r7 (y : S4096x128.Idx) (h : (y 0).val / 2048 = 0) (hs : (y 0).val % 8 = 3) : y ∈ r7.set := by
  refine r7.mem_set.mpr fun a => ?_
  have h0 : (y 0).val < 4096 := (y 0).isLt
  match a with
  | ⟨0, _⟩ => exact ⟨((y 0).val - 0) / 8, by show _ < 256; omega, by show (y 0).val = 0 + 1 * 3 + 1 * 8 * _; omega⟩
  | ⟨1, _⟩ => exact ⟨(y 1).val, (y 1).isLt, by show (y 1).val = 0 + 1 * 0 + 1 * 1 * _; omega⟩
theorem mem_r6 (y : S4096x128.Idx) (h : (y 0).val / 2048 = 0) (hs : (y 0).val % 8 = 2) : y ∈ r6.set := by
  refine r6.mem_set.mpr fun a => ?_
  have h0 : (y 0).val < 4096 := (y 0).isLt
  match a with
  | ⟨0, _⟩ => exact ⟨((y 0).val - 0) / 8, by show _ < 256; omega, by show (y 0).val = 0 + 1 * 2 + 1 * 8 * _; omega⟩
  | ⟨1, _⟩ => exact ⟨(y 1).val, (y 1).isLt, by show (y 1).val = 0 + 1 * 0 + 1 * 1 * _; omega⟩
theorem mem_r5 (y : S4096x128.Idx) (h : (y 0).val / 2048 = 0) (hs : (y 0).val % 8 = 1) : y ∈ r5.set := by
  refine r5.mem_set.mpr fun a => ?_
  have h0 : (y 0).val < 4096 := (y 0).isLt
  match a with
  | ⟨0, _⟩ => exact ⟨((y 0).val - 0) / 8, by show _ < 256; omega, by show (y 0).val = 0 + 1 * 1 + 1 * 8 * _; omega⟩
  | ⟨1, _⟩ => exact ⟨(y 1).val, (y 1).isLt, by show (y 1).val = 0 + 1 * 0 + 1 * 1 * _; omega⟩
theorem mem_r4 (y : S4096x128.Idx) (h : (y 0).val / 2048 = 0) (hs : (y 0).val % 8 = 0) : y ∈ r4.set := by
  refine r4.mem_set.mpr fun a => ?_
  have h0 : (y 0).val < 4096 := (y 0).isLt
  match a with
  | ⟨0, _⟩ => exact ⟨((y 0).val - 0) / 8, by show _ < 256; omega, by show (y 0).val = 0 + 1 * 0 + 1 * 8 * _; omega⟩
  | ⟨1, _⟩ => exact ⟨(y 1).val, (y 1).isLt, by show (y 1).val = 0 + 1 * 0 + 1 * 1 * _; omega⟩

/-- Its stores cover it: a row lies in its half, at its remainder modulo 8. -/
theorem cover9 (p0 : r21.shape.Idx → Elt F .i32) (p1 : r20.shape.Idx → Elt F .i32) (p2 : r19.shape.Idx → Elt F .i32) (p3 : r18.shape.Idx → Elt F .i32) (p4 : r17.shape.Idx → Elt F .i32) (p5 : r16.shape.Idx → Elt F .i32) (p6 : r15.shape.Idx → Elt F .i32) (p7 : r14.shape.Idx → Elt F .i32) (p8 : r11.shape.Idx → Elt F .i32) (p9 : r10.shape.Idx → Elt F .i32) (p10 : r9.shape.Idx → Elt F .i32) (p11 : r8.shape.Idx → Elt F .i32) (p12 : r7.shape.Idx → Elt F .i32) (p13 : r6.shape.Idx → Elt F .i32) (p14 : r5.shape.Idx → Elt F .i32) (p15 : r4.shape.Idx → Elt F .i32) (y : S4096x128.Idx) :
    ∃ pc ∈ ([⟨r21, p0⟩, ⟨r20, p1⟩, ⟨r19, p2⟩, ⟨r18, p3⟩, ⟨r17, p4⟩, ⟨r16, p5⟩, ⟨r15, p6⟩, ⟨r14, p7⟩, ⟨r11, p8⟩, ⟨r10, p9⟩, ⟨r9, p10⟩, ⟨r8, p11⟩, ⟨r7, p12⟩, ⟨r6, p13⟩, ⟨r5, p14⟩, ⟨r4, p15⟩] : List (View.Piece (Elt F) S4096x128 .i32)), y ∈ pc.1.set := by
  have h0 : (y 0).val < 4096 := (y 0).isLt
  have hh : (y 0).val / 2048 = 0 ∨ (y 0).val / 2048 = 1 := by omega
  have hs : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hh with h | h <;> rcases hs with g | g | g | g | g | g | g | g
  · exact ⟨_, .tail _ (.tail _ (.tail _ (.tail _ (.tail _ (.tail _ (.tail _ (.tail _ (.tail _ (.tail _ (.tail _ (.tail _ (.tail _ (.tail _ (.tail _ (.head _))))))))))))))), mem_r4 y h g⟩
  · exact ⟨_, .tail _ (.tail _ (.tail _ (.tail _ (.tail _ (.tail _ (.tail _ (.tail _ (.tail _ (.tail _ (.tail _ (.tail _ (.tail _ (.tail _ (.head _)))))))))))))), mem_r5 y h g⟩
  · exact ⟨_, .tail _ (.tail _ (.tail _ (.tail _ (.tail _ (.tail _ (.tail _ (.tail _ (.tail _ (.tail _ (.tail _ (.tail _ (.tail _ (.head _))))))))))))), mem_r6 y h g⟩
  · exact ⟨_, .tail _ (.tail _ (.tail _ (.tail _ (.tail _ (.tail _ (.tail _ (.tail _ (.tail _ (.tail _ (.tail _ (.tail _ (.head _)))))))))))), mem_r7 y h g⟩
  · exact ⟨_, .tail _ (.tail _ (.tail _ (.tail _ (.tail _ (.tail _ (.tail _ (.tail _ (.tail _ (.tail _ (.tail _ (.head _))))))))))), mem_r8 y h g⟩
  · exact ⟨_, .tail _ (.tail _ (.tail _ (.tail _ (.tail _ (.tail _ (.tail _ (.tail _ (.tail _ (.tail _ (.head _)))))))))), mem_r9 y h g⟩
  · exact ⟨_, .tail _ (.tail _ (.tail _ (.tail _ (.tail _ (.tail _ (.tail _ (.tail _ (.tail _ (.head _))))))))), mem_r10 y h g⟩
  · exact ⟨_, .tail _ (.tail _ (.tail _ (.tail _ (.tail _ (.tail _ (.tail _ (.tail _ (.head _)))))))), mem_r11 y h g⟩
  · exact ⟨_, .tail _ (.tail _ (.tail _ (.tail _ (.tail _ (.tail _ (.tail _ (.head _))))))), mem_r14 y h g⟩
  · exact ⟨_, .tail _ (.tail _ (.tail _ (.tail _ (.tail _ (.tail _ (.head _)))))), mem_r15 y h g⟩
  · exact ⟨_, .tail _ (.tail _ (.tail _ (.tail _ (.tail _ (.head _))))), mem_r16 y h g⟩
  · exact ⟨_, .tail _ (.tail _ (.tail _ (.tail _ (.head _)))), mem_r17 y h g⟩
  · exact ⟨_, .tail _ (.tail _ (.tail _ (.head _))), mem_r18 y h g⟩
  · exact ⟨_, .tail _ (.tail _ (.head _)), mem_r19 y h g⟩
  · exact ⟨_, .tail _ (.head _), mem_r20 y h g⟩
  · exact ⟨_, .head _, mem_r21 y h g⟩

/-! ## The body's triple -/

set_option maxHeartbeats 4000000 in
/-- The body, on whole staging buffers with the inputs at `x…` and the outputs at anything, leaves the inputs as they were
    and each output at `out…` of the inputs. -/
theorem sound_kernel (c : Dev nD) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S4096x128 .i32) (harg11 : arg11.IsWhole)
    (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2 x3 x4 x5 x6) ∗ owns (c : Thread nD τ) arg10 fullShare (out8 x0 x1 x2 x3 x4 x5 x6) ∗ owns (c : Thread nD τ) arg11 fullShare (out9 x0 x1 x2 x3 x4 x5 x6)) -∗ K ⟨⟩))
      ⊢ wp frame (wpE (defs₀ (F := F)) Variants.none c none) E (cc0_proj_ln i arg2 harg2 arg3 harg3 arg4 harg4 arg5 harg5 arg6 harg6 arg7 harg7 arg8 harg8 arg9 harg9 arg10 harg10 arg11 harg11) K := by
  simp only [cc0_proj_ln_eq_skeleton]; unfold cc0_proj_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _ _)
  isplitl [H8]
  · iexists _; isplitr
    swap; · iexact H8
    ipureintro
    exact View.read_writes_eq_canon _ _ _ (cover8 _ _)
  iexists _; isplitr
  swap; · iexact H9
  ipureintro
  exact View.read_writes_eq_canon _ _ _ (cover9 _ _ _ _ _ _ _ _ _ _ _ _ _ _ _ _)

/-! ## The pipeline's proof data -/

/-- The arrays as the call finds them; after the body each input's buffer at its block, each output's at `out…` of the
    input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
    | ⟨8, _⟩ => out8 (iblk m c 0 t) (iblk m c 1 t) (iblk m c 2 t) (iblk m c 3 t) (iblk m c 4 t) (iblk m c 5 t) (iblk m c 6 t)
    | ⟨9, _⟩ => out9 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl, after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body the call runs at point `t` is the printed one on that point's buffers. -/
theorem row_eq (t : Fin cfg0.N) : defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run: every array of the call ends at what the proof data computes, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

end Cert.Kernel5.Body

end
-- ==== Proof.BodyKernel5Ideal.lean ====
module

public import proofs.«01_k».proof.Proof.Gen.Kernel5Ideal.Frame
public import proofs.«01_k».proof.Proof.Gen.Kernel5Ideal.Skeleton
public import Idealize.ShloMosaic.Lib.Claim
public import Idealize.ShloMosaic.Lib.UnfoldOut

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

abbrev r0 : Rect S512x1024 := Rect.unit (s := S512x1024) ![0, 0] S256x1024.size inb_S512x1024_S256x1024_0_0
abbrev r1 : Rect S1024x2048 := Rect.unit (s := S1024x2048) ![0, 0] S1024x2048.size inb_S1024x2048_S1024x2048_0_0
abbrev r2 : Rect S512x2048 := Rect.unit (s := S512x2048) ![0, 0] S256x2048.size inb_S512x2048_S256x2048_0_0
abbrev r3 : Rect S1x2048 := Rect.unit (s := S1x2048) ![0, 0] S1x2048.size inb_S1x2048_S1x2048_0_0
abbrev r4 : Rect S4096x2x128 := (Rect.unit (s := S4096x2x128) ![0, 0, 0] S2048x2x128.size inb_S4096x2x128_S2048x2x128_0_0_0).within ⟨⟨![0, 0, 0], S256x2x128.size, ![8, 1, 1], inb_S2048x2x128_S256x2x128_0_0_0_s_8_1_1⟩, spos_8_1_1⟩ (fun _ => rfl)
abbrev r5 : Rect S4096x2x128 := (Rect.unit (s := S4096x2x128) ![0, 0, 0] S2048x2x128.size inb_S4096x2x128_S2048x2x128_0_0_0).within ⟨⟨![1, 0, 0], S256x2x128.size, ![8, 1, 1], inb_S2048x2x128_S256x2x128_1_0_0_s_8_1_1⟩, spos_8_1_1⟩ (fun _ => rfl)
abbrev r6 : Rect S4096x2x128 := (Rect.unit (s := S4096x2x128) ![0, 0, 0] S2048x2x128.size inb_S4096x2x128_S2048x2x128_0_0_0).within ⟨⟨![2, 0, 0], S256x2x128.size, ![8, 1, 1], inb_S2048x2x128_S256x2x128_2_0_0_s_8_1_1⟩, spos_8_1_1⟩ (fun _ => rfl)
abbrev r7 : Rect S4096x2x128 := (Rect.unit (s := S4096x2x128) ![0, 0, 0] S2048x2x128.size inb_S4096x2x128_S2048x2x128_0_0_0).within ⟨⟨![3, 0, 0], S256x2x128.size, ![8, 1, 1], inb_S2048x2x128_S256x2x128_3_0_0_s_8_1_1⟩, spos_8_1_1⟩ (fun _ => rfl)
abbrev r8 : Rect S4096x2x128 := (Rect.unit (s := S4096x2x128) ![0, 0, 0] S2048x2x128.size inb_S4096x2x128_S2048x2x128_0_0_0).within ⟨⟨![4, 0, 0], S256x2x128.size, ![8, 1, 1], inb_S2048x2x128_S256x2x128_4_0_0_s_8_1_1⟩, spos_8_1_1⟩ (fun _ => rfl)
abbrev r9 : Rect S4096x2x128 := (Rect.unit (s := S4096x2x128) ![0, 0, 0] S2048x2x128.size inb_S4096x2x128_S2048x2x128_0_0_0).within ⟨⟨![5, 0, 0], S256x2x128.size, ![8, 1, 1], inb_S2048x2x128_S256x2x128_5_0_0_s_8_1_1⟩, spos_8_1_1⟩ (fun _ => rfl)
abbrev r10 : Rect S4096x2x128 := (Rect.unit (s := S4096x2x128) ![0, 0, 0] S2048x2x128.size inb_S4096x2x128_S2048x2x128_0_0_0).within ⟨⟨![6, 0, 0], S256x2x128.size, ![8, 1, 1], inb_S2048x2x128_S256x2x128_6_0_0_s_8_1_1⟩, spos_8_1_1⟩ (fun _ => rfl)
abbrev r11 : Rect S4096x2x128 := (Rect.unit (s := S4096x2x128) ![0, 0, 0] S2048x2x128.size inb_S4096x2x128_S2048x2x128_0_0_0).within ⟨⟨![7, 0, 0], S256x2x128.size, ![8, 1, 1], inb_S2048x2x128_S256x2x128_7_0_0_s_8_1_1⟩, spos_8_1_1⟩ (fun _ => rfl)
abbrev r12 : Rect S512x1024 := Rect.unit (s := S512x1024) ![256, 0] S256x1024.size inb_S512x1024_S256x1024_256_0
abbrev r13 : Rect S512x2048 := Rect.unit (s := S512x2048) ![256, 0] S256x2048.size inb_S512x2048_S256x2048_256_0
abbrev r14 : Rect S4096x2x128 := (Rect.unit (s := S4096x2x128) ![2048, 0, 0] S2048x2x128.size inb_S4096x2x128_S2048x2x128_2048_0_0).within ⟨⟨![0, 0, 0], S256x2x128.size, ![8, 1, 1], inb_S2048x2x128_S256x2x128_0_0_0_s_8_1_1⟩, spos_8_1_1⟩ (fun _ => rfl)
abbrev r15 : Rect S4096x2x128 := (Rect.unit (s := S4096x2x128) ![2048, 0, 0] S2048x2x128.size inb_S4096x2x128_S2048x2x128_2048_0_0).within ⟨⟨![1, 0, 0], S256x2x128.size, ![8, 1, 1], inb_S2048x2x128_S256x2x128_1_0_0_s_8_1_1⟩, spos_8_1_1⟩ (fun _ => rfl)
abbrev r16 : Rect S4096x2x128 := (Rect.unit (s := S4096x2x128) ![2048, 0, 0] S2048x2x128.size inb_S4096x2x128_S2048x2x128_2048_0_0).within ⟨⟨![2, 0, 0], S256x2x128.size, ![8, 1, 1], inb_S2048x2x128_S256x2x128_2_0_0_s_8_1_1⟩, spos_8_1_1⟩ (fun _ => rfl)
abbrev r17 : Rect S4096x2x128 := (Rect.unit (s := S4096x2x128) ![2048, 0, 0] S2048x2x128.size inb_S4096x2x128_S2048x2x128_2048_0_0).within ⟨⟨![3, 0, 0], S256x2x128.size, ![8, 1, 1], inb_S2048x2x128_S256x2x128_3_0_0_s_8_1_1⟩, spos_8_1_1⟩ (fun _ => rfl)
abbrev r18 : Rect S4096x2x128 := (Rect.unit (s := S4096x2x128) ![2048, 0, 0] S2048x2x128.size inb_S4096x2x128_S2048x2x128_2048_0_0).within ⟨⟨![4, 0, 0], S256x2x128.size, ![8, 1, 1], inb_S2048x2x128_S256x2x128_4_0_0_s_8_1_1⟩, spos_8_1_1⟩ (fun _ => rfl)
abbrev r19 : Rect S4096x2x128 := (Rect.unit (s := S4096x2x128) ![2048, 0, 0] S2048x2x128.size inb_S4096x2x128_S2048x2x128_2048_0_0).within ⟨⟨![5, 0, 0], S256x2x128.size, ![8, 1, 1], inb_S2048x2x128_S256x2x128_5_0_0_s_8_1_1⟩, spos_8_1_1⟩ (fun _ => rfl)
abbrev r20 : Rect S4096x2x128 := (Rect.unit (s := S4096x2x128) ![2048, 0, 0] S2048x2x128.size inb_S4096x2x128_S2048x2x128_2048_0_0).within ⟨⟨![6, 0, 0], S256x2x128.size, ![8, 1, 1], inb_S2048x2x128_S256x2x128_6_0_0_s_8_1_1⟩, spos_8_1_1⟩ (fun _ => rfl)
abbrev r21 : Rect S4096x2x128 := (Rect.unit (s := S4096x2x128) ![2048, 0, 0] S2048x2x128.size inb_S4096x2x128_S2048x2x128_2048_0_0).within ⟨⟨![7, 0, 0], S256x2x128.size, ![8, 1, 1], inb_S2048x2x128_S256x2x128_7_0_0_s_8_1_1⟩, spos_8_1_1⟩ (fun _ => rfl)

/-! ## What the body leaves in each output's staging buffer

The pieces are listed last store first. The third output is filled row by row: the rows of a half congruent to `s`
modulo 8 by one strided store. -/

/-- The buffer of output 0 after the body, from the input blocks. -/
def out7 (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) : Vec F S512x2048 .f32 :=
  View.canon [⟨r13, (k0_pay20 (k0_pay19 (View.ld x0 r12) (View.ld x2 r1)) (View.ld x1 r12) (View.ld x3 r1) (View.ld x4 r13) (View.ld x5 r3) (View.ld x6 r3))⟩,
    ⟨r2, (k0_pay5 (k0_pay3 (View.ld x0 r0) (View.ld x2 r1) (View.ld x1 r0) (View.ld x3 r1) (View.ld x4 r2) (View.ld x5 r3)) (k0_pay4 (View.ld x6 r3)))⟩]

/-- Its stores cover it. -/
theorem cover7 (p0 : r13.shape.Idx → Elt F .f32) (p1 : r2.shape.Idx → Elt F .f32) (y : S512x2048.Idx) :
    ∃ pc ∈ ([⟨r13, p0⟩, ⟨r2, p1⟩] : List (View.Piece (Elt F) S512x2048 .f32)), y ∈ pc.1.set :=
  View.cover_of_tiled [⟨r13, p0⟩, ⟨r2, p1⟩] S256x2048.size (by rfl) y

/-- The buffer of output 1 after the body, from the input blocks. -/
def out8 (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) : Vec F S512x2048 .bf16 :=
  View.canon [⟨r13, (k0_pay21 (k0_pay19 (View.ld x0 r12) (View.ld x2 r1)) (View.ld x1 r12) (View.ld x3 r1) (View.ld x4 r13) (View.ld x5 r3) (View.ld x6 r3))⟩,
    ⟨r2, (k0_pay6 (k0_pay3 (View.ld x0 r0) (View.ld x2 r1) (View.ld x1 r0) (View.ld x3 r1) (View.ld x4 r2) (View.ld x5 r3)) (k0_pay4 (View.ld x6 r3)))⟩]

/-- Its stores cover it. -/
theorem cover8 (p0 : r13.shape.Idx → Elt F .bf16) (p1 : r2.shape.Idx → Elt F .bf16) (y : S512x2048.Idx) :
    ∃ pc ∈ ([⟨r13, p0⟩, ⟨r2, p1⟩] : List (View.Piece (Elt F) S512x2048 .bf16)), y ∈ pc.1.set :=
  View.cover_of_tiled [⟨r13, p0⟩, ⟨r2, p1⟩] S256x2048.size (by rfl) y

/-- The buffer of output 2 after the body, from the input blocks. -/
def out9 (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) : Vec F S4096x2x128 .bf16 :=
  View.canon [⟨r21, (k0_pay2 (k0_pay20 (k0_pay19 (View.ld x0 r12) (View.ld x2 r1)) (View.ld x1 r12) (View.ld x3 r1) (View.ld x4 r13) (View.ld x5 r3) (View.ld x6 r3)))⟩,
    ⟨r20, (k0_pay1 (k0_pay20 (k0_pay19 (View.ld x0 r12) (View.ld x2 r1)) (View.ld x1 r12) (View.ld x3 r1) (View.ld x4 r13) (View.ld x5 r3) (View.ld x6 r3)) (k0_pay30 (k0_pay20 (k0_pay19 (View.ld x0 r12) (View.ld x2 r1)) (View.ld x1 r12) (View.ld x3 r1) (View.ld x4 r13) (View.ld x5 r3) (View.ld x6 r3))))⟩,
    ⟨r19, (k0_pay29 (k0_pay20 (k0_pay19 (View.ld x0 r12) (View.ld x2 r1)) (View.ld x1 r12) (View.ld x3 r1) (View.ld x4 r13) (View.ld x5 r3) (View.ld x6 r3)))⟩,
    ⟨r18, (k0_pay28 (k0_pay20 (k0_pay19 (View.ld x0 r12) (View.ld x2 r1)) (View.ld x1 r12) (View.ld x3 r1) (View.ld x4 r13) (View.ld x5 r3) (View.ld x6 r3)))⟩,
    ⟨r17, (k0_pay27 (k0_pay20 (k0_pay19 (View.ld x0 r12) (View.ld x2 r1)) (View.ld x1 r12) (View.ld x3 r1) (View.ld x4 r13) (View.ld x5 r3) (View.ld x6 r3)) (k0_pay26 (k0_pay20 (k0_pay19 (View.ld x0 r12) (View.ld x2 r1)) (View.ld x1 r12) (View.ld x3 r1) (View.ld x4 r13) (View.ld x5 r3) (View.ld x6 r3))))⟩,
    ⟨r16, (k0_pay25 (k0_pay20 (k0_pay19 (View.ld x0 r12) (View.ld x2 r1)) (View.ld x1 r12) (View.ld x3 r1) (View.ld x4 r13) (View.ld x5 r3) (View.ld x6 r3)))⟩,
    ⟨r15, (k0_pay24 (k0_pay20 (k0_pay19 (View.ld x0 r12) (View.ld x2 r1)) (View.ld x1 r12) (View.ld x3 r1) (View.ld x4 r13) (View.ld x5 r3) (View.ld x6 r3)))⟩,
    ⟨r14, (k0_pay23 (k0_pay20 (k0_pay19 (View.ld x0 r12) (View.ld x2 r1)) (View.ld x1 r12) (View.ld x3 r1) (View.ld x4 r13) (View.ld x5 r3) (View.ld x6 r3)) (k0_pay22 (k0_pay19 (View.ld x0 r12) (View.ld x2 r1)) (View.ld x1 r12) (View.ld x3 r1) (View.ld x4 r13) (View.ld x5 r3) (View.ld x6 r3)))⟩,
    ⟨r11, (k0_pay18 (k0_pay5 (k0_pay3 (View.ld x0 r0) (View.ld x2 r1) (View.ld x1 r0) (View.ld x3 r1) (View.ld x4 r2) (View.ld x5 r3)) (k0_pay4 (View.ld x6 r3))))⟩,
    ⟨r10, (k0_pay17 (k0_pay5 (k0_pay3 (View.ld x0 r0) (View.ld x2 r1) (View.ld x1 r0) (View.ld x3 r1) (View.ld x4 r2) (View.ld x5 r3)) (k0_pay4 (View.ld x6 r3))))⟩,
    ⟨r9, (k0_pay16 (k0_pay14 (k0_pay5 (k0_pay3 (View.ld x0 r0) (View.ld x2 r1) (View.ld x1 r0) (View.ld x3 r1) (View.ld x4 r2) (View.ld x5 r3)) (k0_pay4 (View.ld x6 r3)))) (k0_pay15 (k0_pay5 (k0_pay3 (View.ld x0 r0) (View.ld x2 r1) (View.ld x1 r0) (View.ld x3 r1) (View.ld x4 r2) (View.ld x5 r3)) (k0_pay4 (View.ld x6 r3)))))⟩,
    ⟨r8, (k0_pay13 (k0_pay5 (k0_pay3 (View.ld x0 r0) (View.ld x2 r1) (View.ld x1 r0) (View.ld x3 r1) (View.ld x4 r2) (View.ld x5 r3)) (k0_pay4 (View.ld x6 r3))))⟩,
    ⟨r7, (k0_pay12 (k0_pay5 (k0_pay3 (View.ld x0 r0) (View.ld x2 r1) (View.ld x1 r0) (View.ld x3 r1) (View.ld x4 r2) (View.ld x5 r3)) (k0_pay4 (View.ld x6 r3))))⟩,
    ⟨r6, (k0_pay11 (k0_pay9 (k0_pay3 (View.ld x0 r0) (View.ld x2 r1) (View.ld x1 r0) (View.ld x3 r1) (View.ld x4 r2) (View.ld x5 r3)) (k0_pay4 (View.ld x6 r3))) (k0_pay10 (k0_pay3 (View.ld x0 r0) (View.ld x2 r1) (View.ld x1 r0) (View.ld x3 r1) (View.ld x4 r2) (View.ld x5 r3)) (k0_pay4 (View.ld x6 r3))))⟩,
    ⟨r5, (k0_pay8 (k0_pay3 (View.ld x0 r0) (View.ld x2 r1) (View.ld x1 r0) (View.ld x3 r1) (View.ld x4 r2) (View.ld x5 r3)) (k0_pay4 (View.ld x6 r3)))⟩,
    ⟨r4, (k0_pay7 (k0_pay3 (View.ld x0 r0) (View.ld x2 r1) (View.ld x1 r0) (View.ld x3 r1) (View.ld x4 r2) (View.ld x5 r3)) (k0_pay4 (View.ld x6 r3)))⟩]

theorem mem_r21 (y : S4096x2x128.Idx) (h : (y 0).val / 2048 = 1) (hs : (y 0).val % 8 = 7) : y ∈ r21.set := by
  refine r21.mem_set.mpr fun a => ?_
  have h0 : (y 0).val < 4096 := (y 0).isLt
  match a with
  | ⟨0, _⟩ => exact ⟨((y 0).val - 2048) / 8, by show _ < 256; omega, by show (y 0).val = 2048 + 1 * 7 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r20 (y : S4096x2x128.Idx) (h : (y 0).val / 2048 = 1) (hs : (y 0).val % 8 = 6) : y ∈ r20.set := by
  refine r20.mem_set.mpr fun a => ?_
  have h0 : (y 0).val < 4096 := (y 0).isLt
  match a with
  | ⟨0, _⟩ => exact ⟨((y 0).val - 2048) / 8, by show _ < 256; omega, by show (y 0).val = 2048 + 1 * 6 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r19 (y : S4096x2x128.Idx) (h : (y 0).val / 2048 = 1) (hs : (y 0).val % 8 = 5) : y ∈ r19.set := by
  refine r19.mem_set.mpr fun a => ?_
  have h0 : (y 0).val < 4096 := (y 0).isLt
  match a with
  | ⟨0, _⟩ => exact ⟨((y 0).val - 2048) / 8, by show _ < 256; omega, by show (y 0).val = 2048 + 1 * 5 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r18 (y : S4096x2x128.Idx) (h : (y 0).val / 2048 = 1) (hs : (y 0).val % 8 = 4) : y ∈ r18.set := by
  refine r18.mem_set.mpr fun a => ?_
  have h0 : (y 0).val < 4096 := (y 0).isLt
  match a with
  | ⟨0, _⟩ => exact ⟨((y 0).val - 2048) / 8, by show _ < 256; omega, by show (y 0).val = 2048 + 1 * 4 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r17 (y : S4096x2x128.Idx) (h : (y 0).val / 2048 = 1) (hs : (y 0).val % 8 = 3) : y ∈ r17.set := by
  refine r17.mem_set.mpr fun a => ?_
  have h0 : (y 0).val < 4096 := (y 0).isLt
  match a with
  | ⟨0, _⟩ => exact ⟨((y 0).val - 2048) / 8, by show _ < 256; omega, by show (y 0).val = 2048 + 1 * 3 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r16 (y : S4096x2x128.Idx) (h : (y 0).val / 2048 = 1) (hs : (y 0).val % 8 = 2) : y ∈ r16.set := by
  refine r16.mem_set.mpr fun a => ?_
  have h0 : (y 0).val < 4096 := (y 0).isLt
  match a with
  | ⟨0, _⟩ => exact ⟨((y 0).val - 2048) / 8, by show _ < 256; omega, by show (y 0).val = 2048 + 1 * 2 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r15 (y : S4096x2x128.Idx) (h : (y 0).val / 2048 = 1) (hs : (y 0).val % 8 = 1) : y ∈ r15.set := by
  refine r15.mem_set.mpr fun a => ?_
  have h0 : (y 0).val < 4096 := (y 0).isLt
  match a with
  | ⟨0, _⟩ => exact ⟨((y 0).val - 2048) / 8, by show _ < 256; omega, by show (y 0).val = 2048 + 1 * 1 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r14 (y : S4096x2x128.Idx) (h : (y 0).val / 2048 = 1) (hs : (y 0).val % 8 = 0) : y ∈ r14.set := by
  refine r14.mem_set.mpr fun a => ?_
  have h0 : (y 0).val < 4096 := (y 0).isLt
  match a with
  | ⟨0, _⟩ => exact ⟨((y 0).val - 2048) / 8, by show _ < 256; omega, by show (y 0).val = 2048 + 1 * 0 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r11 (y : S4096x2x128.Idx) (h : (y 0).val / 2048 = 0) (hs : (y 0).val % 8 = 7) : y ∈ r11.set := by
  refine r11.mem_set.mpr fun a => ?_
  have h0 : (y 0).val < 4096 := (y 0).isLt
  match a with
  | ⟨0, _⟩ => exact ⟨((y 0).val - 0) / 8, by show _ < 256; omega, by show (y 0).val = 0 + 1 * 7 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r10 (y : S4096x2x128.Idx) (h : (y 0).val / 2048 = 0) (hs : (y 0).val % 8 = 6) : y ∈ r10.set := by
  refine r10.mem_set.mpr fun a => ?_
  have h0 : (y 0).val < 4096 := (y 0).isLt
  match a with
  | ⟨0, _⟩ => exact ⟨((y 0).val - 0) / 8, by show _ < 256; omega, by show (y 0).val = 0 + 1 * 6 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r9 (y : S4096x2x128.Idx) (h : (y 0).val / 2048 = 0) (hs : (y 0).val % 8 = 5) : y ∈ r9.set := by
  refine r9.mem_set.mpr fun a => ?_
  have h0 : (y 0).val < 4096 := (y 0).isLt
  match a with
  | ⟨0, _⟩ => exact ⟨((y 0).val - 0) / 8, by show _ < 256; omega, by show (y 0).val = 0 + 1 * 5 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r8 (y : S4096x2x128.Idx) (h : (y 0).val / 2048 = 0) (hs : (y 0).val % 8 = 4) : y ∈ r8.set := by
  refine r8.mem_set.mpr fun a => ?_
  have h0 : (y 0).val < 4096 := (y 0).isLt
  match a with
  | ⟨0, _⟩ => exact ⟨((y 0).val - 0) / 8, by show _ < 256; omega, by show (y 0).val = 0 + 1 * 4 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r7 (y : S4096x2x128.Idx) (h : (y 0).val / 2048 = 0) (hs : (y 0).val % 8 = 3) : y ∈ r7.set := by
  refine r7.mem_set.mpr fun a => ?_
  have h0 : (y 0).val < 4096 := (y 0).isLt
  match a with
  | ⟨0, _⟩ => exact ⟨((y 0).val - 0) / 8, by show _ < 256; omega, by show (y 0).val = 0 + 1 * 3 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r6 (y : S4096x2x128.Idx) (h : (y 0).val / 2048 = 0) (hs : (y 0).val % 8 = 2) : y ∈ r6.set := by
  refine r6.mem_set.mpr fun a => ?_
  have h0 : (y 0).val < 4096 := (y 0).isLt
  match a with
  | ⟨0, _⟩ => exact ⟨((y 0).val - 0) / 8, by show _ < 256; omega, by show (y 0).val = 0 + 1 * 2 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r5 (y : S4096x2x128.Idx) (h : (y 0).val / 2048 = 0) (hs : (y 0).val % 8 = 1) : y ∈ r5.set := by
  refine r5.mem_set.mpr fun a => ?_
  have h0 : (y 0).val < 4096 := (y 0).isLt
  match a with
  | ⟨0, _⟩ => exact ⟨((y 0).val - 0) / 8, by show _ < 256; omega, by show (y 0).val = 0 + 1 * 1 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩
theorem mem_r4 (y : S4096x2x128.Idx) (h : (y 0).val / 2048 = 0) (hs : (y 0).val % 8 = 0) : y ∈ r4.set := by
  refine r4.mem_set.mpr fun a => ?_
  have h0 : (y 0).val < 4096 := (y 0).isLt
  match a with
  | ⟨0, _⟩ => exact ⟨((y 0).val - 0) / 8, by show _ < 256; omega, by show (y 0).val = 0 + 1 * 0 + 1 * 8 * _; omega⟩
  | ⟨1, _⟩ => exact ⟨(y 1).val, (y 1).isLt, by show (y 1).val = 0 + 1 * 0 + 1 * 1 * _; omega⟩
  | ⟨2, _⟩ => exact ⟨(y 2).val, (y 2).isLt, by show (y 2).val = 0 + 1 * 0 + 1 * 1 * _; omega⟩

/-- Its stores cover it: a row lies in its half, at its remainder modulo 8. -/
theorem cover9 (p0 : r21.shape.Idx → Elt F .bf16) (p1 : r20.shape.Idx → Elt F .bf16) (p2 : r19.shape.Idx → Elt F .bf16) (p3 : r18.shape.Idx → Elt F .bf16) (p4 : r17.shape.Idx → Elt F .bf16) (p5 : r16.shape.Idx → Elt F .bf16) (p6 : r15.shape.Idx → Elt F .bf16) (p7 : r14.shape.Idx → Elt F .bf16) (p8 : r11.shape.Idx → Elt F .bf16) (p9 : r10.shape.Idx → Elt F .bf16) (p10 : r9.shape.Idx → Elt F .bf16) (p11 : r8.shape.Idx → Elt F .bf16) (p12 : r7.shape.Idx → Elt F .bf16) (p13 : r6.shape.Idx → Elt F .bf16) (p14 : r5.shape.Idx → Elt F .bf16) (p15 : r4.shape.Idx → Elt F .bf16) (y : S4096x2x128.Idx) :
    ∃ pc ∈ ([⟨r21, p0⟩, ⟨r20, p1⟩, ⟨r19, p2⟩, ⟨r18, p3⟩, ⟨r17, p4⟩, ⟨r16, p5⟩, ⟨r15, p6⟩, ⟨r14, p7⟩, ⟨r11, p8⟩, ⟨r10, p9⟩, ⟨r9, p10⟩, ⟨r8, p11⟩, ⟨r7, p12⟩, ⟨r6, p13⟩, ⟨r5, p14⟩, ⟨r4, p15⟩] : List (View.Piece (Elt F) S4096x2x128 .bf16)), y ∈ pc.1.set := by
  have h0 : (y 0).val < 4096 := (y 0).isLt
  have hh : (y 0).val / 2048 = 0 ∨ (y 0).val / 2048 = 1 := by omega
  have hs : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hh with h | h <;> rcases hs with g | g | g | g | g | g | g | g
  · exact ⟨_, .tail _ (.tail _ (.tail _ (.tail _ (.tail _ (.tail _ (.tail _ (.tail _ (.tail _ (.tail _ (.tail _ (.tail _ (.tail _ (.tail _ (.tail _ (.head _))))))))))))))), mem_r4 y h g⟩
  · exact ⟨_, .tail _ (.tail _ (.tail _ (.tail _ (.tail _ (.tail _ (.tail _ (.tail _ (.tail _ (.tail _ (.tail _ (.tail _ (.tail _ (.tail _ (.head _)))))))))))))), mem_r5 y h g⟩
  · exact ⟨_, .tail _ (.tail _ (.tail _ (.tail _ (.tail _ (.tail _ (.tail _ (.tail _ (.tail _ (.tail _ (.tail _ (.tail _ (.tail _ (.head _))))))))))))), mem_r6 y h g⟩
  · exact ⟨_, .tail _ (.tail _ (.tail _ (.tail _ (.tail _ (.tail _ (.tail _ (.tail _ (.tail _ (.tail _ (.tail _ (.tail _ (.head _)))))))))))), mem_r7 y h g⟩
  · exact ⟨_, .tail _ (.tail _ (.tail _ (.tail _ (.tail _ (.tail _ (.tail _ (.tail _ (.tail _ (.tail _ (.tail _ (.head _))))))))))), mem_r8 y h g⟩
  · exact ⟨_, .tail _ (.tail _ (.tail _ (.tail _ (.tail _ (.tail _ (.tail _ (.tail _ (.tail _ (.tail _ (.head _)))))))))), mem_r9 y h g⟩
  · exact ⟨_, .tail _ (.tail _ (.tail _ (.tail _ (.tail _ (.tail _ (.tail _ (.tail _ (.tail _ (.head _))))))))), mem_r10 y h g⟩
  · exact ⟨_, .tail _ (.tail _ (.tail _ (.tail _ (.tail _ (.tail _ (.tail _ (.tail _ (.head _)))))))), mem_r11 y h g⟩
  · exact ⟨_, .tail _ (.tail _ (.tail _ (.tail _ (.tail _ (.tail _ (.tail _ (.head _))))))), mem_r14 y h g⟩
  · exact ⟨_, .tail _ (.tail _ (.tail _ (.tail _ (.tail _ (.tail _ (.head _)))))), mem_r15 y h g⟩
  · exact ⟨_, .tail _ (.tail _ (.tail _ (.tail _ (.tail _ (.head _))))), mem_r16 y h g⟩
  · exact ⟨_, .tail _ (.tail _ (.tail _ (.tail _ (.head _)))), mem_r17 y h g⟩
  · exact ⟨_, .tail _ (.tail _ (.tail _ (.head _))), mem_r18 y h g⟩
  · exact ⟨_, .tail _ (.tail _ (.head _)), mem_r19 y h g⟩
  · exact ⟨_, .tail _ (.head _), mem_r20 y h g⟩
  · exact ⟨_, .head _, mem_r21 y h g⟩

/-! ## The body's triple -/

set_option maxHeartbeats 4000000 in
/-- The body, on whole staging buffers with the inputs at `x…` and the outputs at anything, leaves the inputs as they were
    and each output at `out…` of the inputs. -/
theorem sound_kernel (c : Dev nD) (E : Set ℕ) (i : grid0.Coords) (arg2 : Memref sig .tc .vmem S512x1024 .bf16) (harg2 : arg2.IsWhole) (arg3 : Memref sig .tc .vmem S512x1024 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S4096x2x128 .bf16) (harg11 : arg11.IsWhole)
    (x0 : Vec F S512x1024 .bf16) (x1 : Vec F S512x1024 .bf16) (x2 : Vec F S1024x2048 .bf16) (x3 : Vec F S1024x2048 .bf16) (x4 : Vec F S512x2048 .f32) (x5 : Vec F S1x2048 .f32) (x6 : Vec F S1x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out7 x0 x1 x2 x3 x4 x5 x6) ∗ owns (c : Thread nD τ) arg10 fullShare (out8 x0 x1 x2 x3 x4 x5 x6) ∗ owns (c : Thread nD τ) arg11 fullShare (out9 x0 x1 x2 x3 x4 x5 x6)) -∗ K ⟨⟩))
      ⊢ wp frame (wpE (defs₀ (F := F)) Variants.none c none) E (cc0_proj_ln i arg2 harg2 arg3 harg3 arg4 harg4 arg5 harg5 arg6 harg6 arg7 harg7 arg8 harg8 arg9 harg9 arg10 harg10 arg11 harg11) K := by
  simp only [cc0_proj_ln_eq_skeleton]; unfold cc0_proj_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover7 _ _)
  isplitl [H8]
  · iexists _; isplitr
    swap; · iexact H8
    ipureintro
    exact View.read_writes_eq_canon _ _ _ (cover8 _ _)
  iexists _; isplitr
  swap; · iexact H9
  ipureintro
  exact View.read_writes_eq_canon _ _ _ (cover9 _ _ _ _ _ _ _ _ _ _ _ _ _ _ _ _)

/-! ## The pipeline's proof data -/

/-- The arrays as the call finds them; after the body each input's buffer at its block, each output's at `out…` of the
    input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
    | ⟨8, _⟩ => out8 (iblk m c 0 t) (iblk m c 1 t) (iblk m c 2 t) (iblk m c 3 t) (iblk m c 4 t) (iblk m c 5 t) (iblk m c 6 t)
    | ⟨9, _⟩ => out9 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation and the run -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl, after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body the call runs at point `t` is the printed one on that point's buffers. -/
theorem row_eq (t : Fin cfg0.N) : defs₀ (F := F) .tc cfg0.body (cfg0.bodyArgs t (cfg0.slots t)) = bodyAt0 t := by
  unfold defs₀; rw [Defs.onTc_tc]

/-- The obligation of the body at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- The run: every array of the call ends at what the proof data computes, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

end Cert.Kernel5Ideal.Body

end
-- ==== Proof.EvenNorm.lean ====
/- The end of the even layer's mixer: each block of rows the kernel computes is that block of the reference's
   array, both of the normalised stream and of its rounding. -/
module

public import proofs.«01_k».proof.Proof.BodyKernel5Ideal
public import proofs.«01_k».proof.Proof.LayerNorm
public import proofs.«01_k».proof.Proof.Gen.Reference5Ideal.Read
public import Idealize.ShloMosaic.Lib.Pointwise
public import Idealize.ShloMosaic.Lib.Claim
public import Idealize.ShloMosaic.Lib.Pipeline.ValueKit

@[expose] public section

set_option maxRecDepth 16384

noncomputable section

namespace Cert.Kernel5Ideal.Norm

open Cert.Kernel5Ideal Cert.Kernel5Ideal.Gen Cert.Kernel5Ideal.Body Cert.LayerNorm
open Idealize.ShloMosaic Idealize.ShloMosaic.Pipeline

/-- The first half of a block of rows. -/
theorem piece0 (v0 v4 : S256x1024.Idx → EReal) (v1 v5 : S1024x2048.Idx → EReal) (v9 : S256x2048.Idx → EReal)
    (v13 v15 : S1x2048.Idx → EReal) (r : Fin 256) (j : Fin 2048) :
    (k0_pay5 (F := Ideal) (k0_pay3 v0 v1 v4 v5 v9 v13) (k0_pay4 v15) (ix2 r j) : EReal)
      = layerNorm (fun i => stream2 (v9 (ix2 r i)) (fun k => v0 (ix2 r k)) (fun k => v1 (ix2 k i)) (fun k => v4 (ix2 r k)) (fun k => v5 (ix2 k i)))
          (v13 (ix2 0 j)) (v15 (ix2 0 j)) j := by
  unfold layerNorm mean stream2
  pointwise [k0_pay5, k0_pay3, k0_pay4]

/-- The second half of a block of rows. -/
theorem piece1 (v0 v4 : S256x1024.Idx → EReal) (v1 v5 : S1024x2048.Idx → EReal) (v9 : S256x2048.Idx → EReal)
    (v13 v15 : S1x2048.Idx → EReal) (r : Fin 256) (j : Fin 2048) :
    (k0_pay20 (F := Ideal) (k0_pay19 v0 v1) v4 v5 v9 v13 v15 (ix2 r j) : EReal)
      = layerNorm (fun i => stream2 (v9 (ix2 r i)) (fun k => v0 (ix2 r k)) (fun k => v1 (ix2 k i)) (fun k => v4 (ix2 r k)) (fun k => v5 (ix2 k i)))
          (v13 (ix2 0 j)) (v15 (ix2 0 j)) j := by
  unfold layerNorm mean stream2
  pointwise [k0_pay20, k0_pay19]

open Cert.Reference5Ideal.Read in
/-- The reference's stream at an index, before the layer norm. -/
theorem ref_stream (x0 x1 : S16384x1024.Idx → EReal) (x2 : S2048x2048.Idx → EReal) (x3 : S16384x2048.Idx → EReal)
    (r : Fin 16384) (j : Fin 2048) :
    (val_main_v6 (F := Ideal) x0 x1 x2 x3 (ix2 r j) : EReal)
      = stream2 (x3 (ix2 r j)) (fun k => x0 (ix2 r k)) (fun k : Fin 1024 => x2 (ix2 ⟨k, by omega⟩ j))
          (fun k => x1 (ix2 r k)) (fun k : Fin 1024 => x2 (ix2 ⟨1024 + k, by omega⟩ j)) := by
  unfold stream2
  pointwise [val_main_cst, val_main_v0, val_main_v1, val_main_v2, val_main_v3, val_main_v4, val_main_v5, val_main_v6]

open Cert.Reference5Ideal.Read in
/-- The reference at an index. -/
theorem ref_norm (x0 x1 : S16384x1024.Idx → EReal) (x2 : S2048x2048.Idx → EReal) (x3 : S16384x2048.Idx → EReal)
    (x4 x5 : S2048.Idx → EReal) (r : Fin 16384) (j : Fin 2048) :
    (val_main_v28 (F := Ideal) x0 x1 x2 x3 x4 x5 (ix2 r j) : EReal)
      = layerNorm (fun i => val_main_v6 (F := Ideal) x0 x1 x2 x3 (ix2 r i)) (x4 (ix1 j)) (x5 (ix1 j)) j := by
  unfold layerNorm mean
  pointwise [val_main_cst_0, val_main_v7, val_main_v8, val_main_cst_1, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28]

/-- The blocks at a grid point. -/
theorem idx : ∀ t : Fin cfg0.N,
    win0_0.index t = ![(grid0.coords t 0).val, 0] ∧ win0_1.index t = ![(grid0.coords t 0).val, 0]
    ∧ win0_2.index t = ![0, 0] ∧ win0_3.index t = ![0, 0]
    ∧ win0_4.index t = ![(grid0.coords t 0).val, 0] ∧ win0_5.index t = ![0, 0] ∧ win0_6.index t = ![0, 0]
    ∧ win0_7.index t = ![(grid0.coords t 0).val, 0] ∧ win0_8.index t = ![(grid0.coords t 0).val, 0] :=
  (by decide +kernel : ∀ t : Fin grid0.N, _)

/-- The grid has 32 blocks of rows. -/
theorem bounds : ∀ t : Fin cfg0.N, (grid0.coords t 0).val < 32 :=
  (by decide +kernel : ∀ t : Fin grid0.N, _)

variable (m : (ℓ : Loc nD τ sig) → Buf (Elt Ideal) ℓ)

/-- The first half of the weight as the call finds it. -/
theorem upper (c : Dev nD) (k : Fin 1024) (j : Fin 2048) :
    (V m c main_v0 (ix2 k j) : EReal) = m ((c.tc : Thread nD τ).loc main_arg2) (ix2 ⟨k, by omega⟩ j) := by
  rw [show V m c main_v0 = extractStridedSlice S1024x2048 ![0, 0] (m ((c.tc : Thread nD τ).loc main_arg2)) slices_S2048x2048_S1024x2048_0_0 from by
    unfold V; after_results <;> rfl]
  pointwise []

/-- The second half of the weight as the call finds it. -/
theorem lower (c : Dev nD) (k : Fin 1024) (j : Fin 2048) :
    (V m c main_v1 (ix2 k j) : EReal) = m ((c.tc : Thread nD τ).loc main_arg2) (ix2 ⟨1024 + k, by omega⟩ j) := by
  rw [show V m c main_v1 = extractStridedSlice S1024x2048 ![1024, 0] (m ((c.tc : Thread nD τ).loc main_arg2)) slices_S2048x2048_S1024x2048_1024_0 from by
    unfold V; after_results <;> rfl]
  pointwise []

/-- The gain as the call finds it: a row. -/
theorem gain (c : Dev nD) (j : Fin 2048) :
    (V m c main_v2 (ix2 0 j) : EReal) = m ((c.tc : Thread nD τ).loc main_arg4) (ix1 j) := by
  rw [show V m c main_v2 = shapeCast S1x2048 (m ((c.tc : Thread nD τ).loc main_arg4)) (by rfl) from by unfold V; after_results <;> rfl]
  pointwise []

/-- The bias as the call finds it: a row. -/
theorem bias (c : Dev nD) (j : Fin 2048) :
    (V m c main_v3 (ix2 0 j) : EReal) = m ((c.tc : Thread nD τ).loc main_arg5) (ix1 j) := by
  rw [show V m c main_v3 = shapeCast S1x2048 (m ((c.tc : Thread nD τ).loc main_arg5)) (by rfl) from by unfold V; after_results <;> rfl]
  pointwise []

/-- A block of the first rows. -/
theorem blk_first (c : Dev nD) (t : Fin cfg0.N) (r : Fin 512) (k : Fin 1024) :
    (iblk m c 0 t (ix2 r k) : EReal)
      = m ((c.tc : Thread nD τ).loc main_arg0) (ix2 ⟨(grid0.coords t 0).val * 512 + r, by have := bounds t; omega⟩ k) := by
  unfold iblk
  rw [show V m c (arrRef spec0 0) = m ((c.tc : Thread nD τ).loc main_arg0) from V_main_arg0 m c]
  blk_ext [idx t]

/-- A block of the second rows. -/
theorem blk_second (c : Dev nD) (t : Fin cfg0.N) (r : Fin 512) (k : Fin 1024) :
    (iblk m c 1 t (ix2 r k) : EReal)
      = m ((c.tc : Thread nD τ).loc main_arg1) (ix2 ⟨(grid0.coords t 0).val * 512 + r, by have := bounds t; omega⟩ k) := by
  unfold iblk
  rw [show V m c (arrRef spec0 1) = m ((c.tc : Thread nD τ).loc main_arg1) from V_main_arg1 m c]
  blk_ext [idx t]

/-- A block of the stream. -/
theorem blk_stream (c : Dev nD) (t : Fin cfg0.N) (r : Fin 512) (k : Fin 2048) :
    (iblk m c 4 t (ix2 r k) : EReal)
      = m ((c.tc : Thread nD τ).loc main_arg3) (ix2 ⟨(grid0.coords t 0).val * 512 + r, by have := bounds t; omega⟩ k) := by
  unfold iblk
  rw [show V m c (arrRef spec0 4) = m ((c.tc : Thread nD τ).loc main_arg3) from V_main_arg3 m c]
  blk_ext [idx t]

/-- The first half of the weight, whole at every point. -/
theorem blk_upper (c : Dev nD) (t : Fin cfg0.N) (k : Fin 1024) (j : Fin 2048) :
    (iblk m c 2 t (ix2 k j) : EReal) = m ((c.tc : Thread nD τ).loc main_arg2) (ix2 ⟨k, by omega⟩ j) := by
  refine Eq.trans ?_ (upper m c k j)
  unfold iblk
  rw [show V m c (arrRef spec0 2) = V m c main_v0 from rfl]
  generalize V m c main_v0 = X
  blk_ext [idx t]

/-- The second half of the weight, whole at every point. -/
theorem blk_lower (c : Dev nD) (t : Fin cfg0.N) (k : Fin 1024) (j : Fin 2048) :
    (iblk m c 3 t (ix2 k j) : EReal) = m ((c.tc : Thread nD τ).loc main_arg2) (ix2 ⟨1024 + k, by omega⟩ j) := by
  refine Eq.trans ?_ (lower m c k j)
  unfold iblk
  rw [show V m c (arrRef spec0 3) = V m c main_v1 from rfl]
  generalize V m c main_v1 = X
  blk_ext [idx t]

/-- The gain, whole at every point. -/
theorem blk_gain (c : Dev nD) (t : Fin cfg0.N) (j : Fin 2048) :
    (iblk m c 5 t (ix2 0 j) : EReal) = m ((c.tc : Thread nD τ).loc main_arg4) (ix1 j) := by
  refine Eq.trans ?_ (gain m c j)
  unfold iblk
  rw [show V m c (arrRef spec0 5) = V m c main_v2 from rfl]
  generalize V m c main_v2 = X
  blk_ext [idx t]

/-- The bias, whole at every point. -/
theorem blk_bias (c : Dev nD) (t : Fin cfg0.N) (j : Fin 2048) :
    (iblk m c 6 t (ix2 0 j) : EReal) = m ((c.tc : Thread nD τ).loc main_arg5) (ix1 j) := by
  refine Eq.trans ?_ (bias m c j)
  unfold iblk
  rw [show V m c (arrRef spec0 6) = V m c main_v3 from rfl]
  generalize V m c main_v3 = X
  blk_ext [idx t]

/-- The first half of a grid point's block, by the arguments. -/
theorem point0 (c : Dev nD) (t : Fin cfg0.N) (r : Fin 256) (j : Fin 2048) :
    (k0_pay5 (F := Ideal) (k0_pay3 (View.ld (iblk m c 0 t) r0) (View.ld (iblk m c 2 t) r1) (View.ld (iblk m c 1 t) r0) (View.ld (iblk m c 3 t) r1)
        (View.ld (iblk m c 4 t) r2) (View.ld (iblk m c 5 t) r3)) (k0_pay4 (View.ld (iblk m c 6 t) r3)) (ix2 r j) : EReal)
      = Cert.Reference5Ideal.Read.val_main_v28 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          (ix2 ⟨(grid0.coords t 0).val * 512 + r, by have := bounds t; omega⟩ j) := by
  rw [piece0, ref_norm]
  refine layerNorm_congr (fun i => Eq.trans (stream2_congr (Eq.trans ?_ (blk_stream m c t ⟨r, by omega⟩ i))
    (fun k => Eq.trans ?_ (blk_first m c t ⟨r, by omega⟩ k)) (fun k => Eq.trans ?_ (blk_upper m c t k i))
    (fun k => Eq.trans ?_ (blk_second m c t ⟨r, by omega⟩ k)) (fun k => Eq.trans ?_ (blk_lower m c t k i))) (ref_stream _ _ _ _ _ i).symm)
    (Eq.trans ?_ (blk_gain m c t j)) (Eq.trans ?_ (blk_bias m c t j)) j
  · generalize iblk m c 4 t = X
    refine congrArg X (funext fun a => Fin.ext ?_)
    match a with
    | ⟨0, _⟩ => show 0 + 1 * (r : ℕ) = r; omega
    | ⟨1, _⟩ => show 0 + 1 * (i : ℕ) = i; omega
  · generalize iblk m c 0 t = X
    refine congrArg X (funext fun a => Fin.ext ?_)
    match a with
    | ⟨0, _⟩ => show 0 + 1 * (r : ℕ) = r; omega
    | ⟨1, _⟩ => show 0 + 1 * (k : ℕ) = k; omega
  · generalize iblk m c 2 t = X
    refine congrArg X (funext fun a => Fin.ext ?_)
    match a with
    | ⟨0, _⟩ => show 0 + 1 * (k : ℕ) = k; omega
    | ⟨1, _⟩ => show 0 + 1 * (i : ℕ) = i; omega
  · generalize iblk m c 1 t = X
    refine congrArg X (funext fun a => Fin.ext ?_)
    match a with
    | ⟨0, _⟩ => show 0 + 1 * (r : ℕ) = r; omega
    | ⟨1, _⟩ => show 0 + 1 * (k : ℕ) = k; omega
  · generalize iblk m c 3 t = X
    refine congrArg X (funext fun a => Fin.ext ?_)
    match a with
    | ⟨0, _⟩ => show 0 + 1 * (k : ℕ) = k; omega
    | ⟨1, _⟩ => show 0 + 1 * (i : ℕ) = i; omega
  · generalize iblk m c 5 t = X
    refine congrArg X (funext fun a => Fin.ext ?_)
    match a with
    | ⟨0, _⟩ => show 0 + 1 * (0 : ℕ) = 0; omega
    | ⟨1, _⟩ => show 0 + 1 * (j : ℕ) = j; omega
  · generalize iblk m c 6 t = X
    refine congrArg X (funext fun a => Fin.ext ?_)
    match a with
    | ⟨0, _⟩ => show 0 + 1 * (0 : ℕ) = 0; omega
    | ⟨1, _⟩ => show 0 + 1 * (j : ℕ) = j; omega

/-- The second half of a grid point's block, by the arguments. -/
theorem point1 (c : Dev nD) (t : Fin cfg0.N) (r : Fin 256) (j : Fin 2048) :
    (k0_pay20 (F := Ideal) (k0_pay19 (View.ld (iblk m c 0 t) r12) (View.ld (iblk m c 2 t) r1)) (View.ld (iblk m c 1 t) r12) (View.ld (iblk m c 3 t) r1)
        (View.ld (iblk m c 4 t) r13) (View.ld (iblk m c 5 t) r3) (View.ld (iblk m c 6 t) r3) (ix2 r j) : EReal)
      = Cert.Reference5Ideal.Read.val_main_v28 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          (ix2 ⟨(grid0.coords t 0).val * 512 + (256 + r), by have := bounds t; omega⟩ j) := by
  rw [piece1, ref_norm]
  refine layerNorm_congr (fun i => Eq.trans (stream2_congr (Eq.trans ?_ (blk_stream m c t ⟨256 + r, by omega⟩ i))
    (fun k => Eq.trans ?_ (blk_first m c t ⟨256 + r, by omega⟩ k)) (fun k => Eq.trans ?_ (blk_upper m c t k i))
    (fun k => Eq.trans ?_ (blk_second m c t ⟨256 + r, by omega⟩ k)) (fun k => Eq.trans ?_ (blk_lower m c t k i))) (ref_stream _ _ _ _ _ i).symm)
    (Eq.trans ?_ (blk_gain m c t j)) (Eq.trans ?_ (blk_bias m c t j)) j
  · generalize iblk m c 4 t = X
    refine congrArg X (funext fun a => Fin.ext ?_)
    match a with
    | ⟨0, _⟩ => show 256 + 1 * (r : ℕ) = 256 + r; omega
    | ⟨1, _⟩ => show 0 + 1 * (i : ℕ) = i; omega
  · generalize iblk m c 0 t = X
    refine congrArg X (funext fun a => Fin.ext ?_)
    match a with
    | ⟨0, _⟩ => show 256 + 1 * (r : ℕ) = 256 + r; omega
    | ⟨1, _⟩ => show 0 + 1 * (k : ℕ) = k; omega
  · generalize iblk m c 2 t = X
    refine congrArg X (funext fun a => Fin.ext ?_)
    match a with
    | ⟨0, _⟩ => show 0 + 1 * (k : ℕ) = k; omega
    | ⟨1, _⟩ => show 0 + 1 * (i : ℕ) = i; omega
  · generalize iblk m c 1 t = X
    refine congrArg X (funext fun a => Fin.ext ?_)
    match a with
    | ⟨0, _⟩ => show 256 + 1 * (r : ℕ) = 256 + r; omega
    | ⟨1, _⟩ => show 0 + 1 * (k : ℕ) = k; omega
  · generalize iblk m c 3 t = X
    refine congrArg X (funext fun a => Fin.ext ?_)
    match a with
    | ⟨0, _⟩ => show 0 + 1 * (k : ℕ) = k; omega
    | ⟨1, _⟩ => show 0 + 1 * (i : ℕ) = i; omega
  · generalize iblk m c 5 t = X
    refine congrArg X (funext fun a => Fin.ext ?_)
    match a with
    | ⟨0, _⟩ => show 0 + 1 * (0 : ℕ) = 0; omega
    | ⟨1, _⟩ => show 0 + 1 * (j : ℕ) = j; omega
  · generalize iblk m c 6 t = X
    refine congrArg X (funext fun a => Fin.ext ?_)
    match a with
    | ⟨0, _⟩ => show 0 + 1 * (0 : ℕ) = 0; omega
    | ⟨1, _⟩ => show 0 + 1 * (j : ℕ) = j; omega

/-- Where an entry of the normalised stream's block lies in the array. -/
theorem place7 (t : Fin cfg0.N) (y : ((cfg0.win 7).xblock (cfg0.grid.coords t)).Idx) (a b : ℕ) (ha : a < 512) (hb : b < 2048)
    (h0 : ((y 0 : Fin _) : ℕ) = a) (h1 : ((y 1 : Fin _) : ℕ) = b) :
    (win0_7.blk t).view.emb y = ix2 ⟨(grid0.coords t 0).val * 512 + a, by have := bounds t; omega⟩ ⟨b, hb⟩ := by
  have e0 : (((cfg0.win 7).blk t).view.emb y 0 : ℕ) = (grid0.coords t 0).val * 512 + (y 0 : ℕ) := by blk_simp [idx t]
  have e1 : (((cfg0.win 7).blk t).view.emb y 1 : ℕ) = (y 1 : ℕ) := by blk_simp [idx t]
  funext i
  refine Fin.ext ?_
  match i with
  | ⟨0, _⟩ => exact e0.trans (by rw [h0]; rfl)
  | ⟨1, _⟩ => exact e1.trans (by rw [h1]; rfl)

/-- Where an entry of the rounded stream's block lies in the array. -/
theorem place8 (t : Fin cfg0.N) (y : ((cfg0.win 8).xblock (cfg0.grid.coords t)).Idx) (a b : ℕ) (ha : a < 512) (hb : b < 2048)
    (h0 : ((y 0 : Fin _) : ℕ) = a) (h1 : ((y 1 : Fin _) : ℕ) = b) :
    (win0_8.blk t).view.emb y = ix2 ⟨(grid0.coords t 0).val * 512 + a, by have := bounds t; omega⟩ ⟨b, hb⟩ := by
  have e0 : (((cfg0.win 8).blk t).view.emb y 0 : ℕ) = (grid0.coords t 0).val * 512 + (y 0 : ℕ) := by blk_simp [idx t]
  have e1 : (((cfg0.win 8).blk t).view.emb y 1 : ℕ) = (y 1 : ℕ) := by blk_simp [idx t]
  funext i
  refine Fin.ext ?_
  match i with
  | ⟨0, _⟩ => exact e0.trans (by rw [h0]; rfl)
  | ⟨1, _⟩ => exact e1.trans (by rw [h1]; rfl)

/-- The normalised stream after the run is the reference's. -/
theorem final7 (c : Dev nD) :
    (dats m 0 c).arrAt 7 (cfgs 0).N
      = Cert.Reference5Ideal.Read.val_main_v28 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  refine (dats m 0 c).arrAt_eq_of_covers 7 _ (by decide +kernel) fun t _ y => ?_
  blk_simp
  rw [after7]
  unfold out7
  canon_tiles x h
  · rw [place7 t y _ _ (by omega) x1_lt h0 h1]
    idx_vars x
    exact point1 m c t x0 x1
  · rw [place7 t y _ _ (by omega) x1_lt h0 h1]
    idx_vars x
    exact point0 m c t x0 x1

/-- The rounded stream after the run is the reference's. -/
theorem final8 (c : Dev nD) :
    (dats m 0 c).arrAt 8 (cfgs 0).N
      = Cert.Reference5Ideal.Read.val_main_v29 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  refine (dats m 0 c).arrAt_eq_of_covers 8 _ (by decide +kernel) fun t _ y => ?_
  blk_simp
  rw [after8]
  unfold out8
  canon_tiles x h
  · rw [place8 t y _ _ (by omega) x1_lt h0 h1]
    idx_vars x
    exact point1 m c t x0 x1
  · rw [place8 t y _ _ (by omega) x1_lt h0 h1]
    idx_vars x
    exact point0 m c t x0 x1

end Cert.Kernel5Ideal.Norm

end
-- ==== Proof.PrepRef.lean ====
/- The reference's queries, keys and values of the latent attention, read at a row and a column: the normalised
   inputs, their products with the weights, and the rotation of the columns that carry positions. -/
module

public import proofs.«01_k».proof.Proof.Gen.Reference6Ideal.Read
public import Idealize.ShloMosaic.Lib.Pointwise
public import Idealize.ShloMosaic.Lib.Claim
public import Idealize.ShloMosaic.Lib.Pipeline.ValueKit

@[expose] public section

set_option maxRecDepth 16384

noncomputable section

namespace Cert.Reference6Ideal.PrepRef

open Cert.Reference6Ideal Cert.Reference6Ideal.Gen Cert.Reference6Ideal.Read Idealize.ShloMosaic

/-- The root-mean-square norm of a row at one of its entries, with a gain: the entry times the reciprocal square root
    of the mean square and the small constant; `c` is the row's length. -/
def rms {n : ℕ} (c : EReal) (x : Fin n → EReal) (g : EReal) (k : Fin n) : EReal :=
  x k * Ideal.rsqrt (Ideal.div (∑ k, x k * x k) c + Ideal.ofBits FTy.f32 0x358637BD#32) * g

variable (x0 : S16384x4096.Idx → EReal) (x1 : S512.Idx → EReal) (x2 : S512x1536.Idx → EReal) (x3 : S256.Idx → EReal)
  (x4 : S256x2048.Idx → EReal)

/-- An entry of the input projection; zero where there is none. -/
def hcol (r j : ℕ) : EReal := if h : r < 16384 ∧ j < 4096 then x0 (ix2 ⟨r, h.1⟩ ⟨j, h.2⟩) else 0

/-- An entry of the queries' weight; zero where there is none. -/
def wq (k : Fin 512) (j : ℕ) : EReal := if h : j < 1536 then x2 (ix2 k ⟨j, h⟩) else 0

/-- An entry of the keys' and values' weight; zero where there is none. -/
def wkv (k : Fin 256) (j : ℕ) : EReal := if h : j < 2048 then x4 (ix2 k ⟨j, h⟩) else 0

/-- The queries' normalised input. -/
def cq (r : ℕ) (k : Fin 512) : EReal :=
  rms (Ideal.ofBits FTy.f32 0x44000000#32) (fun k : Fin 512 => hcol x0 r (3072 + k.val)) (x1 (ix1 k)) k

/-- The keys' and values' normalised input. -/
def ckv (r : ℕ) (k : Fin 256) : EReal :=
  rms (Ideal.ofBits FTy.f32 0x43800000#32) (fun k : Fin 256 => hcol x0 r (3584 + k.val)) (x3 (ix1 k)) k

/-- A query before its rotation, scaled. -/
def qn (r j : ℕ) : EReal := (∑ k, cq x0 x1 r k * wq x2 k j) * Ideal.ofBits FTy.f32 0x3DD53B95#32

/-- A key or a value before its rotation. -/
def kvn (r j : ℕ) : EReal := ∑ k, ckv x0 x3 r k * wkv x4 k j

/-- The cosine of position `s` at pair `u`; zero where there is none. -/
def co (s u : ℕ) : EReal := if h : s < 4096 ∧ u < 32 then val_main_v14 (F := Ideal) (ix2 ⟨s, h.1⟩ ⟨u, h.2⟩) else 0

/-- The sine of position `s` at pair `u`; zero where there is none. -/
def si (s u : ℕ) : EReal := if h : s < 4096 ∧ u < 32 then val_main_v16 (F := Ideal) (ix2 ⟨s, h.1⟩ ⟨u, h.2⟩) else 0

/-- The queries at head `h` and lane `l` of its 256. -/
def qout (r h l : ℕ) : EReal :=
  if l < 128 then qn x0 x1 x2 r (h * 192 + l)
  else if l < 160 then qn x0 x1 x2 r (h * 192 + l) * co (r % 4096) (l - 128) - qn x0 x1 x2 r (h * 192 + l + 32) * si (r % 4096) (l - 128)
  else if l < 192 then qn x0 x1 x2 r (h * 192 + l) * co (r % 4096) (l - 160) + qn x0 x1 x2 r (h * 192 + l - 32) * si (r % 4096) (l - 160)
  else 0

/-- The keys at head `h` and lane `l` of its 256. -/
def kout (r h l : ℕ) : EReal :=
  if l < 128 then kvn x0 x3 x4 r (h * 256 + l)
  else if l < 160 then hcol x0 r (3840 + (l - 128)) * co (r % 4096) (l - 128) - hcol x0 r (3840 + (l - 64)) * si (r % 4096) (l - 128)
  else if l < 192 then hcol x0 r (3840 + (l - 128)) * co (r % 4096) (l - 160) + hcol x0 r (3840 + (l - 64)) * si (r % 4096) (l - 160)
  else 0

/-- The input projection in sequences. -/
theorem seq_apply (B : Fin 4) (S : Fin 4096) (j : Fin 4096) :
    (val_main_v18 (F := Ideal) x0 (ix3 B S j) : EReal) = hcol x0 (B.val * 4096 + S.val) j.val := by
  rw [hcol, dif_pos ⟨by omega, j.2⟩]
  pointwise [val_main_v18]

/-- The queries' normalised input, as the reference computes it. -/
theorem cq_apply (B : Fin 4) (S : Fin 4096) (k : Fin 512) :
    (val_main_v35 (F := Ideal) x0 x1 (ix3 B S k) : EReal) = cq x0 x1 (B.val * 4096 + S.val) k := by
  unfold cq rms
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]
  simp only [seq_apply]

/-- The keys' and values' normalised input, as the reference computes it. -/
theorem ckv_apply (B : Fin 4) (S : Fin 4096) (k : Fin 256) :
    (val_main_v52 (F := Ideal) x0 x3 (ix3 B S k) : EReal) = ckv x0 x3 (B.val * 4096 + S.val) k := by
  unfold ckv rms
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_cst_5, val_main_cst_6, val_main_cst_7]
  simp only [seq_apply]

/-- The queries before their rotation. -/
theorem qn_apply (B : Fin 4) (S : Fin 4096) (h : Fin 8) (d : Fin 192) :
    (val_main_v56 (F := Ideal) x0 x1 x2 (ix4 B S h d) : EReal) = qn x0 x1 x2 (B.val * 4096 + S.val) (h.val * 192 + d.val) := by
  unfold qn
  pointwise [val_main_v56, val_main_v55, val_main_cst_8, val_main_v54, val_main_v53]
  refine congrArg (· * _) (Finset.sum_congr rfl fun k _ => congrArg₂ (· * ·) (cq_apply x0 x1 B S k) ?_)
  rw [wq, dif_pos (by omega)]

/-- The keys and values before the rotation. -/
theorem kvn_apply (B : Fin 4) (S : Fin 4096) (h : Fin 8) (d : Fin 256) :
    (val_main_v58 (F := Ideal) x0 x3 x4 (ix4 B S h d) : EReal) = kvn x0 x3 x4 (B.val * 4096 + S.val) (h.val * 256 + d.val) := by
  unfold kvn
  pointwise [val_main_v58, val_main_v57]
  refine Finset.sum_congr rfl fun k _ => congrArg₂ (· * ·) (ckv_apply x0 x3 B S k) ?_
  rw [wkv, dif_pos (by omega)]

/-- The table of cosines at an index. -/
theorem co_at (s : Fin 4096) (u : Fin 32) (s' u' : ℕ) (hs : s.val = s') (hu : u.val = u') :
    (val_main_v14 (F := Ideal) (ix2 s u) : EReal) = co s' u' := by
  subst hs hu
  rw [co, dif_pos ⟨s.2, u.2⟩]

/-- The table of sines at an index. -/
theorem si_at (s : Fin 4096) (u : Fin 32) (s' u' : ℕ) (hs : s.val = s') (hu : u.val = u') :
    (val_main_v16 (F := Ideal) (ix2 s u) : EReal) = si s' u' := by
  subst hs hu
  rw [si, dif_pos ⟨s.2, u.2⟩]

/-- The queries before their rotation, at a row and a column. -/
theorem qn_at (B : Fin 4) (S : Fin 4096) (h : Fin 8) (d : Fin 192) (r j : ℕ) (kr : B.val * 4096 + S.val = r)
    (kj : h.val * 192 + d.val = j) : (val_main_v56 (F := Ideal) x0 x1 x2 (ix4 B S h d) : EReal) = qn x0 x1 x2 r j := by
  subst kr kj
  exact qn_apply x0 x1 x2 B S h d

/-- The keys and values before the rotation, at a row and a column. -/
theorem kvn_at (B : Fin 4) (S : Fin 4096) (h : Fin 8) (d : Fin 256) (r j : ℕ) (kr : B.val * 4096 + S.val = r)
    (kj : h.val * 256 + d.val = j) : (val_main_v58 (F := Ideal) x0 x3 x4 (ix4 B S h d) : EReal) = kvn x0 x3 x4 r j := by
  subst kr kj
  exact kvn_apply x0 x3 x4 B S h d

/-- The input projection in sequences, at a row and a column. -/
theorem seq_at (B : Fin 4) (S : Fin 4096) (j : Fin 4096) (r j' : ℕ) (kr : B.val * 4096 + S.val = r) (kj : j.val = j') :
    (val_main_v18 (F := Ideal) x0 (ix3 B S j) : EReal) = hcol x0 r j' := by
  subst kr kj
  exact seq_apply x0 B S j

/-- The queries. -/
theorem query (B : Fin 4) (S : Fin 4096) (h : Fin 8) (l : Fin 256) (r : ℕ) (kr : B.val * 4096 + S.val = r) :
    (val_main_v99 (F := Ideal) x0 x1 x2 (ix4 B S h l) : EReal) = qout x0 x1 x2 r h.val l.val := by
  have ks : S.val = r % 4096 := by omega
  generalize hO : qout x0 x1 x2 r h.val l.val = O
  pointwise [val_main_v99, val_main_v98, val_main_v97, val_main_v96, val_main_v95, val_main_v94, val_main_v93, val_main_v92, val_main_v91, val_main_v90, val_main_v89, val_main_v88, val_main_v87, val_main_v86, val_main_v85, val_main_v84, val_main_v59, val_main_v60, val_main_v68, val_main_cst_9, val_main_v15, val_main_v17]
  subst hO
  unfold qout
  by_cases h1 : l.val < 128
  · rw [dif_pos h1, if_pos h1]
    exact qn_at x0 x1 x2 _ _ _ _ _ _ kr rfl
  rw [dif_neg h1, if_neg h1]
  by_cases h2 : l.val < 160
  · rw [dif_pos (by omega), if_pos h2]
    exact congrArg₂ (· - ·)
      (congrArg₂ (· * ·) (qn_at x0 x1 x2 _ _ _ _ _ _ kr (by dsimp only; omega)) (co_at _ _ _ _ ks rfl))
      (congrArg₂ (· * ·) (qn_at x0 x1 x2 _ _ _ _ _ _ kr (by dsimp only; omega)) (si_at _ _ _ _ ks rfl))
  rw [dif_neg (by omega), if_neg h2]
  by_cases h3 : l.val < 192
  · rw [dif_pos (by omega), if_pos h3]
    exact congrArg₂ (· + ·)
      (congrArg₂ (· * ·) (qn_at x0 x1 x2 _ _ _ _ _ _ kr (by dsimp only; omega)) (co_at _ _ _ _ ks (by dsimp only; omega)))
      (congrArg₂ (· * ·) (qn_at x0 x1 x2 _ _ _ _ _ _ kr (by dsimp only; omega)) (si_at _ _ _ _ ks (by dsimp only; omega)))
  · rw [dif_neg (by omega), if_neg h3]

/-- The keys' positional lanes; at the head axis of one. -/
theorem kpe (B : Fin 4) (S : Fin 4096) (o : Fin 1) (u : Fin 64) (l r : ℕ) (kr : B.val * 4096 + S.val = r) (kl : l = 128 + u.val) :
    (val_main_v83 (F := Ideal) x0 (ix4 B S o u) : EReal) =
      if l < 160 then hcol x0 r (3840 + (l - 128)) * co (r % 4096) (l - 128) - hcol x0 r (3840 + (l - 64)) * si (r % 4096) (l - 128)
      else hcol x0 r (3840 + (l - 128)) * co (r % 4096) (l - 160) + hcol x0 r (3840 + (l - 64)) * si (r % 4096) (l - 160) := by
  have ks : S.val = r % 4096 := by omega
  by_cases h1 : u.val < 32
  · rw [if_pos (by omega)]
    generalize hO : (hcol x0 r (3840 + (l - 128)) * co (r % 4096) (l - 128) - hcol x0 r (3840 + (l - 64)) * si (r % 4096) (l - 128) : EReal) = O
    pointwise [val_main_v83]
    rw [dif_pos h1]
    subst hO
    pointwise [val_main_v75, val_main_v74, val_main_v73, val_main_v72, val_main_v71, val_main_v70, val_main_v69, val_main_v64, val_main_v66, val_main_v63, val_main_v62, val_main_v61, val_main_v15, val_main_v17]
    exact congrArg₂ (· - ·)
      (congrArg₂ (· * ·) (seq_at x0 _ _ _ _ _ kr (by dsimp only; omega)) (co_at _ _ _ _ ks (by dsimp only; omega)))
      (congrArg₂ (· * ·) (seq_at x0 _ _ _ _ _ kr (by dsimp only; omega)) (si_at _ _ _ _ ks (by dsimp only; omega)))
  · rw [if_neg (by omega)]
    generalize hO : (hcol x0 r (3840 + (l - 128)) * co (r % 4096) (l - 160) + hcol x0 r (3840 + (l - 64)) * si (r % 4096) (l - 160) : EReal) = O
    pointwise [val_main_v83]
    rw [dif_neg h1]
    subst hO
    pointwise [val_main_v82, val_main_v81, val_main_v80, val_main_v79, val_main_v78, val_main_v77, val_main_v76, val_main_v65, val_main_v67, val_main_v63, val_main_v62, val_main_v61, val_main_v15, val_main_v17]
    exact congrArg₂ (· + ·)
      (congrArg₂ (· * ·) (seq_at x0 _ _ _ _ _ kr (by dsimp only; omega)) (co_at _ _ _ _ ks (by dsimp only; omega)))
      (congrArg₂ (· * ·) (seq_at x0 _ _ _ _ _ kr (by dsimp only; omega)) (si_at _ _ _ _ ks (by dsimp only; omega)))

/-- The keys. -/
theorem key (B : Fin 4) (S : Fin 4096) (h : Fin 8) (l : Fin 256) (r : ℕ) (kr : B.val * 4096 + S.val = r) :
    (val_main_v102 (F := Ideal) x0 x3 x4 (ix4 B S h l) : EReal) = kout x0 x3 x4 r h.val l.val := by
  generalize hO : kout x0 x3 x4 r h.val l.val = O
  pointwise [val_main_v102, val_main_v101, val_main_v100, val_main_v68, val_main_cst_9]
  subst hO
  unfold kout
  by_cases h1 : l.val < 128
  · rw [dif_pos h1, if_pos h1]
    exact kvn_at x0 x3 x4 _ _ _ _ _ _ kr rfl
  rw [dif_neg h1, if_neg h1]
  by_cases h3 : l.val < 192
  · rw [dif_pos (by omega)]
    refine (kpe x0 _ _ _ _ l.val r kr (by dsimp only; omega)).trans ?_
    by_cases h2 : l.val < 160
    · rw [if_pos h2, if_pos h2]
    · rw [if_neg h2, if_neg h2, if_pos h3]
  · rw [dif_neg (by omega), if_neg (by omega), if_neg h3]

/-- The queries' result at a row and a column. -/
theorem ref_query (i : S16384x2048.Idx) (r j : ℕ) (e0 : (i 0).val = r) (e1 : (i 1).val = j) :
    (val_main_v107 (F := Ideal) x0 x1 x2 i : EReal) = qout x0 x1 x2 r (j / 256) (j % 256) := by
  idx_vars i
  subst e0 e1
  generalize hO : qout x0 x1 x2 _ _ _ = O
  pointwise [val_main_v107, val_main_v106]
  subst hO
  exact query x0 x1 x2 _ _ _ _ _ (by dsimp only; omega)

/-- The keys' result at a row and a column. -/
theorem ref_key (i : S16384x2048.Idx) (r j : ℕ) (e0 : (i 0).val = r) (e1 : (i 1).val = j) :
    (val_main_v109 (F := Ideal) x0 x3 x4 i : EReal) = kout x0 x3 x4 r (j / 256) (j % 256) := by
  idx_vars i
  subst e0 e1
  generalize hO : kout x0 x3 x4 _ _ _ = O
  pointwise [val_main_v109, val_main_v108]
  subst hO
  exact key x0 x3 x4 _ _ _ _ _ (by dsimp only; omega)

/-- The values' result, transposed, at a row and a column. -/
theorem ref_value (i : S1024x16384.Idx) (j r : ℕ) (e0 : (i 0).val = j) (e1 : (i 1).val = r) :
    (val_main_v110 (F := Ideal) x0 x3 x4 i : EReal) = kvn x0 x3 x4 r (j / 128 * 256 + (128 + j % 128)) := by
  idx_vars i
  subst e0 e1
  generalize hO : kvn x0 x3 x4 _ _ = O
  pointwise [val_main_v110, val_main_v105, val_main_v104, val_main_v103]
  subst hO
  rw [kvn_apply]
  dsimp only
  congr 1
  omega

end Cert.Reference6Ideal.PrepRef

end
-- ==== Proof.PrepHost.lean ====
/- The operands that the host makes for the call which prepares the queries, keys and values: the two tables of the
   rotation, the permuted weight of the queries, the two parts of the weight of the keys and values, and the gains. -/
module

public import proofs.«01_k».proof.Proof.Gen.Kernel6Ideal.Value
public import proofs.«01_k».proof.Proof.PrepRef

@[expose] public section

set_option maxRecDepth 16384

noncomputable section

namespace Cert.Kernel6Ideal.Prep

open Cert.Kernel6Ideal Cert.Kernel6Ideal.Gen Idealize.ShloMosaic Idealize.ShloMosaic.Pipeline Cert.Reference6Ideal.PrepRef

variable (m : (ℓ : Loc nD τ sig) → Buf (Elt Ideal) ℓ)

/-- The table of cosines that the call gets: the cosines twice, then zeros. -/
def ctab (s u : ℕ) : EReal := if u < 32 then co s u else if u < 64 then co s (u - 32) else 0

/-- The table of sines that the call gets: the negated sines, the sines, then zeros. -/
def stab (s u : ℕ) : EReal := if u < 32 then -si s u else if u < 64 then si s (u - 32) else 0

/-- The column of the queries' weight at lane `d` of a head's 256: its own 192 columns, then the last 64 of these
    with their halves swapped. -/
def perm (d : ℕ) : ℕ := if d < 192 then d else if d < 224 then d - 32 else d - 96

/-- The host's table of cosines, from a table `C` of one entry per pair. -/
def ctabOf (C : FVec Ideal S4096x32 .f32) : FVec Ideal S4096x128 .f32 :=
  concatenate S4096x128 1 [⟨S4096x32, C⟩, ⟨S4096x32, C⟩,
    ⟨S4096x64, (broadcastInDim S4096x64 ![] bcast_S_S4096x64 (constant (F := Ideal) S_ .f32 0x00000000#32) : FVec Ideal S4096x64 .f32)⟩]
    concatenates_S4096x32_S4096x32_S4096x64_S4096x128_d1

/-- The host's table of sines, from a table `D` of one entry per pair. -/
def stabOf (D : FVec Ideal S4096x32 .f32) : FVec Ideal S4096x128 .f32 :=
  concatenate S4096x128 1 [⟨S4096x32, (Host.negf D : FVec Ideal S4096x32 .f32)⟩, ⟨S4096x32, D⟩,
    ⟨S4096x64, (broadcastInDim S4096x64 ![] bcast_S_S4096x64 (constant (F := Ideal) S_ .f32 0x00000000#32) : FVec Ideal S4096x64 .f32)⟩]
    concatenates_S4096x32_S4096x32_S4096x64_S4096x128_d1

/-- The queries' weight by heads. -/
def wqHeads (W : FVec Ideal S512x1536 .f32) : FVec Ideal S512x8x192 .f32 := shapeCast S512x8x192 W shapeCasts_S512x1536_S512x8x192

/-- The last 64 columns of each head of the queries' weight. -/
def wqTail (W : FVec Ideal S512x1536 .f32) : FVec Ideal S512x8x64 .f32 :=
  extractStridedSlice S512x8x64 ![0, 0, 128] (wqHeads W) slices_S512x8x192_S512x8x64_0_0_128

/-- The queries' weight with its repeated columns. -/
def wqOf (W : FVec Ideal S512x1536 .f32) : FVec Ideal S512x2048 .bf16 :=
  truncf .bf16 (shapeCast S512x2048 (concatenate S512x8x256 2
    [⟨S512x8x192, wqHeads W⟩,
     ⟨S512x8x32, (extractStridedSlice S512x8x32 ![0, 0, 32] (wqTail W) slices_S512x8x64_S512x8x32_0_0_32 : FVec Ideal S512x8x32 .f32)⟩,
     ⟨S512x8x32, (extractStridedSlice S512x8x32 ![0, 0, 0] (wqTail W) slices_S512x8x64_S512x8x32_0_0_0 : FVec Ideal S512x8x32 .f32)⟩]
    concatenates_S512x8x192_S512x8x32_S512x8x32_S512x8x256_d2 : FVec Ideal S512x8x256 .f32) shapeCasts_S512x8x256_S512x2048) bitsLt_bf16_f32

/-- The keys' and values' weight by heads. -/
def wkvHeads (W : FVec Ideal S256x2048 .f32) : FVec Ideal S256x8x256 .f32 := shapeCast S256x8x256 W shapeCasts_S256x2048_S256x8x256

/-- The keys' part of that weight. -/
def wkOf (W : FVec Ideal S256x2048 .f32) : FVec Ideal S256x1024 .bf16 :=
  truncf .bf16 (shapeCast S256x1024 (extractStridedSlice S256x8x128 ![0, 0, 0] (wkvHeads W) slices_S256x8x256_S256x8x128_0_0_0)
    shapeCasts_S256x8x128_S256x1024) bitsLt_bf16_f32

/-- The values' part of that weight, transposed. -/
def wvOf (W : FVec Ideal S256x2048 .f32) : FVec Ideal S1024x256 .bf16 :=
  truncf .bf16 (transpose S1024x256 [1, 0] (shapeCast S256x1024 (extractStridedSlice S256x8x128 ![0, 0, 128] (wkvHeads W)
    slices_S256x8x256_S256x8x128_0_0_128) shapeCasts_S256x8x128_S256x1024) transposes_S256x1024_S1024x256_1_0) bitsLt_bf16_f32

set_option maxHeartbeats 2000000 in
/-- The host's table of cosines, zeros in its second half. -/
theorem V_ctab (c : Dev nD) (s : Fin 4096) (u : Fin 128) : (V m c main_v32 (ix2 s u) : EReal) = ctab s.val u.val := by
  rw [show V m c main_v32 = ctabOf (Cert.Reference6Ideal.Read.val_main_v14 (F := Ideal)) from by unfold V; after_results <;> rfl]
  generalize hC : Cert.Reference6Ideal.Read.val_main_v14 (F := Ideal) = C
  generalize hO : ctab s.val u.val = O
  pointwise [ctabOf]
  subst hO hC
  unfold ctab
  by_cases h1 : u.val < 32
  · rw [dif_pos h1, if_pos h1]
    exact co_at _ _ _ _ rfl rfl
  rw [dif_neg h1, if_neg h1]
  by_cases h2 : u.val < 64
  · rw [dif_pos (by omega), if_pos h2]
    exact co_at _ _ _ _ rfl rfl
  · rw [dif_neg (by omega), if_neg h2]

set_option maxHeartbeats 2000000 in
/-- The host's table of sines, zeros in its second half. -/
theorem V_stab (c : Dev nD) (s : Fin 4096) (u : Fin 128) : (V m c main_v34 (ix2 s u) : EReal) = stab s.val u.val := by
  rw [show V m c main_v34 = stabOf (Cert.Reference6Ideal.Read.val_main_v16 (F := Ideal)) from by unfold V; after_results <;> rfl]
  generalize hC : Cert.Reference6Ideal.Read.val_main_v16 (F := Ideal) = C
  generalize hO : stab s.val u.val = O
  pointwise [stabOf]
  subst hO hC
  unfold stab
  by_cases h1 : u.val < 32
  · rw [dif_pos h1, if_pos h1]
    exact congrArg (fun z : EReal => -z) (si_at _ _ _ _ rfl rfl)
  rw [dif_neg h1, if_neg h1]
  by_cases h2 : u.val < 64
  · rw [dif_pos (by omega), if_pos h2]
    exact si_at _ _ _ _ rfl rfl
  · rw [dif_neg (by omega), if_neg h2]

set_option maxHeartbeats 2000000 in
/-- The queries' weight as the call gets it. -/
theorem V_wq (c : Dev nD) (k : Fin 512) (j : Fin 2048) :
    (V m c main_v6 (ix2 k j) : EReal) = wq (m ((c.tc : Thread nD τ).loc main_arg2)) k (j.val / 256 * 192 + perm (j.val % 256)) := by
  have hp : perm (j.val % 256) < 192 := by unfold perm; split_ifs <;> omega
  rw [wq, dif_pos (by omega)]
  rw [show V m c main_v6 = wqOf (m ((c.tc : Thread nD τ).loc main_arg2)) from by unfold V; after_results <;> rfl]
  generalize m ((c.tc : Thread nD τ).loc main_arg2) = W
  pointwise [wqOf, wqTail, wqHeads]
  by_cases h1 : j.val % 256 < 192
  · rw [dif_pos h1]
    refine congrArg W (congrArg (ix2 k) (Fin.ext ?_))
    dsimp only
    rw [perm, if_pos h1]
  rw [dif_neg h1]
  by_cases h2 : j.val % 256 < 224
  · rw [dif_pos (by omega)]
    refine congrArg W (congrArg (ix2 k) (Fin.ext ?_))
    dsimp only
    rw [perm, if_neg h1, if_pos h2]
    omega
  · rw [dif_neg (by omega)]
    refine congrArg W (congrArg (ix2 k) (Fin.ext ?_))
    dsimp only
    rw [perm, if_neg h1, if_neg h2]
    omega

set_option maxHeartbeats 2000000 in
/-- The keys' weight as the call gets it. -/
theorem V_wk (c : Dev nD) (k : Fin 256) (j : Fin 1024) :
    (V m c main_v10 (ix2 k j) : EReal) = wkv (m ((c.tc : Thread nD τ).loc main_arg4)) k (j.val / 128 * 256 + j.val % 128) := by
  rw [wkv, dif_pos (by omega)]
  rw [show V m c main_v10 = wkOf (m ((c.tc : Thread nD τ).loc main_arg4)) from by unfold V; after_results <;> rfl]
  generalize m ((c.tc : Thread nD τ).loc main_arg4) = W
  pointwise [wkOf, wkvHeads]

set_option maxHeartbeats 2000000 in
/-- The values' weight as the call gets it, transposed. -/
theorem V_wv (c : Dev nD) (j : Fin 1024) (k : Fin 256) :
    (V m c main_v14 (ix2 j k) : EReal) = wkv (m ((c.tc : Thread nD τ).loc main_arg4)) k (j.val / 128 * 256 + (128 + j.val % 128)) := by
  rw [wkv, dif_pos (by omega)]
  rw [show V m c main_v14 = wvOf (m ((c.tc : Thread nD τ).loc main_arg4)) from by unfold V; after_results <;> rfl]
  generalize m ((c.tc : Thread nD τ).loc main_arg4) = W
  pointwise [wvOf, wkvHeads]

set_option maxHeartbeats 2000000 in
/-- The queries' gain as the call gets it: a row. -/
theorem V_gq (c : Dev nD) (k : Fin 512) : (V m c main_v35 (ix2 0 k) : EReal) = m ((c.tc : Thread nD τ).loc main_arg1) (ix1 k) := by
  rw [show V m c main_v35 = shapeCast S1x512 (m ((c.tc : Thread nD τ).loc main_arg1)) (by rfl) from by unfold V; after_results <;> rfl]
  pointwise []

set_option maxHeartbeats 2000000 in
/-- The keys' and values' gain as the call gets it: a row. -/
theorem V_gkv (c : Dev nD) (k : Fin 256) : (V m c main_v36 (ix2 0 k) : EReal) = m ((c.tc : Thread nD τ).loc main_arg3) (ix1 k) := by
  rw [show V m c main_v36 = shapeCast S1x256 (m ((c.tc : Thread nD τ).loc main_arg3)) (by rfl) from by unfold V; after_results <;> rfl]
  pointwise []

end Cert.Kernel6Ideal.Prep

end
-- ==== Proof.Prep.lean ====
/- The preparation of the queries, keys and values of the latent attention: the three result arrays of the call are
   the reference's arrays. -/
module

public import proofs.«01_k».proof.Proof.PrepHost

@[expose] public section

set_option maxRecDepth 16384

noncomputable section

namespace Cert.Kernel6Ideal.Prep

open Cert.Kernel6Ideal Cert.Kernel6Ideal.Gen Idealize.ShloMosaic Idealize.ShloMosaic.Pipeline Cert.Reference6Ideal.PrepRef

variable (m : (ℓ : Loc nD τ sig) → Buf (Elt Ideal) ℓ)

/-- The blocks at a grid point. -/
theorem idx : ∀ t : Fin cfg0.N,
    win0_0.index t = ![(grid0.coords t 0).val, 6] ∧ win0_1.index t = ![(grid0.coords t 0).val, 14]
    ∧ win0_2.index t = ![(grid0.coords t 0).val, 30] ∧ win0_3.index t = ![0, 0] ∧ win0_4.index t = ![0, 0]
    ∧ win0_5.index t = ![0, 0] ∧ win0_6.index t = ![0, 0] ∧ win0_7.index t = ![0, 0]
    ∧ win0_8.index t = ![(grid0.coords t 0).val % 8, 0] ∧ win0_9.index t = ![(grid0.coords t 0).val % 8, 0]
    ∧ win0_10.index t = ![(grid0.coords t 0).val, 0] ∧ win0_11.index t = ![(grid0.coords t 0).val, 0]
    ∧ win0_12.index t = ![0, (grid0.coords t 0).val] :=
  (by decide +kernel : ∀ t : Fin grid0.N, _)

/-- The grid has 32 blocks of rows. -/
theorem bounds : ∀ t : Fin cfg0.N, (grid0.coords t 0).val < 32 :=
  (by decide +kernel : ∀ t : Fin grid0.N, _)

/-- A block of the queries' input. -/
theorem blk_cq (c : Dev nD) (t : Fin cfg0.N) (a : Fin 512) (k : Fin 512) :
    (iblk m c 0 t (ix2 a k) : EReal) = hcol (m ((c.tc : Thread nD τ).loc main_arg0)) ((grid0.coords t 0).val * 512 + a.val) (3072 + k.val) := by
  have hb := bounds t
  rw [hcol, dif_pos ⟨by omega, by omega⟩]
  unfold iblk
  rw [show V m c (arrRef spec0 0) = (m ((c.tc : Thread nD τ).loc main_arg0)) from V_main_arg0 m c]
  blk_ext [idx t]

/-- A block of the keys' and values' input. -/
theorem blk_ckv (c : Dev nD) (t : Fin cfg0.N) (a : Fin 512) (k : Fin 256) :
    (iblk m c 1 t (ix2 a k) : EReal) = hcol (m ((c.tc : Thread nD τ).loc main_arg0)) ((grid0.coords t 0).val * 512 + a.val) (3584 + k.val) := by
  have hb := bounds t
  rw [hcol, dif_pos ⟨by omega, by omega⟩]
  unfold iblk
  rw [show V m c (arrRef spec0 1) = (m ((c.tc : Thread nD τ).loc main_arg0)) from V_main_arg0 m c]
  blk_ext [idx t]

/-- A block of the keys' positional input. -/
theorem blk_kr (c : Dev nD) (t : Fin cfg0.N) (a : Fin 512) (k : Fin 128) :
    (iblk m c 2 t (ix2 a k) : EReal) = hcol (m ((c.tc : Thread nD τ).loc main_arg0)) ((grid0.coords t 0).val * 512 + a.val) (3840 + k.val) := by
  have hb := bounds t
  rw [hcol, dif_pos ⟨by omega, by omega⟩]
  unfold iblk
  rw [show V m c (arrRef spec0 2) = (m ((c.tc : Thread nD τ).loc main_arg0)) from V_main_arg0 m c]
  blk_ext [idx t]

/-- The queries' gain. -/
theorem blk_gq (c : Dev nD) (t : Fin cfg0.N) (k : Fin 512) :
    (iblk m c 3 t (ix2 0 k) : EReal) = (m ((c.tc : Thread nD τ).loc main_arg1)) (ix1 k) := by
  refine Eq.trans ?_ (V_gq m c k)
  unfold iblk
  rw [show V m c (arrRef spec0 3) = V m c main_v35 from rfl]
  generalize V m c main_v35 = X
  blk_ext [idx t]

/-- The keys' and values' gain. -/
theorem blk_gkv (c : Dev nD) (t : Fin cfg0.N) (k : Fin 256) :
    (iblk m c 4 t (ix2 0 k) : EReal) = (m ((c.tc : Thread nD τ).loc main_arg3)) (ix1 k) := by
  refine Eq.trans ?_ (V_gkv m c k)
  unfold iblk
  rw [show V m c (arrRef spec0 4) = V m c main_v36 from rfl]
  generalize V m c main_v36 = X
  blk_ext [idx t]

/-- The queries' weight. -/
theorem blk_wq (c : Dev nD) (t : Fin cfg0.N) (k : Fin 512) (j : Fin 2048) :
    (iblk m c 5 t (ix2 k j) : EReal) = wq (m ((c.tc : Thread nD τ).loc main_arg2)) k (j.val / 256 * 192 + perm (j.val % 256)) := by
  refine Eq.trans ?_ (V_wq m c k j)
  unfold iblk
  rw [show V m c (arrRef spec0 5) = V m c main_v6 from rfl]
  generalize V m c main_v6 = X
  blk_ext [idx t]

/-- The keys' weight. -/
theorem blk_wk (c : Dev nD) (t : Fin cfg0.N) (k : Fin 256) (j : Fin 1024) :
    (iblk m c 6 t (ix2 k j) : EReal) = wkv (m ((c.tc : Thread nD τ).loc main_arg4)) k (j.val / 128 * 256 + j.val % 128) := by
  refine Eq.trans ?_ (V_wk m c k j)
  unfold iblk
  rw [show V m c (arrRef spec0 6) = V m c main_v10 from rfl]
  generalize V m c main_v10 = X
  blk_ext [idx t]

/-- The values' weight. -/
theorem blk_wv (c : Dev nD) (t : Fin cfg0.N) (j : Fin 1024) (k : Fin 256) :
    (iblk m c 7 t (ix2 j k) : EReal) = wkv (m ((c.tc : Thread nD τ).loc main_arg4)) k (j.val / 128 * 256 + (128 + j.val % 128)) := by
  refine Eq.trans ?_ (V_wv m c j k)
  unfold iblk
  rw [show V m c (arrRef spec0 7) = V m c main_v14 from rfl]
  generalize V m c main_v14 = X
  blk_ext [idx t]

/-- A block of the table of cosines. -/
theorem blk_cos (c : Dev nD) (t : Fin cfg0.N) (a : Fin 512) (u : Fin 128) :
    (iblk m c 8 t (ix2 a u) : EReal) = ctab (((grid0.coords t 0).val * 512 + a.val) % 4096) u.val := by
  have hb := bounds t
  refine Eq.trans ?_ ((V_ctab m c ⟨(grid0.coords t 0).val % 8 * 512 + a.val, by omega⟩ u).trans (congrArg (fun n => ctab n u.val) (by dsimp only; omega)))
  unfold iblk
  rw [show V m c (arrRef spec0 8) = V m c main_v32 from rfl]
  generalize V m c main_v32 = X
  blk_ext [idx t]

/-- A block of the table of sines. -/
theorem blk_sin (c : Dev nD) (t : Fin cfg0.N) (a : Fin 512) (u : Fin 128) :
    (iblk m c 9 t (ix2 a u) : EReal) = stab (((grid0.coords t 0).val * 512 + a.val) % 4096) u.val := by
  have hb := bounds t
  refine Eq.trans ?_ ((V_stab m c ⟨(grid0.coords t 0).val % 8 * 512 + a.val, by omega⟩ u).trans (congrArg (fun n => stab n u.val) (by dsimp only; omega)))
  unfold iblk
  rw [show V m c (arrRef spec0 9) = V m c main_v34 from rfl]
  generalize V m c main_v34 = X
  blk_ext [idx t]

/-- The root-mean-square norm of the queries' input, as the kernel computes it. -/
theorem norm_q (v4 : S512x512.Idx → EReal) (v6 : S1x512.Idx → EReal) (a k : Fin 512) :
    (k0_pay4 (F := Ideal) v4 v6 (ix2 a k) : EReal)
      = rms (Ideal.ofBits FTy.f32 0x44000000#32) (fun k => v4 (ix2 a k)) (v6 (ix2 0 k)) k := by
  unfold rms
  pointwise [k0_pay4]

/-- The root-mean-square norm of the keys' and values' input, as the kernel computes it. -/
theorem norm_kv (v21 : S512x256.Idx → EReal) (v23 : S1x256.Idx → EReal) (a : Fin 512) (k : Fin 256) :
    (k0_pay5 (F := Ideal) v21 v23 (ix2 a k) : EReal)
      = rms (Ideal.ofBits FTy.f32 0x43800000#32) (fun k => v21 (ix2 a k)) (v23 (ix2 0 k)) k := by
  unfold rms
  pointwise [k0_pay5]

/-- The queries' normalised input. -/
theorem cq_at (c : Dev nD) (t : Fin cfg0.N) (a k : Fin 512) :
    (k0_pay37 (iblk m c 0 t) (iblk m c 1 t) (iblk m c 2 t) (iblk m c 3 t) (iblk m c 4 t) (iblk m c 5 t) (iblk m c 6 t) (iblk m c 7 t) (iblk m c 8 t) (iblk m c 9 t) (ix2 a k) : EReal) = cq (m ((c.tc : Thread nD τ).loc main_arg0)) (m ((c.tc : Thread nD τ).loc main_arg1)) ((grid0.coords t 0).val * 512 + a.val) k := by
  unfold k0_pay37
  rw [View.ld_unit_lit _ _ (by decide), View.ld_unit_lit _ _ (by decide), norm_q, cq, blk_gq m c t k, funext fun k => blk_cq m c t a k]

/-- The keys' and values' normalised input. -/
theorem ckv_at (c : Dev nD) (t : Fin cfg0.N) (a : Fin 512) (k : Fin 256) :
    (k0_pay38 (iblk m c 0 t) (iblk m c 1 t) (iblk m c 2 t) (iblk m c 3 t) (iblk m c 4 t) (iblk m c 5 t) (iblk m c 6 t) (iblk m c 7 t) (iblk m c 8 t) (iblk m c 9 t) (ix2 a k) : EReal) = ckv (m ((c.tc : Thread nD τ).loc main_arg0)) (m ((c.tc : Thread nD τ).loc main_arg3)) ((grid0.coords t 0).val * 512 + a.val) k := by
  unfold k0_pay38
  rw [View.ld_unit_lit _ _ (by decide), View.ld_unit_lit _ _ (by decide), norm_kv, ckv, blk_gkv m c t k, funext fun k => blk_ckv m c t a k]

/-- The scaled queries. -/
theorem q_at (c : Dev nD) (t : Fin cfg0.N) (a : Fin 512) (j : Fin 2048) :
    (k0_pay39 (iblk m c 0 t) (iblk m c 1 t) (iblk m c 2 t) (iblk m c 3 t) (iblk m c 4 t) (iblk m c 5 t) (iblk m c 6 t) (iblk m c 7 t) (iblk m c 8 t) (iblk m c 9 t) (ix2 a j) : EReal)
      = qn (m ((c.tc : Thread nD τ).loc main_arg0)) (m ((c.tc : Thread nD τ).loc main_arg1)) (m ((c.tc : Thread nD τ).loc main_arg2)) ((grid0.coords t 0).val * 512 + a.val) (j.val / 256 * 192 + perm (j.val % 256)) := by
  unfold k0_pay39 qn
  have h := fun k => cq_at m c t a k
  generalize k0_pay37 (iblk m c 0 t) (iblk m c 1 t) (iblk m c 2 t) (iblk m c 3 t) (iblk m c 4 t) (iblk m c 5 t) (iblk m c 6 t) (iblk m c 7 t) (iblk m c 8 t) (iblk m c 9 t) = P at h ⊢
  rw [View.ld_unit_lit _ _ (by decide)]
  have h5 := fun k => blk_wq m c t k j
  generalize iblk m c 5 t = W at h5 ⊢
  pointwise [k0_pay6]
  exact congrArg (· * _) (Finset.sum_congr rfl fun k _ => congrArg₂ (· * ·) (h k) (h5 k))

/-- The keys. -/
theorem k_at (c : Dev nD) (t : Fin cfg0.N) (a : Fin 512) (j : Fin 1024) :
    (k0_pay40 (iblk m c 0 t) (iblk m c 1 t) (iblk m c 2 t) (iblk m c 3 t) (iblk m c 4 t) (iblk m c 5 t) (iblk m c 6 t) (iblk m c 7 t) (iblk m c 8 t) (iblk m c 9 t) (ix2 a j) : EReal)
      = kvn (m ((c.tc : Thread nD τ).loc main_arg0)) (m ((c.tc : Thread nD τ).loc main_arg3)) (m ((c.tc : Thread nD τ).loc main_arg4)) ((grid0.coords t 0).val * 512 + a.val) (j.val / 128 * 256 + j.val % 128) := by
  unfold k0_pay40 kvn
  have h := fun k => ckv_at m c t a k
  generalize k0_pay38 (iblk m c 0 t) (iblk m c 1 t) (iblk m c 2 t) (iblk m c 3 t) (iblk m c 4 t) (iblk m c 5 t) (iblk m c 6 t) (iblk m c 7 t) (iblk m c 8 t) (iblk m c 9 t) = P at h ⊢
  rw [View.ld_unit_lit _ _ (by decide)]
  have h6 := fun k => blk_wk m c t k j
  generalize iblk m c 6 t = W at h6 ⊢
  pointwise [k0_pay7]
  exact Finset.sum_congr rfl fun k _ => congrArg₂ (· * ·) (h k) (h6 k)

/-- The table of cosines as the body holds it. -/
theorem cos_at (c : Dev nD) (t : Fin cfg0.N) (a : Fin 512) (u : Fin 128) :
    (k0_pay35 (iblk m c 0 t) (iblk m c 1 t) (iblk m c 2 t) (iblk m c 3 t) (iblk m c 4 t) (iblk m c 5 t) (iblk m c 6 t) (iblk m c 7 t) (iblk m c 8 t) (iblk m c 9 t) (ix2 a u) : EReal) = ctab (((grid0.coords t 0).val * 512 + a.val) % 4096) u.val := by
  unfold k0_pay35
  rw [View.ld_unit_lit _ _ (by decide)]
  refine Eq.trans ?_ (blk_cos m c t a u)
  generalize iblk m c 8 t = X
  pointwise [k0_pay2]

/-- The table of sines as the body holds it. -/
theorem sin_at (c : Dev nD) (t : Fin cfg0.N) (a : Fin 512) (u : Fin 128) :
    (k0_pay36 (iblk m c 0 t) (iblk m c 1 t) (iblk m c 2 t) (iblk m c 3 t) (iblk m c 4 t) (iblk m c 5 t) (iblk m c 6 t) (iblk m c 7 t) (iblk m c 8 t) (iblk m c 9 t) (ix2 a u) : EReal) = stab (((grid0.coords t 0).val * 512 + a.val) % 4096) u.val := by
  unfold k0_pay36
  rw [View.ld_unit_lit _ _ (by decide)]
  refine Eq.trans ?_ (blk_sin m c t a u)
  generalize iblk m c 9 t = X
  pointwise [k0_pay3]

/-- The rotation by the padded tables: lanes 0 to 31 and 32 to 63 hold the rotated pairs, the others zero. -/
theorem rotation (x y : EReal) (s u : ℕ) : x * ctab s u + y * stab s u =
    if u < 32 then x * co s u - y * si s u else if u < 64 then x * co s (u - 32) + y * si s (u - 32) else 0 := by
  unfold ctab stab
  split_ifs
  · rw [mul_neg, ← sub_eq_add_neg]
  · rfl
  · rw [mul_zero, mul_zero, add_zero]

/-- The lanes of a query that are not rotated. -/
theorem q_lo (c : Dev nD) (t : Fin cfg0.N) (Q : S512x2048.Idx → EReal) (hQ : Q = k0_pay39 (iblk m c 0 t) (iblk m c 1 t) (iblk m c 2 t) (iblk m c 3 t) (iblk m c 4 t) (iblk m c 5 t) (iblk m c 6 t) (iblk m c 7 t) (iblk m c 8 t) (iblk m c 9 t))
    (a : Fin 512) (q : Fin 2048) (n : ℕ) (hn : n = q.val) (hq : q.val % 256 < 128) :
    Q (ix2 a q) = qout (m ((c.tc : Thread nD τ).loc main_arg0)) (m ((c.tc : Thread nD τ).loc main_arg1)) (m ((c.tc : Thread nD τ).loc main_arg2)) ((grid0.coords t 0).val * 512 + a.val) (n / 256) (n % 256) := by
  subst hn
  refine ((congrFun hQ (ix2 a q)).trans (q_at m c t a q)).trans ?_
  unfold qout perm
  rw [if_pos hq, if_pos (by omega)]

/-- The lanes of a query that are rotated. -/
theorem q_hi (c : Dev nD) (t : Fin cfg0.N) (C D : S512x128.Idx → EReal) (Q : S512x2048.Idx → EReal)
    (hC : C = k0_pay35 (iblk m c 0 t) (iblk m c 1 t) (iblk m c 2 t) (iblk m c 3 t) (iblk m c 4 t) (iblk m c 5 t) (iblk m c 6 t) (iblk m c 7 t) (iblk m c 8 t) (iblk m c 9 t)) (hD : D = k0_pay36 (iblk m c 0 t) (iblk m c 1 t) (iblk m c 2 t) (iblk m c 3 t) (iblk m c 4 t) (iblk m c 5 t) (iblk m c 6 t) (iblk m c 7 t) (iblk m c 8 t) (iblk m c 9 t)) (hQ : Q = k0_pay39 (iblk m c 0 t) (iblk m c 1 t) (iblk m c 2 t) (iblk m c 3 t) (iblk m c 4 t) (iblk m c 5 t) (iblk m c 6 t) (iblk m c 7 t) (iblk m c 8 t) (iblk m c 9 t))
    (a : Fin 512) (u : Fin 128) (q q' : Fin 2048) (n : ℕ) (hn : n = q.val) (hq : q.val % 256 = 128 + u.val)
    (hq' : q'.val = q.val - u.val + (u.val + 64) % 128) :
    Q (ix2 a q) * C (ix2 a u) + Q (ix2 a q') * D (ix2 a u)
      = qout (m ((c.tc : Thread nD τ).loc main_arg0)) (m ((c.tc : Thread nD τ).loc main_arg1)) (m ((c.tc : Thread nD τ).loc main_arg2)) ((grid0.coords t 0).val * 512 + a.val) (n / 256) (n % 256) := by
  subst hn
  have p1 := (congrFun hQ (ix2 a q)).trans (q_at m c t a q)
  have p2 := (congrFun hQ (ix2 a q')).trans (q_at m c t a q')
  have p3 := (congrFun hC (ix2 a u)).trans (cos_at m c t a u)
  have p4 := (congrFun hD (ix2 a u)).trans (sin_at m c t a u)
  rw [p1, p2, p3, p4, rotation]
  unfold qout
  rw [if_neg (show ¬q.val % 256 < 128 by omega)]
  by_cases h1 : u.val < 32
  · rw [if_pos h1, if_pos (show q.val % 256 < 160 by omega), show q.val % 256 - 128 = u.val by omega,
      show q.val / 256 * 192 + perm (q.val % 256) = q.val / 256 * 192 + q.val % 256 by (rw [perm, if_pos (by omega)]),
      show q'.val / 256 * 192 + perm (q'.val % 256) = q.val / 256 * 192 + q.val % 256 + 32 by
        (rw [perm, if_neg (by omega), if_pos (by omega)]; omega)]
  rw [if_neg h1, if_neg (show ¬q.val % 256 < 160 by omega)]
  by_cases h2 : u.val < 64
  · rw [if_pos h2, if_pos (show q.val % 256 < 192 by omega), show q.val % 256 - 160 = u.val - 32 by omega,
      show q.val / 256 * 192 + perm (q.val % 256) = q.val / 256 * 192 + q.val % 256 by (rw [perm, if_pos (by omega)]),
      show q'.val / 256 * 192 + perm (q'.val % 256) = q.val / 256 * 192 + q.val % 256 - 32 by
        (rw [perm, if_neg (by omega), if_neg (by omega)]; omega)]
  · rw [if_neg h2, if_neg (show ¬q.val % 256 < 192 by omega)]

/-- The lanes of a key that come from the latent. -/
theorem k_lo (c : Dev nD) (t : Fin cfg0.N) (K : S512x1024.Idx → EReal) (hK : K = k0_pay40 (iblk m c 0 t) (iblk m c 1 t) (iblk m c 2 t) (iblk m c 3 t) (iblk m c 4 t) (iblk m c 5 t) (iblk m c 6 t) (iblk m c 7 t) (iblk m c 8 t) (iblk m c 9 t))
    (a : Fin 512) (q : Fin 1024) (u : Fin 128) (n : ℕ) (hn : n = q.val / 128 * 256 + u.val) (hq : q.val % 128 = u.val) :
    K (ix2 a q) = kout (m ((c.tc : Thread nD τ).loc main_arg0)) (m ((c.tc : Thread nD τ).loc main_arg3)) (m ((c.tc : Thread nD τ).loc main_arg4)) ((grid0.coords t 0).val * 512 + a.val) (n / 256) (n % 256) := by
  refine ((congrFun hK (ix2 a q)).trans (k_at m c t a q)).trans ?_
  unfold kout
  rw [if_pos (by omega), show q.val / 128 * 256 + q.val % 128 = n / 256 * 256 + n % 256 by omega]

/-- The rotation of the keys' positional lanes, as the kernel computes it. -/
theorem key_rotation (C D X : S512x128.Idx → EReal) (a : Fin 512) (u u' : Fin 128) (hu : u'.val = (u.val + 64) % 128) :
    (k0_pay9 (F := Ideal) C D X (ix2 a u) : EReal) = X (ix2 a u) * C (ix2 a u) + X (ix2 a u') * D (ix2 a u) := by
  rw [show u' = ⟨(u.val + 128 - 64) % 128, by omega⟩ from Fin.ext (by dsimp only; omega)]
  pointwise [k0_pay9]

/-- The lanes of a key that carry positions. -/
theorem k_hi (c : Dev nD) (t : Fin cfg0.N) (a : Fin 512) (u : Fin 128) (n : ℕ) (hn : n % 256 = 128 + u.val) :
    (k0_pay41 (iblk m c 0 t) (iblk m c 1 t) (iblk m c 2 t) (iblk m c 3 t) (iblk m c 4 t) (iblk m c 5 t) (iblk m c 6 t) (iblk m c 7 t) (iblk m c 8 t) (iblk m c 9 t) (ix2 a u) : EReal) = kout (m ((c.tc : Thread nD τ).loc main_arg0)) (m ((c.tc : Thread nD τ).loc main_arg3)) (m ((c.tc : Thread nD τ).loc main_arg4)) ((grid0.coords t 0).val * 512 + a.val) (n / 256) (n % 256) := by
  unfold k0_pay41
  rw [View.ld_unit_lit _ _ (by decide)]
  have p1 := blk_kr m c t a u
  have p2 := blk_kr m c t a ⟨(u.val + 64) % 128, by omega⟩
  have p3 := cos_at m c t a u
  have p4 := sin_at m c t a u
  generalize k0_pay35 (iblk m c 0 t) (iblk m c 1 t) (iblk m c 2 t) (iblk m c 3 t) (iblk m c 4 t) (iblk m c 5 t) (iblk m c 6 t) (iblk m c 7 t) (iblk m c 8 t) (iblk m c 9 t) = C at p3 ⊢
  generalize k0_pay36 (iblk m c 0 t) (iblk m c 1 t) (iblk m c 2 t) (iblk m c 3 t) (iblk m c 4 t) (iblk m c 5 t) (iblk m c 6 t) (iblk m c 7 t) (iblk m c 8 t) (iblk m c 9 t) = D at p4 ⊢
  generalize iblk m c 2 t = X at p1 p2 ⊢
  refine (key_rotation C D X a u ⟨(u.val + 64) % 128, by omega⟩ rfl).trans ?_
  rw [p1, p2, p3, p4, rotation]
  unfold kout
  dsimp only
  rw [if_neg (show ¬n % 256 < 128 by omega)]
  by_cases h1 : u.val < 32
  · rw [if_pos h1, if_pos (show n % 256 < 160 by omega), show n % 256 - 128 = u.val by omega, show (u.val + 64) % 128 = n % 256 - 64 by omega]
  rw [if_neg h1, if_neg (show ¬n % 256 < 160 by omega)]
  by_cases h2 : u.val < 64
  · rw [if_pos h2, if_pos (show n % 256 < 192 by omega), show n % 256 - 160 = u.val - 32 by omega, show n % 256 - 128 = u.val by omega,
      show (u.val + 64) % 128 = n % 256 - 64 by omega]
  · rw [if_neg h2, if_neg (show ¬n % 256 < 192 by omega)]

/-- The product of the values, as the kernel computes it. -/
theorem value_product (P : S512x256.Idx → EReal) (W : S1024x256.Idx → EReal) (j : Fin 1024) (a : Fin 512) :
    (k0_pay8 (F := Ideal) P W (ix2 j a) : EReal) = ∑ k, P (ix2 a k) * W (ix2 j k) := by
  generalize hO : (∑ k, P (ix2 a k) * W (ix2 j k) : EReal) = O
  pointwise [k0_pay8]
  subst hO
  exact Finset.sum_congr rfl fun k _ => mul_comm _ _

/-- The values, transposed. -/
theorem v_at (c : Dev nD) (t : Fin cfg0.N) (j : Fin 1024) (a : Fin 512) :
    (k0_pay8 (k0_pay38 (iblk m c 0 t) (iblk m c 1 t) (iblk m c 2 t) (iblk m c 3 t) (iblk m c 4 t) (iblk m c 5 t) (iblk m c 6 t) (iblk m c 7 t) (iblk m c 8 t) (iblk m c 9 t)) (iblk m c 7 t) (ix2 j a) : EReal)
      = kvn (m ((c.tc : Thread nD τ).loc main_arg0)) (m ((c.tc : Thread nD τ).loc main_arg3)) (m ((c.tc : Thread nD τ).loc main_arg4)) ((grid0.coords t 0).val * 512 + a.val) (j.val / 128 * 256 + (128 + j.val % 128)) := by
  refine (value_product _ _ j a).trans (Finset.sum_congr rfl fun k _ => congrArg₂ (· * ·) (ckv_at m c t a k) (blk_wv m c t j k))

set_option maxHeartbeats 2000000 in
/-- The queries after the run are the reference's. -/
theorem final10 (c : Dev nD) :
    (dats m 0 c).arrAt 10 (cfgs 0).N = Cert.Reference6Ideal.Read.val_main_v107 (F := Ideal) (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  blk_simp
  rw [after0_10]
  have e0 : (((cfg0.win 10).blk t).view.emb y 0 : ℕ) = (grid0.coords t 0).val * 512 + (y 0 : ℕ) := by
    blk_simp [idx t]
  have e1 : (((cfg0.win 10).blk t).view.emb y 1 : ℕ) = (y 1 : ℕ) := by
    blk_simp [idx t]
  refine Eq.trans ?_ (ref_query _ _ _ ((win0_10.blk t).view.emb y) _ _ e0 e1).symm
  unfold out0_10
  canon_tiles x h
  · rw [show (y 0 : ℕ) = x 0 from h0, show (y 1 : ℕ) = 1920 + x 1 from h1]
    idx_vars x
    pointwise [k0_pay33]
    exact q_hi m c t _ _ _ rfl rfl rfl x0 x1 ⟨1920 + x1, by omega⟩ _ _ rfl (by dsimp only; omega) (by dsimp only; omega)
  · rw [show (y 0 : ℕ) = x 0 from h0, show (y 1 : ℕ) = 1792 + x 1 from h1]
    idx_vars x
    pointwise [k0_pay32]
    exact q_lo m c t _ rfl x0 ⟨1792 + x1, by omega⟩ _ rfl (by dsimp only; omega)
  · rw [show (y 0 : ℕ) = x 0 from h0, show (y 1 : ℕ) = 1664 + x 1 from h1]
    idx_vars x
    pointwise [k0_pay30]
    exact q_hi m c t _ _ _ rfl rfl rfl x0 x1 ⟨1664 + x1, by omega⟩ _ _ rfl (by dsimp only; omega) (by dsimp only; omega)
  · rw [show (y 0 : ℕ) = x 0 from h0, show (y 1 : ℕ) = 1536 + x 1 from h1]
    idx_vars x
    pointwise [k0_pay29]
    exact q_lo m c t _ rfl x0 ⟨1536 + x1, by omega⟩ _ rfl (by dsimp only; omega)
  · rw [show (y 0 : ℕ) = x 0 from h0, show (y 1 : ℕ) = 1408 + x 1 from h1]
    idx_vars x
    pointwise [k0_pay27, k0_pay26]
    exact q_hi m c t _ _ _ rfl rfl rfl x0 x1 ⟨1408 + x1, by omega⟩ _ _ rfl (by dsimp only; omega) (by dsimp only; omega)
  · rw [show (y 0 : ℕ) = x 0 from h0, show (y 1 : ℕ) = 1280 + x 1 from h1]
    idx_vars x
    pointwise [k0_pay25]
    exact q_lo m c t _ rfl x0 ⟨1280 + x1, by omega⟩ _ rfl (by dsimp only; omega)
  · rw [show (y 0 : ℕ) = x 0 from h0, show (y 1 : ℕ) = 1152 + x 1 from h1]
    idx_vars x
    pointwise [k0_pay23]
    exact q_hi m c t _ _ _ rfl rfl rfl x0 x1 ⟨1152 + x1, by omega⟩ _ _ rfl (by dsimp only; omega) (by dsimp only; omega)
  · rw [show (y 0 : ℕ) = x 0 from h0, show (y 1 : ℕ) = 1024 + x 1 from h1]
    idx_vars x
    pointwise [k0_pay22]
    exact q_lo m c t _ rfl x0 ⟨1024 + x1, by omega⟩ _ rfl (by dsimp only; omega)
  · rw [show (y 0 : ℕ) = x 0 from h0, show (y 1 : ℕ) = 896 + x 1 from h1]
    idx_vars x
    pointwise [k0_pay20]
    exact q_hi m c t _ _ _ rfl rfl rfl x0 x1 ⟨896 + x1, by omega⟩ _ _ rfl (by dsimp only; omega) (by dsimp only; omega)
  · rw [show (y 0 : ℕ) = x 0 from h0, show (y 1 : ℕ) = 768 + x 1 from h1]
    idx_vars x
    pointwise [k0_pay19]
    exact q_lo m c t _ rfl x0 ⟨768 + x1, by omega⟩ _ rfl (by dsimp only; omega)
  · rw [show (y 0 : ℕ) = x 0 from h0, show (y 1 : ℕ) = 640 + x 1 from h1]
    idx_vars x
    pointwise [k0_pay17]
    exact q_hi m c t _ _ _ rfl rfl rfl x0 x1 ⟨640 + x1, by omega⟩ _ _ rfl (by dsimp only; omega) (by dsimp only; omega)
  · rw [show (y 0 : ℕ) = x 0 from h0, show (y 1 : ℕ) = 512 + x 1 from h1]
    idx_vars x
    pointwise [k0_pay16]
    exact q_lo m c t _ rfl x0 ⟨512 + x1, by omega⟩ _ rfl (by dsimp only; omega)
  · rw [show (y 0 : ℕ) = x 0 from h0, show (y 1 : ℕ) = 384 + x 1 from h1]
    idx_vars x
    pointwise [k0_pay14]
    exact q_hi m c t _ _ _ rfl rfl rfl x0 x1 ⟨384 + x1, by omega⟩ _ _ rfl (by dsimp only; omega) (by dsimp only; omega)
  · rw [show (y 0 : ℕ) = x 0 from h0, show (y 1 : ℕ) = 256 + x 1 from h1]
    idx_vars x
    pointwise [k0_pay13]
    exact q_lo m c t _ rfl x0 ⟨256 + x1, by omega⟩ _ rfl (by dsimp only; omega)
  · rw [show (y 0 : ℕ) = x 0 from h0, show (y 1 : ℕ) = 128 + x 1 from h1]
    idx_vars x
    pointwise [k0_pay11]
    exact q_hi m c t _ _ _ rfl rfl rfl x0 x1 ⟨128 + x1, by omega⟩ _ _ rfl (by dsimp only; omega) (by dsimp only; omega)
  · rw [show (y 0 : ℕ) = x 0 from h0, show (y 1 : ℕ) = x 1 from h1]
    idx_vars x
    pointwise [k0_pay10]
    exact q_lo m c t _ rfl x0 ⟨x1, by omega⟩ _ rfl (by dsimp only; omega)

set_option maxHeartbeats 2000000 in
/-- The keys after the run are the reference's. -/
theorem final11 (c : Dev nD) :
    (dats m 0 c).arrAt 11 (cfgs 0).N = Cert.Reference6Ideal.Read.val_main_v109 (F := Ideal) (m ((c.tc : Thread nD τ).loc main_arg0)) (m ((c.tc : Thread nD τ).loc main_arg3)) (m ((c.tc : Thread nD τ).loc main_arg4)) := by
  refine (dats m 0 c).arrAt_eq_of_covers 11 _ (by decide +kernel) fun t _ y => ?_
  blk_simp
  rw [after0_11]
  have e0 : (((cfg0.win 11).blk t).view.emb y 0 : ℕ) = (grid0.coords t 0).val * 512 + (y 0 : ℕ) := by
    blk_simp [idx t]
  have e1 : (((cfg0.win 11).blk t).view.emb y 1 : ℕ) = (y 1 : ℕ) := by
    blk_simp [idx t]
  refine Eq.trans ?_ (ref_key _ _ _ ((win0_11.blk t).view.emb y) _ _ e0 e1).symm
  unfold out0_11
  canon_tiles x h
  · rw [show (y 0 : ℕ) = x 0 from h0, show (y 1 : ℕ) = 1920 + x 1 from h1]
    idx_vars x
    exact k_hi m c t x0 x1 (1920 + x1.val) (by omega)
  · rw [show (y 0 : ℕ) = x 0 from h0, show (y 1 : ℕ) = 1792 + x 1 from h1]
    idx_vars x
    pointwise [k0_pay1, k0_pay34]
    exact k_lo m c t _ rfl x0 ⟨896 + x1, by omega⟩ x1 _ (by dsimp only; omega) (by dsimp only; omega)
  · rw [show (y 0 : ℕ) = x 0 from h0, show (y 1 : ℕ) = 1664 + x 1 from h1]
    idx_vars x
    exact k_hi m c t x0 x1 (1664 + x1.val) (by omega)
  · rw [show (y 0 : ℕ) = x 0 from h0, show (y 1 : ℕ) = 1536 + x 1 from h1]
    idx_vars x
    pointwise [k0_pay31]
    exact k_lo m c t _ rfl x0 ⟨768 + x1, by omega⟩ x1 _ (by dsimp only; omega) (by dsimp only; omega)
  · rw [show (y 0 : ℕ) = x 0 from h0, show (y 1 : ℕ) = 1408 + x 1 from h1]
    idx_vars x
    exact k_hi m c t x0 x1 (1408 + x1.val) (by omega)
  · rw [show (y 0 : ℕ) = x 0 from h0, show (y 1 : ℕ) = 1280 + x 1 from h1]
    idx_vars x
    pointwise [k0_pay28]
    exact k_lo m c t _ rfl x0 ⟨640 + x1, by omega⟩ x1 _ (by dsimp only; omega) (by dsimp only; omega)
  · rw [show (y 0 : ℕ) = x 0 from h0, show (y 1 : ℕ) = 1152 + x 1 from h1]
    idx_vars x
    exact k_hi m c t x0 x1 (1152 + x1.val) (by omega)
  · rw [show (y 0 : ℕ) = x 0 from h0, show (y 1 : ℕ) = 1024 + x 1 from h1]
    idx_vars x
    pointwise [k0_pay24]
    exact k_lo m c t _ rfl x0 ⟨512 + x1, by omega⟩ x1 _ (by dsimp only; omega) (by dsimp only; omega)
  · rw [show (y 0 : ℕ) = x 0 from h0, show (y 1 : ℕ) = 896 + x 1 from h1]
    idx_vars x
    exact k_hi m c t x0 x1 (896 + x1.val) (by omega)
  · rw [show (y 0 : ℕ) = x 0 from h0, show (y 1 : ℕ) = 768 + x 1 from h1]
    idx_vars x
    pointwise [k0_pay21]
    exact k_lo m c t _ rfl x0 ⟨384 + x1, by omega⟩ x1 _ (by dsimp only; omega) (by dsimp only; omega)
  · rw [show (y 0 : ℕ) = x 0 from h0, show (y 1 : ℕ) = 640 + x 1 from h1]
    idx_vars x
    exact k_hi m c t x0 x1 (640 + x1.val) (by omega)
  · rw [show (y 0 : ℕ) = x 0 from h0, show (y 1 : ℕ) = 512 + x 1 from h1]
    idx_vars x
    pointwise [k0_pay18]
    exact k_lo m c t _ rfl x0 ⟨256 + x1, by omega⟩ x1 _ (by dsimp only; omega) (by dsimp only; omega)
  · rw [show (y 0 : ℕ) = x 0 from h0, show (y 1 : ℕ) = 384 + x 1 from h1]
    idx_vars x
    exact k_hi m c t x0 x1 (384 + x1.val) (by omega)
  · rw [show (y 0 : ℕ) = x 0 from h0, show (y 1 : ℕ) = 256 + x 1 from h1]
    idx_vars x
    pointwise [k0_pay15]
    exact k_lo m c t _ rfl x0 ⟨128 + x1, by omega⟩ x1 _ (by dsimp only; omega) (by dsimp only; omega)
  · rw [show (y 0 : ℕ) = x 0 from h0, show (y 1 : ℕ) = 128 + x 1 from h1]
    idx_vars x
    exact k_hi m c t x0 x1 (128 + x1.val) (by omega)
  · rw [show (y 0 : ℕ) = x 0 from h0, show (y 1 : ℕ) = x 1 from h1]
    idx_vars x
    pointwise [k0_pay12]
    exact k_lo m c t _ rfl x0 ⟨x1, by omega⟩ x1 _ (by dsimp only; omega) (by dsimp only; omega)

set_option maxHeartbeats 2000000 in
/-- The values after the run are the reference's. -/
theorem final12 (c : Dev nD) :
    (dats m 0 c).arrAt 12 (cfgs 0).N = Cert.Reference6Ideal.Read.val_main_v110 (F := Ideal) (m ((c.tc : Thread nD τ).loc main_arg0)) (m ((c.tc : Thread nD τ).loc main_arg3)) (m ((c.tc : Thread nD τ).loc main_arg4)) := by
  refine (dats m 0 c).arrAt_eq_of_covers 12 _ (by decide +kernel) fun t _ y => ?_
  blk_simp
  rw [after0_12]
  have e0 : (((cfg0.win 12).blk t).view.emb y 0 : ℕ) = (y 0 : ℕ) := by
    blk_simp [idx t]
  have e1 : (((cfg0.win 12).blk t).view.emb y 1 : ℕ) = (grid0.coords t 0).val * 512 + (y 1 : ℕ) := by
    blk_simp [idx t]
  refine Eq.trans ?_ (ref_value _ _ _ ((win0_12.blk t).view.emb y) _ _ e0 e1).symm
  unfold out0_12
  rw [View.canon_cons_unit_lit _ _ _ (by decide), View.ld_unit_lit _ _ (by decide)]
  idx_vars y
  exact v_at m c t y0 y1

end Cert.Kernel6Ideal.Prep

end
-- ==== Proof.lean ====
/- The proof of the certificate's claim: the frames of the programs, the one renamed constant, and the equality of each
   kernel's and its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Attention
public import proofs.«01_k».proof.Proof.CastAttention
public import proofs.«01_k».proof.Proof.CastRotary
public import proofs.«01_k».proof.Proof.CastIn
public import proofs.«01_k».proof.Proof.Rotary
public import proofs.«01_k».proof.Proof.Projection
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.BodyKernel4
public import proofs.«01_k».proof.Proof.OddNorm
public import proofs.«01_k».proof.Proof.BodyKernel5
public import proofs.«01_k».proof.Proof.EvenNorm
public import proofs.«01_k».proof.Proof.Prep
public import Idealize.ShloMosaic.Lib.Bf16PairInverse
public import Idealize.ShloMosaic.Lib.Quiescent

@[expose] public section

noncomputable section

namespace Cert.Proof

open Idealize.ShloMosaic Idealize.SL.Sem Cert.Kernel

/-- The attention and the casts beside it: the kernel's and the reference's results are equal where queries and keys are
    finite. -/
theorem attention : Cert.algebraic_KernelIdeal_ReferenceIdeal_pre_finite (hKernelIdeal := Cert.KernelIdeal.Gen.facts)
    (hReferenceIdeal := Cert.ReferenceIdeal.Gen.facts) (hPre_finite := ⟨by decide, by decide⟩) := by
  intro m g m' g' hpre hag
  refine ⟨fun c => Cert.ReferenceIdeal.Read.val_main_v27 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    fun c => Cert.ReferenceIdeal.Read.val_main_v44 (F := Ideal) (m ((c.tc : Thread Cert.KernelIdeal.nD Cert.KernelIdeal.τ).loc Cert.KernelIdeal.main_arg3)),
    fun c => Cert.ReferenceIdeal.Read.val_main_v45 (F := Ideal) (m ((c.tc : Thread Cert.KernelIdeal.nD Cert.KernelIdeal.τ).loc Cert.KernelIdeal.main_arg4)),
    fun c => Cert.ReferenceIdeal.Read.val_main_v46 (F := Ideal) (m ((c.tc : Thread Cert.KernelIdeal.nD Cert.KernelIdeal.τ).loc Cert.KernelIdeal.main_arg5)),
    fun c => Cert.ReferenceIdeal.Read.val_main_v47 (F := Ideal) (m ((c.tc : Thread Cert.KernelIdeal.nD Cert.KernelIdeal.τ).loc Cert.KernelIdeal.main_arg6)),
    fun c => Cert.ReferenceIdeal.Read.val_main_v48 (F := Ideal) (m ((c.tc : Thread Cert.KernelIdeal.nD Cert.KernelIdeal.τ).loc Cert.KernelIdeal.main_arg7)),
    fun c => Cert.ReferenceIdeal.Read.val_main_v49 (F := Ideal) (m ((c.tc : Thread Cert.KernelIdeal.nD Cert.KernelIdeal.τ).loc Cert.KernelIdeal.main_arg8)),
    fun c => Cert.ReferenceIdeal.Read.val_main_v50 (F := Ideal) (m ((c.tc : Thread Cert.KernelIdeal.nD Cert.KernelIdeal.τ).loc Cert.KernelIdeal.main_arg9)),
    fun c => Cert.ReferenceIdeal.Read.val_main_v51 (F := Ideal) (m ((c.tc : Thread Cert.KernelIdeal.nD Cert.KernelIdeal.τ).loc Cert.KernelIdeal.main_arg8)),
    fun c => Cert.ReferenceIdeal.Read.val_main_v52 (F := Ideal) (m ((c.tc : Thread Cert.KernelIdeal.nD Cert.KernelIdeal.τ).loc Cert.KernelIdeal.main_arg9)),
    ?_, ?_⟩
  · refine (θ_run _ _ _).mono (fun r h c => ?_) (Cert.KernelIdeal.Value.run_blocks (F := Ideal) m g)
    obtain ⟨h0, h1, h2, h3, h4, h5, h6, h7, h8, h9, ha⟩ := h c
    exact ⟨h0.trans (Cert.KernelIdeal.Attention.final m c
      (Cert.KernelIdeal.Attention.allReal_of_test _ _ _ (hpre c).1) (Cert.KernelIdeal.Attention.allReal_of_test _ _ _ (hpre c).2)),
      h1.trans (Cert.KernelIdeal.Casts.final13 m c),
      h2.trans (Cert.KernelIdeal.Casts.final14 m c),
      h3.trans (Cert.KernelIdeal.Casts.final15 m c),
      h4.trans (Cert.KernelIdeal.Casts.final16 m c),
      h5.trans (Cert.KernelIdeal.Casts.final17 m c),
      h6.trans (Cert.KernelIdeal.Casts.final18 m c),
      h7.trans (Cert.KernelIdeal.Casts.final19 m c),
      h8.trans (Cert.KernelIdeal.Casts.final20 m c),
      h9.trans (Cert.KernelIdeal.Casts.final21 m c), ha⟩
  · refine (θ_run _ _ _).mono (fun r h c => ?_) (Cert.ReferenceIdeal.Value.run (F := Ideal) m' g')
    obtain ⟨h0, h1, h2, h3, h4, h5, h6, h7, h8, h9, ha⟩ := h c
    obtain ⟨e0, e1, e2, e3, e4, e5, e6, e7, e8, e9⟩ := hag c
    refine ⟨h0.trans ?_, h1.trans ?_, h2.trans ?_, h3.trans ?_, h4.trans ?_, h5.trans ?_, h6.trans ?_, h7.trans ?_, h8.trans ?_, h9.trans ?_, ha⟩
    · rw [Cert.ReferenceIdeal.Read.val_main_v27_eq, e0, e1, e2]
    · rw [Cert.ReferenceIdeal.Read.val_main_v44_eq, e3]
    · rw [Cert.ReferenceIdeal.Read.val_main_v45_eq, e4]
    · rw [Cert.ReferenceIdeal.Read.val_main_v46_eq, e5]
    · rw [Cert.ReferenceIdeal.Read.val_main_v47_eq, e6]
    · rw [Cert.ReferenceIdeal.Read.val_main_v48_eq, e7]
    · rw [Cert.ReferenceIdeal.Read.val_main_v49_eq, e8]
    · rw [Cert.ReferenceIdeal.Read.val_main_v50_eq, e9]
    · rw [Cert.ReferenceIdeal.Read.val_main_v51_eq, e8]
    · rw [Cert.ReferenceIdeal.Read.val_main_v52_eq, e9]

/-- The retention's input: the kernel's and the reference's results are equal. -/
theorem rotary : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Reference2Ideal.Read.val_main_v69 (F := Ideal) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)),
    fun c => Cert.Reference2Ideal.Read.val_main_v72 (F := Ideal) (m ((c.tc : Thread Cert.Kernel2Ideal.nD Cert.Kernel2Ideal.τ).loc Cert.Kernel2Ideal.main_arg2)),
    fun c => Cert.Reference2Ideal.Read.val_main_v75 (F := Ideal) (m ((c.tc : Thread Cert.Kernel2Ideal.nD Cert.Kernel2Ideal.τ).loc Cert.Kernel2Ideal.main_arg3)),
    fun c => Cert.Reference2Ideal.Read.val_main_v78 (F := Ideal) (m ((c.tc : Thread Cert.Kernel2Ideal.nD Cert.Kernel2Ideal.τ).loc Cert.Kernel2Ideal.main_arg4)),
    ?_, ?_⟩
  · refine (θ_run _ _ _).mono (fun r h c => ?_) (Cert.Kernel2Ideal.Value.run_blocks (F := Ideal) m g)
    obtain ⟨h0, h1, h2, h3, ha⟩ := h c
    exact ⟨h0.trans (Cert.Kernel2Ideal.Rotary.final m c), h1.trans (Cert.Kernel2Ideal.Casts.final8 m c),
      h2.trans (Cert.Kernel2Ideal.Casts.final9 m c), h3.trans (Cert.Kernel2Ideal.Casts.final10 m c), ha⟩
  · refine (θ_run _ _ _).mono (fun r h c => ?_) (Cert.Reference2Ideal.Value.run (F := Ideal) m' g')
    obtain ⟨h0, h1, h2, h3, ha⟩ := h c
    obtain ⟨e0, e1, e2, e3, e4⟩ := hag c
    refine ⟨h0.trans ?_, h1.trans ?_, h2.trans ?_, h3.trans ?_, ha⟩
    · rw [Cert.Reference2Ideal.Read.val_main_v69_eq, e0, e1]
    · rw [Cert.Reference2Ideal.Read.val_main_v72_eq, e2]
    · rw [Cert.Reference2Ideal.Read.val_main_v75_eq, e3]
    · rw [Cert.Reference2Ideal.Read.val_main_v78_eq, e4]

/-- The input projection: the kernel's and the reference's results are equal. -/
theorem projection : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Reference3Ideal.Read.val_main_v5 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)),
    fun c => Cert.Reference3Ideal.Read.val_main_v7 (F := Ideal) (m ((c.tc : Thread Cert.Kernel3Ideal.nD Cert.Kernel3Ideal.τ).loc Cert.Kernel3Ideal.main_arg2)),
    ?_, ?_⟩
  · refine (θ_run _ _ _).mono (fun r h c => ?_) (Cert.Kernel3Ideal.Value.run_blocks (F := Ideal) m g)
    obtain ⟨h0, h1, ha⟩ := h c
    exact ⟨h0.trans (Cert.Kernel3Ideal.Projection.final m c), h1.trans (Cert.Kernel3Ideal.Casts.final m c), ha⟩
  · refine (θ_run _ _ _).mono (fun r h c => ?_) (Cert.Reference3Ideal.Value.run (F := Ideal) m' g')
    obtain ⟨h0, h1, ha⟩ := h c
    obtain ⟨e0, e1, e2⟩ := hag c
    refine ⟨h0.trans ?_, h1.trans ?_, ha⟩
    · rw [Cert.Reference3Ideal.Read.val_main_v5_eq, e0, e1]
    · rw [Cert.Reference3Ideal.Read.val_main_v7_eq, e2]

/-- The end of the retention layer's mixer: the call runs, keeps its arguments and leaves every semaphore at zero. -/
theorem oddFrame : Cert.quiescent_Kernel4 (hKernel4 := Cert.Kernel4.Gen.facts) := fun m ρ _ =>
  θ_run_and (Cert.Kernel4.Gen.frame_of m ρ (Cert.Kernel4.Body.dats m) (Cert.Kernel4.Body.A_eq m) (Cert.Kernel4.Body.run_main m ρ))
    ((θ_run _ _ _).mono (fun _ h => h.2) (Cert.Kernel4.Body.run_quiescent m ρ))

/-- The same of the idealized call. -/
theorem oddFrameIdeal : Cert.quiescent_Kernel4Ideal (hKernel4Ideal := Cert.Kernel4Ideal.Gen.facts) := fun m ρ _ =>
  θ_run_and (Cert.Kernel4Ideal.Gen.frame_of m ρ (Cert.Kernel4Ideal.Body.dats m) (Cert.Kernel4Ideal.Body.A_eq m) (Cert.Kernel4Ideal.Body.run_main m ρ))
    ((θ_run _ _ _).mono (fun _ h => h.2) (Cert.Kernel4Ideal.Body.run_quiescent m ρ))

/-- The rewrites of the packed pairs, each by its rule. -/
theorem oddPreserves : Cert.preserves_Kernel4_Kernel4Ideal :=
  open Cert.Kernel4Ideal IdealRules in
  ⟨bf16_pair.bufferStatement S131072x2x128 S131072x1x128, bf16_pair.bufferStatement S4096x2x128 S4096x1x128,
    bf16_pair.statement S256x2x128 S256x1x128, bf16_pack.statement Cert.Kernel4Ideal.S256x128⟩

/-- The end of the retention layer's mixer: the kernel's and the reference's results are equal. -/
theorem oddNorm : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Reference4Ideal.Read.val_main_v27 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)),
    fun c => Cert.Reference4Ideal.Read.val_main_v28 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · refine (θ_run _ _ _).mono (fun r h c => ?_) (θ_run_and (Cert.Kernel4Ideal.Body.run_main (F := Ideal) m g)
      (Cert.Kernel4Ideal.Gen.frame_of m g (Cert.Kernel4Ideal.Body.dats m) (Cert.Kernel4Ideal.Body.A_eq m) (Cert.Kernel4Ideal.Body.run_main m g)))
    exact ⟨((h.1 c).1 5).trans (Cert.Kernel4Ideal.Norm.final5 m c), ((h.1 c).1 6).trans (Cert.Kernel4Ideal.Norm.final6 m c), h.2 c⟩
  · refine (θ_run _ _ _).mono (fun r h c => ⟨(h c).1.trans ?_, (h c).2.1.trans ?_, (h c).2.2⟩) (Cert.Reference4Ideal.Value.run (F := Ideal) m' g')
    · obtain ⟨e0, e1, e2, e3, e4⟩ := hag c
      rw [Cert.Reference4Ideal.Read.val_main_v27_eq, e0, e1, e2, e3, e4]
    · obtain ⟨e0, e1, e2, e3, e4⟩ := hag c
      rw [Cert.Reference4Ideal.Read.val_main_v28_eq, e0, e1, e2, e3, e4]

/-- The end of the even layer's mixer: the call runs, keeps its arguments and leaves every semaphore at zero. -/
theorem evenFrame : Cert.quiescent_Kernel5 (hKernel5 := Cert.Kernel5.Gen.facts) := fun m ρ _ =>
  θ_run_and (Cert.Kernel5.Gen.frame_of m ρ (Cert.Kernel5.Body.dats m) (Cert.Kernel5.Body.A_eq m) (Cert.Kernel5.Body.run_main m ρ))
    ((θ_run _ _ _).mono (fun _ h => h.2) (Cert.Kernel5.Body.run_quiescent m ρ))

/-- The same of the idealized call. -/
theorem evenFrameIdeal : Cert.quiescent_Kernel5Ideal (hKernel5Ideal := Cert.Kernel5Ideal.Gen.facts) := fun m ρ _ =>
  θ_run_and (Cert.Kernel5Ideal.Gen.frame_of m ρ (Cert.Kernel5Ideal.Body.dats m) (Cert.Kernel5Ideal.Body.A_eq m) (Cert.Kernel5Ideal.Body.run_main m ρ))
    ((θ_run _ _ _).mono (fun _ h => h.2) (Cert.Kernel5Ideal.Body.run_quiescent m ρ))

/-- The rewrites of the packed pairs, each by its rule. -/
theorem evenPreserves : Cert.preserves_Kernel5_Kernel5Ideal :=
  open Cert.Kernel5Ideal IdealRules in
  ⟨bf16_pair.bufferStatement S131072x2x128 S131072x1x128, bf16_pair.bufferStatement S4096x2x128 S4096x1x128,
    bf16_pair.statement S256x2x128 S256x1x128, bf16_pack.statement Cert.Kernel5Ideal.S256x128⟩

/-- The end of the even layer's mixer: the kernel's and the reference's results are equal. -/
theorem evenNorm : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Reference5Ideal.Read.val_main_v28 (F := Ideal) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5)),
    fun c => Cert.Reference5Ideal.Read.val_main_v29 (F := Ideal) (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4))
      (m ((c.tc : Thread Cert.Kernel5Ideal.nD Cert.Kernel5Ideal.τ).loc Cert.Kernel5Ideal.main_arg5)), ?_, ?_⟩
  · refine (θ_run _ _ _).mono (fun r h c => ?_) (θ_run_and (Cert.Kernel5Ideal.Body.run_main (F := Ideal) m g)
      (Cert.Kernel5Ideal.Gen.frame_of m g (Cert.Kernel5Ideal.Body.dats m) (Cert.Kernel5Ideal.Body.A_eq m) (Cert.Kernel5Ideal.Body.run_main m g)))
    exact ⟨((h.1 c).1 7).trans (Cert.Kernel5Ideal.Norm.final7 m c), ((h.1 c).1 8).trans (Cert.Kernel5Ideal.Norm.final8 m c), h.2 c⟩
  · refine (θ_run _ _ _).mono (fun r h c => ⟨(h c).1.trans ?_, (h c).2.1.trans ?_, (h c).2.2⟩) (Cert.Reference5Ideal.Value.run (F := Ideal) m' g')
    · obtain ⟨e0, e1, e2, e3, e4, e5⟩ := hag c
      rw [Cert.Reference5Ideal.Read.val_main_v28_eq, e0, e1, e2, e3, e4, e5]
    · obtain ⟨e0, e1, e2, e3, e4, e5⟩ := hag c
      rw [Cert.Reference5Ideal.Read.val_main_v29_eq, e0, e1, e2, e3, e4, e5]

/-- The preparation of the latent attention: the kernel's and the reference's results are equal. -/
theorem prep : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Reference6Ideal.Read.val_main_v107 (F := Ideal) (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)),
    fun c => Cert.Reference6Ideal.Read.val_main_v109 (F := Ideal) (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)),
    fun c => Cert.Reference6Ideal.Read.val_main_v110 (F := Ideal) (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)), ?_, ?_⟩
  · refine (θ_run _ _ _).mono (fun r h c => ?_) (Cert.Kernel6Ideal.Value.run_blocks (F := Ideal) m g)
    obtain ⟨h0, h1, h2, ha⟩ := h c
    exact ⟨h0.trans (Cert.Kernel6Ideal.Prep.final10 m c), h1.trans (Cert.Kernel6Ideal.Prep.final11 m c), h2.trans (Cert.Kernel6Ideal.Prep.final12 m c), ha⟩
  · refine (θ_run _ _ _).mono (fun r h c => ⟨(h c).1.trans ?_, (h c).2.1.trans ?_, (h c).2.2.1.trans ?_, (h c).2.2.2⟩) (Cert.Reference6Ideal.Value.run (F := Ideal) m' g')
    · obtain ⟨e0, e1, e2, e3, e4⟩ := hag c
      rw [Cert.Reference6Ideal.Read.val_main_v107_eq, e0, e1, e2]
    · obtain ⟨e0, e1, e2, e3, e4⟩ := hag c
      rw [Cert.Reference6Ideal.Read.val_main_v109_eq, e0, e3, e4]
    · obtain ⟨e0, e1, e2, e3, e4⟩ := hag c
      rw [Cert.Reference6Ideal.Read.val_main_v110_eq, e0, e3, e4]

/-- Everything the certificate claims. -/
theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, ⟨by decide, by decide⟩,
    fun m ρ _ => Cert.Kernel.Gen.frame m ρ, fun m ρ _ => Cert.KernelIdeal.Gen.frame m ρ, fun m ρ _ => Cert.KernelIdeal.Gen.frame m ρ, ?_, ?_,
    fun m ρ _ => Cert.Kernel2.Gen.frame m ρ, fun m ρ _ => Cert.Kernel2Ideal.Gen.frame m ρ, ?_,
    fun m ρ _ => Cert.Kernel3.Gen.frame m ρ, fun m ρ _ => Cert.Kernel3Ideal.Gen.frame m ρ, ?_,
    oddFrame, oddFrameIdeal, ?_, evenFrame, evenFrameIdeal, ?_,
    fun m ρ _ => Cert.Kernel6.Gen.frame m ρ, fun m ρ _ => Cert.Kernel6Ideal.Gen.frame m ρ, ?_, ?_, attention, trivial, rotary, trivial, projection,
    oddPreserves, oddNorm, evenPreserves, evenNorm, trivial, prep⟩
  · exact fun m ρ _ => (θ_run _ _ _).mono (fun r h => ⟨fun c => (h c).2.2.2.2.2.2.2.2.2.2, sem_eq_zero_of_no_sems (by decide) r.2⟩)
      (Cert.ReferenceIdeal.Value.run (F := Ideal) m ρ)
  · exact fun m ρ _ => (θ_run _ _ _).mono (fun r h => ⟨fun c => (h c).2.2.2.2.2.2.2.2.2.2, sem_eq_zero_of_no_sems (by decide) r.2⟩)
      (Cert.ReferenceIdeal.Value.run (F := Ideal) m ρ)
  · exact fun m ρ _ => (θ_run _ _ _).mono (fun r h => ⟨fun c => (h c).2.2.2.2, sem_eq_zero_of_no_sems (by decide) r.2⟩)
      (Cert.Reference2Ideal.Value.run (F := Ideal) m ρ)
  · exact fun m ρ _ => (θ_run _ _ _).mono (fun r h => ⟨fun c => (h c).2.2, sem_eq_zero_of_no_sems (by decide) r.2⟩)
      (Cert.Reference3Ideal.Value.run (F := Ideal) m ρ)
  · exact fun m ρ _ => (θ_run _ _ _).mono (fun r h => ⟨fun c => (h c).2.2, sem_eq_zero_of_no_sems (by decide) r.2⟩)
      (Cert.Reference4Ideal.Value.run (F := Ideal) m ρ)
  · exact fun m ρ _ => (θ_run _ _ _).mono (fun r h => ⟨fun c => (h c).2.2, sem_eq_zero_of_no_sems (by decide) r.2⟩)
      (Cert.Reference5Ideal.Value.run (F := Ideal) m ρ)
  · exact fun m ρ _ => (θ_run _ _ _).mono (fun r h => ⟨fun c => (h c).2.2.2, sem_eq_zero_of_no_sems (by decide) r.2⟩)
      (Cert.Reference6Ideal.Value.run (F := Ideal) m ρ)
  · exact IdealRules.named_const.statement Cert.KernelIdeal.κ "mask" .f32 0xF149F2CA#32 ⊥ rfl

end Cert.Proof

end
